-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v70)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v70) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v70)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v70) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_v13) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x18432 : Shape := ⟨2, ![8192, 18432]⟩
abbrev S32x32 : Shape := ⟨2, ![32, 32]⟩
abbrev S64 : Shape := ⟨1, ![64]⟩
abbrev S32 : Shape := ⟨1, ![32]⟩
abbrev S8192x512 : Shape := ⟨2, ![8192, 512]⟩
abbrev S_ : Shape := ⟨0, ![]⟩

class Facts : Prop where
  slices_S8192x18432_S8192x512_0_2048 : S8192x18432.Slices ![0, 2048] S8192x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  let main_v20 : FVec F S32 .f32 := Host.absf main_arg4
  let main_cst_6 : FVec F S_ .f32 := constant S_ .f32 0x7F800000#32
  let main_v21 : FVec F S32 .f32 := broadcastInDim S32 ![] bcast_S_S32 main_cst_6
  let main_v22 : IVec S32 1 := cmpf .olt main_v20 main_v21
  let main_c_7 : IVec S_ 1 := constantI S_ 1 1#1
  let main_v23 : IVec S_ 1 := (fun x v => Host.reduce IntOp.andi x v reducesTo_S32_S_d0 h_S_) main_v22 main_c_7
  let main_v24 : IVec S_ 1 := andi main_v19 main_v23
  main_v24

def fn {F : FTy → Type} [FloatOps F] (main_arg0 : FVec F S8192x18432 .f32) (main_arg1 : FVec F S32x32 .f32) (main_arg2 : FVec F S64 .f32) (main_arg3 : FVec F S64 .f32) (main_arg4 : FVec F S32 .f32) : IVec S_ 1 :=
  let main_v0 : FVec F S8192x512 .f32 := (extractStridedSlice S8192x512 ![0, 2048] · slices_S8192x18432_S8192x512_0_2048) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S32x32 .f32 := Host.absf main_arg1
  let main_cst_0 : FVec F S_ .f32 := constant S_ .f32 0x7F800000#32
  let main_v6 : FVec F S32x32 .f32 := broadcastInDim S32x32 ![] bcast_S_S32x32 main_cst_0
  let main_v7 : IVec S32x32 1 := cmpf .olt main_v5 main_v6
  let main_c_1 : IVec S_ 1 := constantI S_ 1 1#1
  let main_v8 : IVec S_ 1 := (fun x v => Host.reduce IntOp.andi x v reducesTo_S32x32_S_d0_1 h_S_) main_v7 main_c_1
  let main_v9 : IVec S_ 1 := andi main_v4 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S64 .f32 := Host.absf main_arg3
  let main_cst_4 : FVec F S_ .f32 := constant S_ .f32 0x7F800000#32
  let main_v16 : FVec F S64 .f32 := broadcastInDim S64 ![] bcast_S_S64 main_cst_4
  fn_part1 (F := F) main_arg4 main_v14 main_v15 main_v16
-- ==== Kernel.lean ====
abbrev S8192x18432 : Shape := ⟨2, ![8192, 18432]⟩
abbrev S32x32 : Shape := ⟨2, ![32, 32]⟩
abbrev S64 : Shape := ⟨1, ![64]⟩
abbrev S32 : Shape := ⟨1, ![32]⟩
abbrev S128 : Shape := ⟨1, ![128]⟩
abbrev S_ : Shape := ⟨0, ![]⟩
abbrev S128x1 : Shape := ⟨2, ![128, 1]⟩
abbrev S128x32 : Shape := ⟨2, ![128, 32]⟩
abbrev S32x128 : Shape := ⟨2, ![32, 128]⟩
abbrev S32x384 : Shape := ⟨2, ![32, 384]⟩
abbrev S32x512 : Shape := ⟨2, ![32, 512]⟩
abbrev S1x32x1x512 : Shape := ⟨4, ![1, 32, 1, 512]⟩
abbrev S1x32x256x512 : Shape := ⟨4, ![1, 32, 256, 512]⟩
abbrev S32x131072 : Shape := ⟨2, ![32, 131072]⟩
abbrev S32x130816 : Shape := ⟨2, ![32, 130816]⟩
abbrev S32x256x511 : Shape := ⟨3, ![32, 256, 511]⟩
abbrev S32x256x128 : Shape := ⟨3, ![32, 256, 128]⟩
abbrev S256 : Shape := ⟨1, ![256]⟩
abbrev S1x256x1 : Shape := ⟨3, ![1, 256, 1]⟩
abbrev S1x32x256x128 : Shape := ⟨4, ![1, 32, 256, 128]⟩
abbrev S2x32x256x128 : Shape := ⟨4, ![2, 32, 256, 128]⟩
abbrev S1x128 : Shape := ⟨2, ![1, 128]⟩
abbrev S128x128 : Shape := ⟨2, ![128, 128]⟩
abbrev S1x64 : Shape := ⟨2, ![1, 64]⟩
abbrev S2x64 : Shape := ⟨2, ![2, 64]⟩
abbrev S8x64 : Shape := ⟨2, ![8, 64]⟩
abbrev S512 : Shape := ⟨1, ![512]⟩
abbrev S1x512 : Shape := ⟨2, ![1, 512]⟩
abbrev S8192x2048 : Shape := ⟨2, ![8192, 2048]⟩
abbrev S128x2048 : Shape := ⟨2, ![128, 2048]⟩
abbrev S128x512 : Shape := ⟨2, ![128, 512]⟩
abbrev S256x512 : Shape := ⟨2, ![256, 512]⟩
abbrev S64x256 : Shape := ⟨2, ![64, 256]⟩
abbrev S256x128 : Shape := ⟨2, ![256, 128]⟩
abbrev S128x256 : Shape := ⟨2, ![128, 256]⟩
abbrev S64x128 : Shape := ⟨2, ![64, 128]⟩
abbrev S1x1x256x128 : Shape := ⟨4, ![1, 1, 256, 128]⟩
abbrev S1x256x128 : Shape := ⟨3, ![1, 256, 128]⟩
abbrev S1 : Shape := ⟨1, ![1]⟩

abbrev nBuf : Space → Nat
  | .hbm => 101
  | .vmem => 20
  | .smem => 1
  | _ => 0

abbrev bufTy : (tb : Table) → Fin (tcTables nBuf tb) → BufTy
  | .hbm, ⟨0, _⟩ => ⟨S8192x18432, .f32⟩
  | .hbm, ⟨1, _⟩ => ⟨S32x32, .f32⟩
  | .hbm, ⟨2, _⟩ => ⟨S64, .f32⟩
  | .hbm, ⟨3, _⟩ => ⟨S64, .f32⟩
  | .hbm, ⟨4, _⟩ => ⟨S32, .f32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S128x1, .i32⟩
  | .hbm, ⟨42, _⟩ => ⟨S128x32, .f32⟩
  | .hbm, ⟨43, _⟩ => ⟨S32x128, .f32⟩
  | .hbm, ⟨44, _⟩ => ⟨S_, .f32⟩
  | .hbm, ⟨45, _⟩ => ⟨S32x384, .f32⟩
  | .hbm, ⟨46, _⟩ => ⟨S32x512, .f32⟩
  | .hbm, ⟨47, _⟩ => ⟨S1x32x1x512, .f32⟩
  | .hbm, ⟨48, _⟩ => ⟨S1x32x256x512, .f32⟩
  | .hbm, ⟨49, _⟩ => ⟨S32x131072, .f32⟩
  | .hbm, ⟨50, _⟩ => ⟨S32x130816, .f32⟩
  | .hbm, ⟨51, _⟩ => ⟨S32x256x511, .f32⟩
  | .hbm, ⟨52, _⟩ => ⟨S32x256x128, .f32⟩
  | .hbm, ⟨53, _⟩ => ⟨S256, .i32⟩
  | .hbm, ⟨54, _⟩ => ⟨S1x256x1, .i32⟩
  | .hbm, ⟨55, _⟩ => ⟨S_, .i32⟩
  | .hbm, ⟨56, _⟩ => ⟨S1x256x1, .i32⟩
  | .hbm, ⟨57, _⟩ => ⟨S1x256x1, .i1⟩
  | .hbm, ⟨58, _⟩ => ⟨S_, .f32⟩
  | .hbm, ⟨59, _⟩ => ⟨S_, .f32⟩
  | .hbm, ⟨60, _⟩ => ⟨S32x256x128, .i1⟩
  | .hbm, ⟨61, _⟩ => ⟨S32x256x128, .f32⟩
  | .hbm, ⟨62, _⟩ => ⟨S32x256x128, .f32⟩
  | .hbm, ⟨63, _⟩ => ⟨S1x32x256x128, .f32⟩
  | .hbm, ⟨64, _⟩ => ⟨S1x32x256x128, .f32⟩
  | .hbm, ⟨65, _⟩ => ⟨S2x32x256x128, .f32⟩
  | .hbm, ⟨66, _⟩ => ⟨S128, .i32⟩
  | .hbm, ⟨67, _⟩ => ⟨S_, .i32⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S128, .i32⟩
  | .hbm, ⟨72, _⟩ => ⟨S_, .i32⟩
  | .hbm, ⟨73, _⟩ => ⟨S128, .i32⟩
  | .hbm, ⟨74, _⟩ => ⟨S128, .i1⟩
  | .hbm, ⟨75, _⟩ => ⟨S128, .i32⟩
  | .hbm, ⟨76, _⟩ => ⟨S128, .i32⟩
  | .hbm, ⟨77, _⟩ => ⟨S_, .i32⟩
  | .hbm, ⟨78, _⟩ => ⟨S128, .i32⟩
  | .hbm, ⟨79, _⟩ => ⟨S128, .i1⟩
  | .hbm, ⟨80, _⟩ => ⟨S128, .i1⟩
  | .hbm, ⟨81, _⟩ => ⟨S_, .i32⟩
  | .hbm, ⟨82, _⟩ => ⟨S128, .i32⟩
  | .hbm, ⟨83, _⟩ => ⟨S128, .i32⟩
  | .hbm, ⟨84, _⟩ => ⟨S128, .i32⟩
  | .hbm, ⟨85, _⟩ => ⟨S128x1, .i32⟩
  | .hbm, ⟨86, _⟩ => ⟨S1x128, .i32⟩
  | .hbm, ⟨87, _⟩ => ⟨S128x128, .i32⟩
  | .hbm, ⟨88, _⟩ => ⟨S128x128, .i32⟩
  | .hbm, ⟨89, _⟩ => ⟨S128x128, .i1⟩
  | .hbm, ⟨90, _⟩ => ⟨S128x128, .bf16⟩
  | .hbm, ⟨91, _⟩ => ⟨S1x64, .f32⟩
  | .hbm, ⟨92, _⟩ => ⟨S2x64, .f32⟩
  | .hbm, ⟨93, _⟩ => ⟨S128, .f32⟩
  | .hbm, ⟨94, _⟩ => ⟨S128x1, .f32⟩
  | .hbm, ⟨95, _⟩ => ⟨S128x128, .f32⟩
  | .hbm, ⟨96, _⟩ => ⟨S1x64, .f32⟩
  | .hbm, ⟨97, _⟩ => ⟨S8x64, .f32⟩
  | .hbm, ⟨98, _⟩ => ⟨S512, .f32⟩
  | .hbm, ⟨99, _⟩ => ⟨S1x512, .f32⟩
  | .hbm, ⟨100, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S1x32x256x128, .f32⟩
  | .local _ .vmem, ⟨11, _⟩ => ⟨S1x32x256x128, .f32⟩
  | .local _ .vmem, ⟨12, _⟩ => ⟨S128x128, .f32⟩
  | .local _ .vmem, ⟨13, _⟩ => ⟨S1x512, .f32⟩
  | .local _ .vmem, ⟨14, _⟩ => ⟨S128x128, .bf16⟩
  | .local _ .vmem, ⟨15, _⟩ => ⟨S128x2048, .bf16⟩
  | .local _ .vmem, ⟨16, _⟩ => ⟨S128x2048, .bf16⟩
  | .local _ .vmem, ⟨17, _⟩ => ⟨S32x256x128, .f32⟩
  | .local _ .vmem, ⟨18, _⟩ => ⟨S32x256x128, .bf16⟩
  | .local _ .vmem, ⟨19, _⟩ => ⟨S32x128, .f32⟩
  | .local _ .smem, ⟨0, _⟩ => ⟨S32, .f32⟩
  | _, _ => ⟨S8192x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_c : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_0 : Ref sig .tc := ⟨.hbm, 81, rfl⟩
abbrev main_call2_v12 : Ref sig .tc := ⟨.hbm, 82, rfl⟩
abbrev main_call2_v13 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c1_i32_4 : BitVec 32 := 1#32
  let v11 : BitVec 32 := Scalar.subi arg0 c1_i32_4
  let v12 : BitVec 32 := Scalar.select v10 arg0 v11
  let c4_i32 : BitVec 32 := 4#32
  let c0_i32_5 : BitVec 32 := 0#32
  ![v12.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c1_i32_4 : BitVec 32 := 1#32
  let v11 : BitVec 32 := Scalar.subi arg0 c1_i32_4
  let v12 : BitVec 32 := Scalar.select v10 arg0 v11
  let c5_i32 : BitVec 32 := 5#32
  let c0_i32_5 : BitVec 32 := 0#32
  ![v12.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let c1_i32_5 : BitVec 32 := 1#32
  let v11 : BitVec 32 := Scalar.select v10 c0_i32_4 c1_i32_5
  let c0_i32_6 : BitVec 32 := 0#32
  let c0_i32_7 : BitVec 32 := 0#32
  let c0_i32_8 : BitVec 32 := 0#32
  let c0_i32_9 : BitVec 32 := 0#32
  ![v11.toNat, c0_i32_6.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S8192x18432 : Shape := ⟨2, ![8192, 18432]⟩
abbrev S32x32 : Shape := ⟨2, ![32, 32]⟩
abbrev S64 : Shape := ⟨1, ![64]⟩
abbrev S32 : Shape := ⟨1, ![32]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x32 : Shape := ⟨3, ![128, 256, 32]⟩
abbrev S32x128x256 : Shape := ⟨3, ![32, 128, 256]⟩
abbrev S8x4x128x256 : Shape := ⟨4, ![8, 4, 128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S4x2048x18432 : Shape := ⟨3, ![4, 2048, 18432]⟩
abbrev S4x2048x2048 : Shape := ⟨3, ![4, 2048, 2048]⟩
abbrev S4x2048x512 : Shape := ⟨3, ![4, 2048, 512]⟩
abbrev S4x2048x32x64 : Shape := ⟨4, ![4, 2048, 32, 64]⟩
abbrev S4x2048x32 : Shape := ⟨3, ![4, 2048, 32]⟩
abbrev S4x2048x32x1 : Shape := ⟨4, ![4, 2048, 32, 1]⟩
abbrev S1x1x1x64 : Shape := ⟨4, ![1, 1, 1, 64]⟩
abbrev S4x16x128x8x4x64 : Shape := ⟨6, ![4, 16, 128, 8, 4, 64]⟩
abbrev S4x2048x8x64 : Shape := ⟨4, ![4, 2048, 8, 64]⟩
abbrev S4x2048x8 : Shape := ⟨3, ![4, 2048, 8]⟩
abbrev S4x2048x8x1 : Shape := ⟨4, ![4, 2048, 8, 1]⟩
abbrev S4x2176x8x64 : Shape := ⟨4, ![4, 2176, 8, 64]⟩
abbrev S4x16x128x8x64 : Shape := ⟨5, ![4, 16, 128, 8, 64]⟩
abbrev S4x16x256x8x64 : Shape := ⟨5, ![4, 16, 256, 8, 64]⟩
abbrev S4x16x8x256x128x4 : Shape := ⟨6, ![4, 16, 8, 256, 128, 4]⟩
abbrev S4x16x8x4x128x256 : Shape := ⟨6, ![4, 16, 8, 4, 128, 256]⟩
abbrev S1x1x8x4x128x256 : Shape := ⟨6, ![1, 1, 8, 4, 128, 256]⟩
abbrev S1x16x1x1x128x256 : Shape := ⟨6, ![1, 16, 1, 1, 128, 256]⟩
abbrev S8x4 : Shape := ⟨2, ![8, 4]⟩
abbrev S8x4x1x1 : Shape := ⟨4, ![8, 4, 1, 1]⟩
abbrev S4x16x8x4x128 : Shape := ⟨5, ![4, 16, 8, 4, 128]⟩
abbrev S4x16x8x4x128x1 : Shape := ⟨6, ![4, 16, 8, 4, 128, 1]⟩
abbrev S1x1x8x4x1x1 : Shape := ⟨6, ![1, 1, 8, 4, 1, 1]⟩
abbrev S4x16x8x64x4x128 : Shape := ⟨6, ![4, 16, 8, 64, 4, 128]⟩
abbrev S8192x2048 : Shape := ⟨2, ![8192, 2048]⟩

abbrev nBuf : Space → Nat
  | .hbm => 173
  | .vmem => 0
  | .smem => 0
  | _ => 0

abbrev hbmTy0_0 (i : Nat) : BufTy := match i % 128 with
  | 0 => ⟨S8192x18432, .f32⟩
  | 1 => ⟨S32x32, .f32⟩
  | 2 => ⟨S64, .f32⟩
  | 3 => ⟨S64, .f32⟩
  | 4 => ⟨S32, .f32⟩
  | 5 => ⟨S128, .i32⟩
  | 6 => ⟨S128x1, .i32⟩
  | 7 => ⟨S256, .i32⟩
  | 8 => ⟨S1x256, .i32⟩
  | 9 => ⟨S_, .i32⟩
  | 10 => ⟨S128x1, .i32⟩
  | 11 => ⟨S128x1, .i32⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S_, .i32⟩
  | 19 => ⟨S128x256, .i32⟩
  | 20 => ⟨S128x256, .i1⟩
  | 21 => ⟨S128x256, .i1⟩
  | 22 => ⟨S_, .i32⟩
  | 23 => ⟨S128x256, .i32⟩
  | 24 => ⟨S128x256, .i32⟩
  | 25 => ⟨S_, .i32⟩
  | 26 => ⟨S128x256, .i32⟩
  | 27 => ⟨S128x256, .i32⟩
  | 28 => ⟨S128x256, .f32⟩
  | 29 => ⟨S_, .f32⟩
  | 30 => ⟨S128x256, .f32⟩
  | 31 => ⟨S128x256, .f32⟩
  | 32 => ⟨S128x256, .f32⟩
  | 33 => ⟨S_, .f32⟩
  | 34 => ⟨S128x256, .f32⟩
  | 35 => ⟨S128x256, .f32⟩
  | 36 => ⟨S_, .f32⟩
  | 37 => ⟨S128x256, .f32⟩
  | 38 => ⟨S128x256, .f32⟩
  | 39 => ⟨S128x256, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S128x256, .i32⟩
  | 50 => ⟨S_, .i32⟩
  | 51 => ⟨S128x256, .i32⟩
  | 52 => ⟨S128x256, .i1⟩
  | 53 => ⟨S_, .i32⟩
  | 54 => ⟨S128x256, .i32⟩
  | 55 => ⟨S128x256, .i32⟩
  | 56 => ⟨S128x256, .i32⟩
  | 57 => ⟨S128x256x1, .i32⟩
  | 58 => ⟨S128x256x32, .f32⟩
  | 59 => ⟨S32x128x256, .f32⟩
  | 60 => ⟨S8x4x128x256, .f32⟩
  | 61 => ⟨S16, .i32⟩
  | 62 => ⟨S16x1x1, .i32⟩
  | 63 => ⟨S1x128x256, .i1⟩
  | 64 => ⟨S_, .i32⟩
  | 65 => ⟨S16x1x1, .i32⟩
  | 66 => ⟨S16x1x1, .i1⟩
  | 67 => ⟨S1x1x256, .i32⟩
  | 68 => ⟨S_, .i32⟩
  | 69 => ⟨S1x1x256, .i32⟩
  | 70 => ⟨S1x1x256, .i1⟩
  | 71 => ⟨S16x1x256, .i1⟩
  | 72 => ⟨S16x1x256, .i1⟩
  | 73 => ⟨S16x1x256, .i1⟩
  | 74 => ⟨S16x128x256, .i1⟩
  | 75 => ⟨S16x128x256, .i1⟩
  | 76 => ⟨S16x128x256, .i1⟩
  | 77 => ⟨S4x2048x18432, .f32⟩
  | 78 => ⟨S4x2048x2048, .f32⟩
  | 79 => ⟨S4x2048x512, .f32⟩
  | 80 => ⟨S4x2048x512, .f32⟩
  | 81 => ⟨S4x2048x32x64, .f32⟩
  | 82 => ⟨S4x2048x32x64, .f32⟩
  | 83 => ⟨S_, .f32⟩
  | 84 => ⟨S4x2048x32, .f32⟩
  | 85 => ⟨S4x2048x32x1, .f32⟩
  | 86 => ⟨S_, .f32⟩
  | 87 => ⟨S4x2048x32x1, .f32⟩
  | 88 => ⟨S4x2048x32x1, .f32⟩
  | 89 => ⟨S_, .f32⟩
  | 90 => ⟨S4x2048x32x1, .f32⟩
  | 91 => ⟨S4x2048x32x1, .f32⟩
  | 92 => ⟨S4x2048x32x1, .f32⟩
  | 93 => ⟨S4x2048x32x64, .f32⟩
  | 94 => ⟨S4x2048x32x64, .f32⟩
  | 95 => ⟨S1x1x1x64, .f32⟩
  | 96 => ⟨S4x2048x32x64, .f32⟩
  | 97 => ⟨S4x2048x32x64, .f32⟩
  | 98 => ⟨S_, .f32⟩
  | 99 => ⟨S4x2048x32x64, .f32⟩
  | 100 => ⟨S4x2048x32x64, .f32⟩
  | 101 => ⟨S4x16x128x8x4x64, .f32⟩
  | 102 => ⟨S4x2048x8x64, .f32⟩
  | 103 => ⟨S4x2048x8x64, .f32⟩
  | 104 => ⟨S_, .f32⟩
  | 105 => ⟨S4x2048x8, .f32⟩
  | 106 => ⟨S4x2048x8x1, .f32⟩
  | 107 => ⟨S_, .f32⟩
  | 108 => ⟨S4x2048x8x1, .f32⟩
  | 109 => ⟨S4x2048x8x1, .f32⟩
  | 110 => ⟨S_, .f32⟩
  | 111 => ⟨S4x2048x8x1, .f32⟩
  | 112 => ⟨S4x2048x8x1, .f32⟩
  | 113 => ⟨S4x2048x8x1, .f32⟩
  | 114 => ⟨S4x2048x8x64, .f32⟩
  | 115 => ⟨S4x2048x8x64, .f32⟩
  | 116 => ⟨S1x1x1x64, .f32⟩
  | 117 => ⟨S4x2048x8x64, .f32⟩
  | 118 => ⟨S4x2048x8x64, .f32⟩
  | 119 => ⟨S_, .i32⟩
  | 120 => ⟨S_, .f32⟩
  | 121 => ⟨S4x2176x8x64, .f32⟩
  | 122 => ⟨S4x2048x8x64, .f32⟩
  | 123 => ⟨S4x16x128x8x64, .f32⟩
  | 124 => ⟨S4x2048x8x64, .f32⟩
  | 125 => ⟨S4x16x128x8x64, .f32⟩
  | 126 => ⟨S4x16x256x8x64, .f32⟩
  | 127 => ⟨S4x2048x8x64, .f32⟩
  | _ => ⟨S8192x18432, .f32⟩

abbrev hbmTy0_1 (i : Nat) : BufTy := match i % 128 with
  | 0 => ⟨S_, .i32⟩
  | 1 => ⟨S_, .f32⟩
  | 2 => ⟨S4x2176x8x64, .f32⟩
  | 3 => ⟨S4x2048x8x64, .f32⟩
  | 4 => ⟨S4x16x128x8x64, .f32⟩
  | 5 => ⟨S4x2048x8x64, .f32⟩
  | 6 => ⟨S4x16x128x8x64, .f32⟩
  | 7 => ⟨S4x16x256x8x64, .f32⟩
  | 8 => ⟨S4x16x8x256x128x4, .f32⟩
  | 9 => ⟨S4x16x8x4x128x256, .f32⟩
  | 10 => ⟨S1x1x8x4x128x256, .f32⟩
  | 11 => ⟨S4x16x8x4x128x256, .f32⟩
  | 12 => ⟨S4x16x8x4x128x256, .f32⟩
  | 13 => ⟨S1x16x1x1x128x256, .i1⟩
  | 14 => ⟨S_, .f32⟩
  | 15 => ⟨S_, .f32⟩
  | 16 => ⟨S4x16x8x4x128x256, .i1⟩
  | 17 => ⟨S4x16x8x4x128x256, .f32⟩
  | 18 => ⟨S4x16x8x4x128x256, .f32⟩
  | 19 => ⟨S8x4, .f32⟩
  | 20 => ⟨S8x4x1x1, .f32⟩
  | 21 => ⟨S_, .f32⟩
  | 22 => ⟨S4x16x8x4x128, .f32⟩
  | 23 => ⟨S4x16x8x4x128x1, .f32⟩
  | 24 => ⟨S1x1x8x4x1x1, .f32⟩
  | 25 => ⟨S4x16x8x4x128x1, .f32⟩
  | 26 => ⟨S4x16x8x4x128x1, .f32⟩
  | 27 => ⟨S4x16x8x4x128x256, .f32⟩
  | 28 => ⟨S4x16x8x4x128x256, .f32⟩
  | 29 => ⟨S4x16x8x4x128x256, .f32⟩
  | 30 => ⟨S_, .f32⟩
  | 31 => ⟨S4x16x8x4x128, .f32⟩
  | 32 => ⟨S4x16x8x4x128x1, .f32⟩
  | 33 => ⟨S1x1x8x4x1x1, .f32⟩
  | 34 => ⟨S4x16x8x4x128x1, .f32⟩
  | 35 => ⟨S4x16x8x4x128x1, .f32⟩
  | 36 => ⟨S4x16x8x4x128x1, .f32⟩
  | 37 => ⟨S4x16x8x4x128x1, .f32⟩
  | 38 => ⟨S4x16x8x4x128x256, .f32⟩
  | 39 => ⟨S4x16x8x4x128x256, .f32⟩
  | 40 => ⟨S4x16x8x64x4x128, .f32⟩
  | 41 => ⟨S4x16x128x8x4x64, .f32⟩
  | 42 => ⟨S4x2048x2048, .f32⟩
  | 43 => ⟨S8192x2048, .f32⟩
  | 44 => ⟨S8192x2048, .bf16⟩
  | _ => ⟨S8192x18432, .f32⟩

abbrev hbmTy (i : Nat) : BufTy := match i / 128 with
  | 0 => hbmTy0_0 i
  | 1 => hbmTy0_1 i
  | _ => ⟨S8192x18432, .f32⟩

abbrev bufTy : (tb : Table) → Fin (tcTables nBuf tb) → BufTy
  | .hbm, ⟨i, _⟩ => hbmTy i
  | _, _ => ⟨S8192x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_cst_19 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_20 : Ref sig .tc := ⟨.hbm, 119, rfl⟩
abbrev main_call1_v0 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_21 : Ref sig .tc := ⟨.hbm, 128, rfl⟩
abbrev main_call2_v0 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_22 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_23 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_24 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩

abbrev nD : Nat := 1
abbrev τ : Topo := Topo.v7x

variable {F : FTy → Type} [FloatOps F]
-- ==== Kernel2.lean ====
abbrev S8192x4096 : Shape := ⟨2, ![8192, 4096]⟩
abbrev S2x4096 : Shape := ⟨2, ![2, 4096]⟩
abbrev S2x4096x22016 : Shape := ⟨3, ![2, 4096, 22016]⟩
abbrev S1x4096 : Shape := ⟨2, ![1, 4096]⟩
abbrev S4096 : Shape := ⟨1, ![4096]⟩
abbrev S8192x128 : Shape := ⟨2, ![8192, 128]⟩
abbrev S8192x11008 : Shape := ⟨2, ![8192, 11008]⟩
abbrev S2048x4096 : Shape := ⟨2, ![2048, 4096]⟩
abbrev S2048x128 : Shape := ⟨2, ![2048, 128]⟩
abbrev S1x4096x256 : Shape := ⟨3, ![1, 4096, 256]⟩
abbrev S2048x256 : Shape := ⟨2, ![2048, 256]⟩
abbrev S4096x256 : Shape := ⟨2, ![4096, 256]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 74
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x4096x22016, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x4096, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S2048x128, .f32⟩
  | .local _ .vmem, ⟨3, _⟩ => ⟨S2048x128, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1x4096x256, .f32⟩
  | .local _ .vmem, ⟨8, _⟩ => ⟨S2048x256, .bf16⟩
  | .local _ .vmem, ⟨9, _⟩ => ⟨S2048x256, .bf16⟩
  | .local _ .vmem, ⟨10, _⟩ => ⟨S4096x256, .bf16⟩
  | .local _ .vmem, ⟨11, _⟩ => ⟨S4096x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![43, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x4096 : Shape := ⟨2, ![8192, 4096]⟩
abbrev S2x4096 : Shape := ⟨2, ![2, 4096]⟩
abbrev S2x4096x22016 : Shape := ⟨3, ![2, 4096, 22016]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096x22016 : Shape := ⟨3, ![1, 4096, 22016]⟩
abbrev S4096x22016 : Shape := ⟨2, ![4096, 22016]⟩
abbrev S8192x22016 : Shape := ⟨2, ![8192, 22016]⟩
abbrev S8192x11008 : Shape := ⟨2, ![8192, 11008]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x4096x22016, .f32⟩
  | .hbm, ⟨3, _⟩ => ⟨S1x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S1x4096x22016, .f32⟩
  | .hbm, ⟨22, _⟩ => ⟨S4096x22016, .f32⟩
  | .hbm, ⟨23, _⟩ => ⟨S8192x22016, .f32⟩
  | .hbm, ⟨24, _⟩ => ⟨S8192x11008, .f32⟩
  | .hbm, ⟨25, _⟩ => ⟨S8192x11008, .f32⟩
  | .hbm, ⟨26, _⟩ => ⟨S8192x11008, .f32⟩
  | .hbm, ⟨27, _⟩ => ⟨S8192x11008, .f32⟩
  | .hbm, ⟨28, _⟩ => ⟨S_, .f32⟩
  | .hbm, ⟨29, _⟩ => ⟨S8192x11008, .f32⟩
  | .hbm, ⟨30, _⟩ => ⟨S8192x11008, .f32⟩
  | .hbm, ⟨31, _⟩ => ⟨S_, .f32⟩
  | .hbm, ⟨32, _⟩ => ⟨S8192x11008, .f32⟩
  | .hbm, ⟨33, _⟩ => ⟨S8192x11008, .f32⟩
  | .hbm, ⟨34, _⟩ => ⟨S8192x11008, .f32⟩
  | .hbm, ⟨35, _⟩ => ⟨S8192x11008, .f32⟩
  | .hbm, ⟨36, _⟩ => ⟨S8192x11008, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel3.lean ====
abbrev S8192x11008 : Shape := ⟨2, ![8192, 11008]⟩
abbrev S2x11008x4096 : Shape := ⟨3, ![2, 11008, 4096]⟩
abbrev S8192x4096 : Shape := ⟨2, ![8192, 4096]⟩
abbrev S1024x11008 : Shape := ⟨2, ![1024, 11008]⟩
abbrev S1x11008x256 : Shape := ⟨3, ![1, 11008, 256]⟩
abbrev S1024x256 : Shape := ⟨2, ![1024, 256]⟩
abbrev S11008x256 : Shape := ⟨2, ![11008, 256]⟩
abbrev S256x256 : Shape := ⟨2, ![256, 256]⟩
abbrev S256x11008 : Shape := ⟨2, ![256, 11008]⟩

abbrev nBuf : Space → Nat
  | .hbm => 4
  | .vmem => 7
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S8192x4096, .f32⟩
  | .local _ .vmem, ⟨0, _⟩ => ⟨S1024x11008, .bf16⟩
  | .local _ .vmem, ⟨1, _⟩ => ⟨S1x11008x256, .f32⟩
  | .local _ .vmem, ⟨2, _⟩ => ⟨S1x11008x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x11008 : Shape := ⟨2, ![8192, 11008]⟩
abbrev S2x11008x4096 : Shape := ⟨3, ![2, 11008, 4096]⟩
abbrev S8192x4096 : Shape := ⟨2, ![8192, 4096]⟩
abbrev S1x11008x4096 : Shape := ⟨3, ![1, 11008, 4096]⟩
abbrev S11008x4096 : Shape := ⟨2, ![11008, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S8192x11008, .f32⟩
  | .hbm, ⟨4, _⟩ => ⟨S1x11008x4096, .f32⟩
  | .hbm, ⟨5, _⟩ => ⟨S11008x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8192x11008 : Shape := ⟨2, ![8192, 11008]⟩
abbrev S2x11008x4096 : Shape := ⟨3, ![2, 11008, 4096]⟩
abbrev S8192x4096 : Shape := ⟨2, ![8192, 4096]⟩
abbrev S2x4096 : Shape := ⟨2, ![2, 4096]⟩
abbrev S1x4096 : Shape := ⟨2, ![1, 4096]⟩
abbrev S4096 : Shape := ⟨1, ![4096]⟩
abbrev S8192x128 : Shape := ⟨2, ![8192, 128]⟩
abbrev S1024x11008 : Shape := ⟨2, ![1024, 11008]⟩
abbrev S1x11008x256 : Shape := ⟨3, ![1, 11008, 256]⟩
abbrev S1024x256 : Shape := ⟨2, ![1024, 256]⟩
abbrev S1x256 : Shape := ⟨2, ![1, 256]⟩
abbrev S1024x128 : Shape := ⟨2, ![1024, 128]⟩
abbrev S11008x256 : Shape := ⟨2, ![11008, 256]⟩
abbrev S256x256 : Shape := ⟨2, ![256, 256]⟩
abbrev S256x11008 : Shape := ⟨2, ![256, 11008]⟩
abbrev S256x128 : Shape := ⟨2, ![256, 128]⟩

abbrev nBuf : Space → Nat
  | .hbm => 10
  | .vmem => 13
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S2x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .bf16⟩
  | .hbm, ⟨9, _⟩ => ⟨S8192x128, .f32⟩
  | .local _ .vmem, ⟨0, _⟩ => ⟨S1024x11008, .bf16⟩
  | .local _ .vmem, ⟨1, _⟩ => ⟨S1x11008x256, .f32⟩
  | .local _ .vmem, ⟨2, _⟩ => ⟨S1x11008x256, .f32⟩
  | .local _ .vmem, ⟨3, _⟩ => ⟨S1024x256, .f32⟩
  | .local _ .vmem, ⟨4, _⟩ => ⟨S1024x256, .f32⟩
  | .local _ .vmem, ⟨5, _⟩ => ⟨S1x256, .f32⟩
  | .local _ .vmem, ⟨6, _⟩ => ⟨S1x256, .f32⟩
  | .local _ .vmem, ⟨7, _⟩ => ⟨S1024x256, .f32⟩
  | .local _ .vmem, ⟨8, _⟩ => ⟨S1024x256, .f32⟩
  | .local _ .vmem, ⟨9, _⟩ => ⟨S1024x256, .bf16⟩
  | .local _ .vmem, ⟨10, _⟩ => ⟨S1024x256, .bf16⟩
  | .local _ .vmem, ⟨11, _⟩ => ⟨S1024x128, .f32⟩
  | .local _ .vmem, ⟨12, _⟩ => ⟨S1024x128, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8192x11008 : Shape := ⟨2, ![8192, 11008]⟩
abbrev S2x11008x4096 : Shape := ⟨3, ![2, 11008, 4096]⟩
abbrev S8192x4096 : Shape := ⟨2, ![8192, 4096]⟩
abbrev S2x4096 : Shape := ⟨2, ![2, 4096]⟩
abbrev S1x11008x4096 : Shape := ⟨3, ![1, 11008, 4096]⟩
abbrev S11008x4096 : Shape := ⟨2, ![11008, 4096]⟩
abbrev S_ : Shape := ⟨0, ![]⟩
abbrev S1x4096 : Shape := ⟨2, ![1, 4096]⟩
abbrev S4096 : Shape := ⟨1, ![4096]⟩
abbrev S8192x32x128 : Shape := ⟨3, ![8192, 32, 128]⟩
abbrev S8192x128 : Shape := ⟨2, ![8192, 128]⟩

abbrev nBuf : Space → Nat
  | .hbm => 22
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S2x4096, .f32⟩
  | .hbm, ⟨4, _⟩ => ⟨S8192x11008, .f32⟩
  | .hbm, ⟨5, _⟩ => ⟨S1x11008x4096, .f32⟩
  | .hbm, ⟨6, _⟩ => ⟨S11008x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .bf16⟩
  | .hbm, ⟨18, _⟩ => ⟨S8192x4096, .f32⟩
  | .hbm, ⟨19, _⟩ => ⟨S8192x32x128, .f32⟩
  | .hbm, ⟨20, _⟩ => ⟨S_, .f32⟩
  | .hbm, ⟨21, _⟩ => ⟨S8192x128, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S8192x4096 : Shape := ⟨2, ![8192, 4096]⟩
abbrev S2x4096 : Shape := ⟨2, ![2, 4096]⟩
abbrev S2x4096x18432 : Shape := ⟨3, ![2, 4096, 18432]⟩
abbrev S1x4096 : Shape := ⟨2, ![1, 4096]⟩
abbrev S4096 : Shape := ⟨1, ![4096]⟩
abbrev S8192x128 : Shape := ⟨2, ![8192, 128]⟩
abbrev S8192x18432 : Shape := ⟨2, ![8192, 18432]⟩
abbrev S1x4096x512 : Shape := ⟨3, ![1, 4096, 512]⟩
abbrev S2048x4096 : Shape := ⟨2, ![2048, 4096]⟩
abbrev S2048x128 : Shape := ⟨2, ![2048, 128]⟩
abbrev S2048x512 : Shape := ⟨2, ![2048, 512]⟩
abbrev S2048x1 : Shape := ⟨2, ![2048, 1]⟩
abbrev S2048 : Shape := ⟨1, ![2048]⟩
abbrev S4096x512 : Shape := ⟨2, ![4096, 512]⟩
abbrev S256x1 : Shape := ⟨2, ![256, 1]⟩
abbrev S256x4096 : Shape := ⟨2, ![256, 4096]⟩
abbrev S256x512 : Shape := ⟨2, ![256, 512]⟩

abbrev nBuf : Space → Nat
  | .hbm => 74
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x4096x18432, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x4096, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S8192x18432, .f32⟩
  | .local _ .vmem, ⟨0, _⟩ => ⟨S1x4096x512, .f32⟩
  | .local _ .vmem, ⟨1, _⟩ => ⟨S1x4096x512, .f32⟩
  | .local _ .vmem, ⟨2, _⟩ => ⟨S2048x4096, .bf16⟩
  | .local _ .vmem, ⟨3, _⟩ => ⟨S2048x128, .f32⟩
  | .local _ .vmem, ⟨4, _⟩ => ⟨S2048x512, .f32⟩
  | .local _ .vmem, ⟨5, _⟩ => ⟨S2048x512, .f32⟩
  | .local _ .vmem, ⟨6, _⟩ => ⟨S2048x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 36], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x4096 : Shape := ⟨2, ![8192, 4096]⟩
abbrev S2x4096 : Shape := ⟨2, ![2, 4096]⟩
abbrev S2x4096x18432 : Shape := ⟨3, ![2, 4096, 18432]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096x18432 : Shape := ⟨3, ![1, 4096, 18432]⟩
abbrev S4096x18432 : Shape := ⟨2, ![4096, 18432]⟩
abbrev S8192x18432 : Shape := ⟨2, ![8192, 18432]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x4096x18432, .f32⟩
  | .hbm, ⟨3, _⟩ => ⟨S1x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S1x4096x18432, .f32⟩
  | .hbm, ⟨22, _⟩ => ⟨S4096x18432, .f32⟩
  | .hbm, ⟨23, _⟩ => ⟨S8192x18432, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S8192x2048 : Shape := ⟨2, ![8192, 2048]⟩
abbrev S8192x1024 : Shape := ⟨2, ![8192, 1024]⟩
abbrev S8192x18432 : Shape := ⟨2, ![8192, 18432]⟩
abbrev S2x4096x4096 : Shape := ⟨3, ![2, 4096, 4096]⟩
abbrev S8192x4096 : Shape := ⟨2, ![8192, 4096]⟩
abbrev S2048x2048 : Shape := ⟨2, ![2048, 2048]⟩
abbrev S2048x1024 : Shape := ⟨2, ![2048, 1024]⟩
abbrev S2048x256 : Shape := ⟨2, ![2048, 256]⟩
abbrev S1x4096x256 : Shape := ⟨3, ![1, 4096, 256]⟩
abbrev S1x2048x256 : Shape := ⟨3, ![1, 2048, 256]⟩
abbrev S1x1024x256 : Shape := ⟨3, ![1, 1024, 256]⟩
abbrev S1024x256 : Shape := ⟨2, ![1024, 256]⟩
abbrev S256x2048 : Shape := ⟨2, ![256, 2048]⟩
abbrev S256x256 : Shape := ⟨2, ![256, 256]⟩
abbrev S256x1024 : Shape := ⟨2, ![256, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x18432, .f32⟩
  | .hbm, ⟨4, _⟩ => ⟨S2x4096x4096, .f32⟩
  | .hbm, ⟨5, _⟩ => ⟨S8192x4096, .bf16⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S1x4096x256, .f32⟩
  | .local _ .vmem, ⟨10, _⟩ => ⟨S1x4096x256, .f32⟩
  | .local _ .vmem, ⟨11, _⟩ => ⟨S2048x256, .bf16⟩
  | .local _ .vmem, ⟨12, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S8192x2048 : Shape := ⟨2, ![8192, 2048]⟩
abbrev S8192x1024 : Shape := ⟨2, ![8192, 1024]⟩
abbrev S8192x18432 : Shape := ⟨2, ![8192, 18432]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S2048x4096 : Shape := ⟨2, ![2048, 4096]⟩
abbrev S8192x4096 : Shape := ⟨2, ![8192, 4096]⟩
abbrev S1024x4096 : Shape := ⟨2, ![1024, 4096]⟩
abbrev S8192x12288 : Shape := ⟨2, ![8192, 12288]⟩
abbrev S_ : Shape := ⟨0, ![]⟩
abbrev S8192x3x4096 : Shape := ⟨3, ![8192, 3, 4096]⟩
abbrev S8192x1x4096 : Shape := ⟨3, ![8192, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x18432, .f32⟩
  | .hbm, ⟨4, _⟩ => ⟨S2x4096x4096, .f32⟩
  | .hbm, ⟨5, _⟩ => ⟨S1x4096x4096, .f32⟩
  | .hbm, ⟨6, _⟩ => ⟨S4096x4096, .f32⟩
  | .hbm, ⟨7, _⟩ => ⟨S8192x2048, .f32⟩
  | .hbm, ⟨8, _⟩ => ⟨S2048x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S8192x4096, .f32⟩
  | .hbm, ⟨13, _⟩ => ⟨S8192x1024, .f32⟩
  | .hbm, ⟨14, _⟩ => ⟨S1024x4096, .f32⟩
  | .hbm, ⟨15, _⟩ => ⟨S8192x4096, .f32⟩
  | .hbm, ⟨16, _⟩ => ⟨S8192x12288, .f32⟩
  | .hbm, ⟨17, _⟩ => ⟨S8192x12288, .f32⟩
  | .hbm, ⟨18, _⟩ => ⟨S8192x12288, .f32⟩
  | .hbm, ⟨19, _⟩ => ⟨S_, .f32⟩
  | .hbm, ⟨20, _⟩ => ⟨S8192x12288, .f32⟩
  | .hbm, ⟨21, _⟩ => ⟨S8192x12288, .f32⟩
  | .hbm, ⟨22, _⟩ => ⟨S_, .f32⟩
  | .hbm, ⟨23, _⟩ => ⟨S8192x12288, .f32⟩
  | .hbm, ⟨24, _⟩ => ⟨S8192x12288, .f32⟩
  | .hbm, ⟨25, _⟩ => ⟨S8192x3x4096, .f32⟩
  | .hbm, ⟨26, _⟩ => ⟨S8192x1x4096, .f32⟩
  | .hbm, ⟨27, _⟩ => ⟨S8192x4096, .f32⟩
  | .hbm, ⟨28, _⟩ => ⟨S8192x4096, .f32⟩
  | .hbm, ⟨29, _⟩ => ⟨S8192x1x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x1x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel7.lean ====
abbrev S8192x4096 : Shape := ⟨2, ![8192, 4096]⟩
abbrev S2x4096x4096 : Shape := ⟨3, ![2, 4096, 4096]⟩
abbrev S2x4096 : Shape := ⟨2, ![2, 4096]⟩
abbrev S1x4096 : Shape := ⟨2, ![1, 4096]⟩
abbrev S4096 : Shape := ⟨1, ![4096]⟩
abbrev S8192x128 : Shape := ⟨2, ![8192, 128]⟩
abbrev S2048x4096 : Shape := ⟨2, ![2048, 4096]⟩
abbrev S1x4096x256 : Shape := ⟨3, ![1, 4096, 256]⟩
abbrev S2048x256 : Shape := ⟨2, ![2048, 256]⟩
abbrev S1x256 : Shape := ⟨2, ![1, 256]⟩
abbrev S2048x128 : Shape := ⟨2, ![2048, 128]⟩
abbrev S4096x256 : Shape := ⟨2, ![4096, 256]⟩
abbrev S256x256 : Shape := ⟨2, ![256, 256]⟩
abbrev S256x4096 : Shape := ⟨2, ![256, 4096]⟩
abbrev S256x128 : Shape := ⟨2, ![256, 128]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S2x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .bf16⟩
  | .hbm, ⟨9, _⟩ => ⟨S8192x128, .f32⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S2048x256, .f32⟩
  | .local _ .vmem, ⟨4, _⟩ => ⟨S2048x256, .f32⟩
  | .local _ .vmem, ⟨5, _⟩ => ⟨S1x256, .f32⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | .local _ .vmem, ⟨9, _⟩ => ⟨S2048x256, .bf16⟩
  | .local _ .vmem, ⟨10, _⟩ => ⟨S2048x256, .bf16⟩
  | .local _ .vmem, ⟨11, _⟩ => ⟨S2048x128, .f32⟩
  | .local _ .vmem, ⟨12, _⟩ => ⟨S2048x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S8192x4096 : Shape := ⟨2, ![8192, 4096]⟩
abbrev S2x4096x4096 : Shape := ⟨3, ![2, 4096, 4096]⟩
abbrev S2x4096 : Shape := ⟨2, ![2, 4096]⟩
abbrev S1x4096x4096 : Shape := ⟨3, ![1, 4096, 4096]⟩
abbrev S4096x4096 : Shape := ⟨2, ![4096, 4096]⟩
abbrev S1x4096 : Shape := ⟨2, ![1, 4096]⟩
abbrev S4096 : Shape := ⟨1, ![4096]⟩
abbrev S8192x32x128 : Shape := ⟨3, ![8192, 32, 128]⟩
abbrev S_ : Shape := ⟨0, ![]⟩
abbrev S8192x128 : Shape := ⟨2, ![8192, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S2x4096, .f32⟩
  | .hbm, ⟨4, _⟩ => ⟨S8192x4096, .f32⟩
  | .hbm, ⟨5, _⟩ => ⟨S1x4096x4096, .f32⟩
  | .hbm, ⟨6, _⟩ => ⟨S4096x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .bf16⟩
  | .hbm, ⟨15, _⟩ => ⟨S8192x4096, .f32⟩
  | .hbm, ⟨16, _⟩ => ⟨S8192x32x128, .f32⟩
  | .hbm, ⟨17, _⟩ => ⟨S_, .f32⟩
  | .hbm, ⟨18, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S8192x1024 : Shape := ⟨2, ![8192, 1024]⟩
abbrev S2x1024x2048 : Shape := ⟨3, ![2, 1024, 2048]⟩
abbrev S2048x1024 : Shape := ⟨2, ![2048, 1024]⟩
abbrev S1x1024x256 : Shape := ⟨3, ![1, 1024, 256]⟩
abbrev S2048x256 : Shape := ⟨2, ![2048, 256]⟩
abbrev S1024x256 : Shape := ⟨2, ![1024, 256]⟩
abbrev S256x1024 : Shape := ⟨2, ![256, 1024]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S8192x1024, .bf16⟩
  | .local _ .vmem, ⟨0, _⟩ => ⟨S2048x1024, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S2048x256, .bf16⟩
  | .local _ .vmem, ⟨6, _⟩ => ⟨S2048x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x1024 : Shape := ⟨2, ![8192, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S8192x2048 : Shape := ⟨2, ![8192, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S1x1024x2048, .f32⟩
  | .hbm, ⟨3, _⟩ => ⟨S1024x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.Body.lean ====
/-
  The attention kernel's body, read as a family over its 32 heads and 16 head pairs.

  The printed body is unrolled: it normalises four 128-wide columns of keys, makes eight masked key tiles and eight
  value tiles per half, then one score tile per head, one weight tile per head, and one output tile per pair of heads.
  Here each family is one function of its index, and the three lists of pieces the run leaves (scores, weights, sinks)
  and the list of the output's pieces are the images of these functions. No arithmetic is done here.
-/
module

public import proofs.«01_k».proof.Proof.Gen.KernelIdeal.Value

@[expose] public section

set_option maxRecDepth 16384

noncomputable section

namespace Cert.KernelIdeal.Att

open Cert.KernelIdeal Cert.KernelIdeal.Gen Idealize.ShloMosaic Idealize.ShloMosaic.TcCoe Idealize.SL.Sem

variable {F : FTy → Type} [FloatOps F] [Named F]

/-! ## The families -/

theorem slices_col (c : Fin 4) : S256x512.Slices ![0, 128 * c.val] S256x128 := by
  fin_cases c <;> first | exact slices_S256x512_o0_0_S256x128 | exact slices_S256x512_o0_128_S256x128 | exact slices_S256x512_o0_256_S256x128 | exact slices_S256x512_o0_384_S256x128

/-- Columns `128 c … 128 c + 127` of the two stacked blocks. -/
def col (c : Fin 4) (a b : Vec F S128x512 .f32) : FVec F S256x128 .f32 :=
  extractStridedSlice S256x128 ![0, 128 * c.val] (concatenate S256x512 0 [⟨S128x512, a⟩, ⟨S128x512, b⟩] concatenates_S128x512_S128x512_S256x512_d0) (slices_col c)

/-- A column of keys over its heads' root mean squares, times the gains. -/
def knorm (x : FVec F S256x128 .f32) (seg : Vec F S128x128 .bf16) (g : Vec F S1x128 .f32) : FVec F S256x128 .f32 :=
  have sq : FVec F S256x128 .f32 := mulf x x
  have hi : FVec F S256x128 .bf16 := truncf .bf16 sq bitsLt_bf16_f32
  have lo : FVec F S256x128 .bf16 := truncf .bf16 (subf sq (extf .f32 hi bitsLt_bf16_f32)) bitsLt_bf16_f32
  have sg : FVec F S128x128 .bf16 := shapeCast S128x128 seg shapeCasts_S128x128_S128x128
  have z : FVec F S256x128 .f32 := constant S256x128 .f32 0x00000000#32
  have s : FVec F S256x128 .f32 := addf (matmul dot_S256x128_S128x128_S256x128_1_0_0_1_n_n none hi sg z)
    (matmul dot_S256x128_S128x128_S256x128_1_0_0_1_n_n none lo sg z)
  have m : FVec F S256x128 .f32 := mulf s (broadcast S256x128 (Scalar.ofBits .f32 0x3C800000#32 : F .f32))
  have r : FVec F S256x128 .f32 := rsqrt (addf m (broadcast S256x128 (Scalar.ofBits .f32 0x358637BD#32 : F .f32)))
  mulf (mulf x r) (broadcastTo S256x128 (shapeCast S1x128 g shapeCasts_S1x128_S1x128) broadcasts_S1x128_S256x128)

/-- The key tile of key head `2 c + odd` with its 64 columns in half `half`, the other half zero. -/
def ktile (kc : FVec F S256x128 .f32) (odd half : Bool) : FVec F S256x128 .bf16 :=
  truncf .bf16 (select (broadcastTo S256x128 (shapeCast S1x128 (if half then k0_pay3 else k0_pay2) shapeCasts_S1x128_S1x128) broadcasts_S1x128_S256x128)
    (if odd = half then kc else dynamicRotate 1 64#32 none kc rotates_S256x128_d1)
    (broadcast S256x128 (Scalar.ofBits .f32 0x00000000#32 : F .f32))) bitsLt_bf16_f32

theorem slices_half (b : Bool) : S128x256.Slices ![if b then 64 else 0, 0] S64x256 := by
  cases b <;> first | exact slices_S128x256_o0_0_S64x256 | exact slices_S128x256_o64_0_S64x256

/-- The value tile of head `2 c + odd`, transposed, its 64 rows in half `half` and ones in the other. -/
def vtile (vc : FVec F S256x128 .f32) (odd half : Bool) : FVec F S128x256 .bf16 :=
  have vt : FVec F S128x256 .f32 := transpose S128x256 [1, 0] vc transposes_S256x128_p1_0_S128x256
  have vh : FVec F S64x256 .f32 := extractStridedSlice S64x256 ![if odd then 64 else 0, 0] vt (slices_half odd)
  have ones : FVec F S64x256 .f32 := broadcast S64x256 (Scalar.ofBits .f32 0x3F800000#32 : F .f32)
  truncf .bf16 (if half then concatenate S128x256 0 [⟨S64x256, ones⟩, ⟨S64x256, vh⟩] concatenates_S64x256_S64x256_S128x256_d0
    else concatenate S128x256 0 [⟨S64x256, vh⟩, ⟨S64x256, ones⟩] concatenates_S64x256_S64x256_S128x256_d0) bitsLt_bf16_f32

/-- The mean square of each query's 64 entries, over one half of the transposed pair. -/
def qms (h : FVec F S64x128 .f32) : FVec F S64x128 .f32 :=
  have s : FVec F S1x128 .f32 := shapeCast S1x128 (multiReduction .add [0] S128 (mulf h h) 0x00000000#32 reduces_S64x128_S128 (.inl rfl) rfl) shapeCasts_S128_S1x128
  have m : FVec F S1x128 .f32 := divf s (broadcast S1x128 (Scalar.ofBits .f32 0x42800000#32 : F .f32))
  have r : FVec F S1x128 .f32 := rsqrt (addf m (broadcast S1x128 (Scalar.ofBits .f32 0x358637BD#32 : F .f32)))
  broadcastTo S64x128 (shapeCast S1x128 r shapeCasts_S1x128_S1x128) broadcasts_S1x128_S64x128

/-- A pair of heads' queries, transposed, normalised and scaled. -/
def qtile (q qg : Vec F S128x128 .f32) : FVec F S128x128 .bf16 :=
  have qt : FVec F S128x128 .f32 := transpose S128x128 [1, 0] q transposes_S128x128_p1_0_S128x128
  have rs : FVec F S128x128 .f32 := concatenate S128x128 0
    [⟨S64x128, qms (extractStridedSlice S64x128 ![0, 0] qt slices_S128x128_o0_0_S64x128)⟩,
     ⟨S64x128, qms (extractStridedSlice S64x128 ![64, 0] qt slices_S128x128_o64_0_S64x128)⟩] concatenates_S64x128_S64x128_S128x128_d0
  truncf .bf16 (mulf (mulf qt rs) (mulf (shapeCast S128x128 qg shapeCasts_S128x128_S128x128)
    (broadcast S128x128 (Named.named κ "qscale" 0x3E38AA3B#32 : F .f32)))) bitsLt_bf16_f32

/-- One head's scores: keys against queries, plus the bias. -/
def stile (k : FVec F S256x128 .bf16) (q : FVec F S128x128 .bf16) (b : Vec F S1x1x256x128 .f32) : FVec F S256x128 .f32 :=
  addf (matmul dot_S256x128_S128x128_S256x128_1_0_0_1_n_n none k q (constant S256x128 .f32 0x00000000#32))
    (mulf (shapeCast S256x128 b shapeCasts_S1x1x256x128_S256x128) (broadcast S256x128 (Named.named κ "log2e" 0x3FB8AA3B#32 : F .f32)))

/-- The greatest of a head's scores and its sink, per query. -/
def mtile (s : FVec F S256x128 .f32) (sink : Elt F .f32) : FVec F S1x128 .f32 :=
  maximumf (shapeCast S1x128 (multiReduction .maximumf [0] S128 s 0xFF800000#32 reduces_S256x128_S128 (.inl rfl) rfl) shapeCasts_S128_S1x128)
    (broadcast S1x128 sink)

/-- One head's weights, not yet divided. -/
def ptile (s : FVec F S256x128 .f32) (sink : Elt F .f32) : FVec F S256x128 .bf16 :=
  truncf .bf16 (exp2 (subf s (broadcastTo S256x128 (mtile s sink) broadcasts_S1x128_S256x128))) bitsLt_bf16_f32

/-- The sink's weight. -/
def sktile (s : FVec F S256x128 .f32) (sink : Elt F .f32) : FVec F S1x128 .f32 :=
  exp2 (subf (broadcast S1x128 sink) (mtile s sink))

/-- A pair of heads' output. -/
def otile (vl vh : FVec F S128x256 .bf16) (p0 p1 : FVec F S256x128 .bf16) (s0 s1 : FVec F S1x128 .f32) : FVec F S128x128 .bf16 :=
  have o0 : FVec F S128x128 .f32 := matmul dot_S128x256_S256x128_S128x128_1_0_0_1_n_n none vl p0 (constant S128x128 .f32 0x00000000#32)
  have o1 : FVec F S128x128 .f32 := matmul dot_S128x256_S256x128_S128x128_1_0_0_1_n_n none vh p1 (constant S128x128 .f32 0x00000000#32)
  have num : FVec F S128x128 .f32 := concatenate S128x128 0
    [⟨S64x128, extractStridedSlice S64x128 ![0, 0] o0 slices_S128x128_o0_0_S64x128⟩,
     ⟨S64x128, extractStridedSlice S64x128 ![64, 0] o1 slices_S128x128_o64_0_S64x128⟩] concatenates_S64x128_S64x128_S128x128_d0
  have den : FVec F S128x128 .f32 := concatenate S128x128 0
    [⟨S64x128, addf (extractStridedSlice S64x128 ![64, 0] o0 slices_S128x128_o64_0_S64x128) (broadcastTo S64x128 s0 broadcasts_S1x128_S64x128)⟩,
     ⟨S64x128, addf (extractStridedSlice S64x128 ![0, 0] o1 slices_S128x128_o0_0_S64x128) (broadcastTo S64x128 s1 broadcasts_S1x128_S64x128)⟩] concatenates_S64x128_S64x128_S128x128_d0
  truncf .bf16 (transpose S128x128 [1, 0] (divf num den) transposes_S128x128_p1_0_S128x128) bitsLt_bf16_f32

/-! ## The rectangles -/

theorem inb_head (h : Fin 32) : ∀ a, (![h.val, 0, 0] : Fin 3 → Nat) a + S1x256x128.size a ≤ S32x256x128.size a := by
  revert h; decide
theorem inb_sink (h : Fin 32) : ∀ a, (![h.val, 0] : Fin 2 → Nat) a + S1x128.size a ≤ S32x128.size a := by
  revert h; decide
theorem inb_bias (h : Fin 32) : ∀ a, (![0, h.val, 0, 0] : Fin 4 → Nat) a + S1x1x256x128.size a ≤ S1x32x256x128.size a := by
  revert h; decide
theorem inb_pair (p : Fin 16) : ∀ a, (![0, 128 * p.val] : Fin 2 → Nat) a + S128x128.size a ≤ S128x2048.size a := by
  revert p; decide
theorem inb_gain (c : Fin 4) : ∀ a, (![0, 128 * c.val] : Fin 2 → Nat) a + S1x128.size a ≤ S1x512.size a := by
  revert c; decide
theorem inb_scal (h : Fin 32) : ∀ a, (![h.val] : Fin 1 → Nat) a + S1.size a ≤ S32.size a := by
  revert h; decide

abbrev rHead (h : Fin 32) : Rect S32x256x128 := Rect.unit ![h.val, 0, 0] S1x256x128.size (inb_head h)
abbrev rSink (h : Fin 32) : Rect S32x128 := Rect.unit ![h.val, 0] S1x128.size (inb_sink h)
abbrev rBias (h : Fin 32) : Rect S1x32x256x128 := Rect.unit ![0, h.val, 0, 0] S1x1x256x128.size (inb_bias h)
abbrev rPair (p : Fin 16) : Rect S128x2048 := Rect.unit ![0, 128 * p.val] S128x128.size (inb_pair p)
abbrev rGain (c : Fin 4) : Rect S1x512 := Rect.unit ![0, 128 * c.val] S1x128.size (inb_gain c)
abbrev rScal (h : Fin 32) : Rect S32 := Rect.unit ![h.val] S1.size (inb_scal h)
abbrev rSeg : Rect S128x128 := Rect.unit ![0, 0] S128x128.size inb_S128x128_S128x128_0_0
abbrev rKv : Rect S128x512 := Rect.unit ![0, 0] S128x512.size inb_S128x512_S128x512_0_0

/-- The heads and the pairs, last first: the order of the pieces. -/
def heads : List (Fin 32) := [31, 30, 29, 28, 27, 26, 25, 24, 23, 22, 21, 20, 19, 18, 17, 16, 15, 14, 13, 12, 11, 10, 9, 8, 7, 6, 5, 4, 3, 2, 1, 0]
def pairs : List (Fin 16) := [15, 14, 13, 12, 11, 10, 9, 8, 7, 6, 5, 4, 3, 2, 1, 0]

theorem mem_heads (h : Fin 32) : h ∈ heads := by revert h; decide
theorem mem_pairs (p : Fin 16) : p ∈ pairs := by revert p; decide

/-- Head `h` belongs to pair `h / 2`, half `h % 2`; pair `p` reads key head `p / 2`, which is half `p / 2 % 2` of
    column `p / 4`. -/
def pairOf (h : Fin 32) : Fin 16 := ⟨h.val / 2, by omega⟩
def colOf (p : Fin 16) : Fin 4 := ⟨p.val / 4, by omega⟩
def oddOf (p : Fin 16) : Bool := decide (p.val / 2 % 2 = 1)
def halfOf (h : Fin 32) : Bool := decide (h.val % 2 = 1)
def hd (p : Fin 16) (b : Bool) : Fin 32 := ⟨2 * p.val + b.toNat, by have := p.isLt; cases b <;> simp <;> omega⟩

/-! ## Reading pieces back -/

/-- Pieces at disjoint rectangles: at an index of one, its payload. -/
theorem canon_map {Val : EltTy → Type} [∀ e, Nonempty (Val e)] {ι : Type} [DecidableEq ι] {s : Shape} {e : EltTy} (R : ι → Rect s)
    (g : (h : ι) → (R h).shape.Idx → Val e) (hd : ∀ h h' (j : (R h).shape.Idx), h' ≠ h → (R h).emb j ∉ (R h').set)
    (h : ι) (j : (R h).shape.Idx) : ∀ l : List ι, h ∈ l →
      View.canon (l.map fun h => (⟨R h, g h⟩ : View.Piece Val s e)) ((R h).emb j) = g h j
  | [], hm => absurd hm List.not_mem_nil
  | x :: l, hm => by
    rw [List.map_cons]
    by_cases hx : x = h
    · subst hx; exact View.canon_cons_emb _ _ _ _
    · rw [View.canon_cons_of_not_mem _ _ (hd h x j hx)]
      exact canon_map R g hd h j l ((List.mem_cons.mp hm).resolve_left fun e => hx e.symm)

theorem head_disj (h h' : Fin 32) (j : (rHead h).shape.Idx) (hne : h' ≠ h) : (rHead h).emb j ∉ (rHead h').set := by
  intro hm
  have hm := (Rect.mem_set_unit.mp hm) 0
  have e : (((rHead h).emb j) 0 : Nat) = h.val + 1 * (j 0 : Nat) := rfl
  have hj : (j 0 : Nat) < 1 := (j 0).isLt
  have h2 : h'.val ≤ (((rHead h).emb j) 0 : Nat) ∧ (((rHead h).emb j) 0 : Nat) < h'.val + 1 := hm
  exact hne (Fin.ext (by omega))

theorem sink_disj (h h' : Fin 32) (j : (rSink h).shape.Idx) (hne : h' ≠ h) : (rSink h).emb j ∉ (rSink h').set := by
  intro hm
  have hm := (Rect.mem_set_unit.mp hm) 0
  have e : (((rSink h).emb j) 0 : Nat) = h.val + 1 * (j 0 : Nat) := rfl
  have hj : (j 0 : Nat) < 1 := (j 0).isLt
  have h2 : h'.val ≤ (((rSink h).emb j) 0 : Nat) ∧ (((rSink h).emb j) 0 : Nat) < h'.val + 1 := hm
  exact hne (Fin.ext (by omega))

theorem pair_disj (p p' : Fin 16) (j : (rPair p).shape.Idx) (hne : p' ≠ p) : (rPair p).emb j ∉ (rPair p').set := by
  intro hm
  have hm := (Rect.mem_set_unit.mp hm) 1
  have e : (((rPair p).emb j) 1 : Nat) = 128 * p.val + 1 * (j 1 : Nat) := rfl
  have hj : (j 1 : Nat) < 128 := (j 1).isLt
  have h2 : 128 * p'.val ≤ (((rPair p).emb j) 1 : Nat) ∧ (((rPair p).emb j) 1 : Nat) < 128 * p'.val + 128 := hm
  exact hne (Fin.ext (by omega))

/-- A head's tile is read back as it was stored. -/
theorem read_head {e : EltTy} (v : View sig .tc .vmem S32x256x128 e) (g : Fin 32 → S1x256x128.Idx → Elt F e) (h : Fin 32) :
    v.readCov (heads.map fun h => (⟨rHead h, g h⟩ : View.Piece (Elt F) S32x256x128 e)) (rHead h).toLoadRect = g h := by
  rw [View.readCov_eq_canon']
  funext j
  exact canon_map rHead g head_disj h j heads (mem_heads h)

theorem read_sink {e : EltTy} (v : View sig .tc .vmem S32x128 e) (g : Fin 32 → S1x128.Idx → Elt F e) (h : Fin 32) :
    v.readCov (heads.map fun h => (⟨rSink h, g h⟩ : View.Piece (Elt F) S32x128 e)) (rSink h).toLoadRect = g h := by
  rw [View.readCov_eq_canon']
  funext j
  exact canon_map rSink g sink_disj h j heads (mem_heads h)

section run

variable (c : Dev nD) (i : grid0.Coords) (arg1 : Memref sig .tc .smem S32 .f32) (harg1 : arg1.IsWhole) (arg2 : Memref sig .tc .vmem S128x2048 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x32x256x128 .f32) (harg7 : arg7.IsWhole) (arg8 : Memref sig .tc .vmem S128x128 .f32) (harg8 : arg8.IsWhole) (arg9 : Memref sig .tc .vmem S1x512 .f32) (harg9 : arg9.IsWhole) (arg10 : Memref sig .tc .vmem S128x128 .bf16) (harg10 : arg10.IsWhole) (arg11 : Memref sig .tc .vmem S128x2048 .bf16) (harg11 : arg11.IsWhole) (arg12 : Memref sig .tc .vmem S32x256x128 .f32) (harg12 : arg12.IsWhole) (arg13 : Memref sig .tc .vmem S32x256x128 .bf16) (harg13 : arg13.IsWhole) (arg14 : Memref sig .tc .vmem S32x128 .f32) (harg14 : arg14.IsWhole)
    (x0 : Vec F S32 .f32) (x1 : Vec F S128x2048 .f32) (x2 : Vec F S128x512 .f32) (x3 : Vec F S128x512 .f32) (x4 : Vec F S128x512 .f32) (x5 : Vec F S128x512 .f32) (x6 : Vec F S1x32x256x128 .f32) (x7 : Vec F S128x128 .f32) (x8 : Vec F S1x512 .f32) (x9 : Vec F S128x128 .bf16)

/-- Head `h`'s scores, from the point's blocks. -/
def score (h : Fin 32) : FVec F S256x128 .f32 :=
  stile (ktile (knorm (col (colOf (pairOf h))
      (View.readAt (Elt F) arg3.view rKv.toLoadRect (harg3.unread x2)) (View.readAt (Elt F) arg4.view rKv.toLoadRect (harg4.unread x3)))
    (View.readAt (Elt F) arg10.view rSeg.toLoadRect (harg10.unread x9))
    (View.readAt (Elt F) arg9.view (rGain (colOf (pairOf h))).toLoadRect (harg9.unread x8))) (oddOf (pairOf h)) (halfOf h))
    (qtile (View.readAt (Elt F) arg2.view (rPair (pairOf h)).toLoadRect (harg2.unread x1))
      (View.readAt (Elt F) arg8.view rSeg.toLoadRect (harg8.unread x7)))
    (View.readAt (Elt F) arg7.view (rBias h).toLoadRect (harg7.unread x6))

/-- Head `h`'s sink. -/
def sinkv (h : Fin 32) : Elt F .f32 :=
  Scalar.mulf (View.readAt (Elt F) arg1.view (rScal h).toLoadRect (harg1.unread x0) (Shape.Idx.first (show 0 < S1.numel by decide)))
    (Named.named κ "log2e" 0x3FB8AA3B#32 : F .f32)

/-- Pair `p`'s value tile for one half. -/
def vals (p : Fin 16) (half : Bool) : FVec F S128x256 .bf16 :=
  vtile (col (colOf p) (View.readAt (Elt F) arg5.view rKv.toLoadRect (harg5.unread x4)) (View.readAt (Elt F) arg6.view rKv.toLoadRect (harg6.unread x5)))
    (oddOf p) half

/-- The scores' pieces: head `h`'s tile at its rectangle. -/
theorem scores_pieces :
    kernelRun0_A.sl.HS0_32 c arg2 harg2 arg3 harg3 arg4 harg4 arg7 harg7 arg8 harg8 arg9 harg9 arg10 harg10 x1 x2 x3 x6 x7 x8 x9
      = heads.map fun h => (⟨rHead h, shapeCast S1x256x128 (score arg2 harg2 arg3 harg3 arg4 harg4 arg7 harg7 arg8 harg8 arg9 harg9 arg10 harg10 x1 x2 x3 x6 x7 x8 x9 h)
          shapeCasts_S256x128_S1x256x128⟩ : View.Piece (Elt F) S32x256x128 .f32) := by
  rfl

/-- The weights' pieces, over what the scores' buffer reads back. -/
theorem weights_pieces :
    kernelRun0_A.sl.HS1_32 c arg1 harg1 arg2 harg2 arg3 harg3 arg4 harg4 arg7 harg7 arg8 harg8 arg9 harg9 arg10 harg10 arg12 x0 x1 x2 x3 x6 x7 x8 x9
      = heads.map fun h => (⟨rHead h, shapeCast S1x256x128 (ptile (shapeCast S256x128
            (arg12.view.readCov (kernelRun0_A.sl.HS0_32 c arg2 harg2 arg3 harg3 arg4 harg4 arg7 harg7 arg8 harg8 arg9 harg9 arg10 harg10 x1 x2 x3 x6 x7 x8 x9) (rHead h).toLoadRect)
            shapeCasts_S1x256x128_S256x128) (sinkv arg1 harg1 x0 h))
          shapeCasts_S256x128_S1x256x128⟩ : View.Piece (Elt F) S32x256x128 .bf16) := by
  rfl

/-- The sinks' pieces. -/
theorem sinks_pieces :
    kernelRun0_A.sl.HS2_32 c arg1 harg1 arg2 harg2 arg3 harg3 arg4 harg4 arg7 harg7 arg8 harg8 arg9 harg9 arg10 harg10 arg12 x0 x1 x2 x3 x6 x7 x8 x9
      = heads.map fun h => (⟨rSink h, shapeCast S1x128 (sktile (shapeCast S256x128
            (arg12.view.readCov (kernelRun0_A.sl.HS0_32 c arg2 harg2 arg3 harg3 arg4 harg4 arg7 harg7 arg8 harg8 arg9 harg9 arg10 harg10 x1 x2 x3 x6 x7 x8 x9) (rHead h).toLoadRect)
            shapeCasts_S1x256x128_S256x128) (sinkv arg1 harg1 x0 h))
          shapeCasts_S1x128_S1x128⟩ : View.Piece (Elt F) S32x128 .f32) := by
  rfl

/-- The output's pieces, over what the weights' and the sinks' buffers read back. -/
theorem out_pieces :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1
      = pairs.map fun p => (⟨rPair p, otile (vals arg5 harg5 arg6 harg6 x4 x5 p false) (vals arg5 harg5 arg6 harg6 x4 x5 p true)
          (shapeCast S256x128 (arg13.view.readCov (kernelRun0_A.sl.HS1_32 c arg1 harg1 arg2 harg2 arg3 harg3 arg4 harg4 arg7 harg7 arg8 harg8 arg9 harg9 arg10 harg10 arg12 x0 x1 x2 x3 x6 x7 x8 x9) (rHead (hd p false)).toLoadRect) shapeCasts_S1x256x128_S256x128)
          (shapeCast S256x128 (arg13.view.readCov (kernelRun0_A.sl.HS1_32 c arg1 harg1 arg2 harg2 arg3 harg3 arg4 harg4 arg7 harg7 arg8 harg8 arg9 harg9 arg10 harg10 arg12 x0 x1 x2 x3 x6 x7 x8 x9) (rHead (hd p true)).toLoadRect) shapeCasts_S1x256x128_S256x128)
          (arg14.view.readCov (kernelRun0_A.sl.HS2_32 c arg1 harg1 arg2 harg2 arg3 harg3 arg4 harg4 arg7 harg7 arg8 harg8 arg9 harg9 arg10 harg10 arg12 x0 x1 x2 x3 x6 x7 x8 x9) (rSink (hd p false)).toLoadRect)
          (arg14.view.readCov (kernelRun0_A.sl.HS2_32 c arg1 harg1 arg2 harg2 arg3 harg3 arg4 harg4 arg7 harg7 arg8 harg8 arg9 harg9 arg10 harg10 arg12 x0 x1 x2 x3 x6 x7 x8 x9) (rSink (hd p true)).toLoadRect)⟩
            : View.Piece (Elt F) S128x2048 .bf16) := by
  rfl

theorem scores_read (h : Fin 32) : shapeCast S256x128 (arg12.view.readCov (kernelRun0_A.sl.HS0_32 c arg2 harg2 arg3 harg3 arg4 harg4 arg7 harg7 arg8 harg8 arg9 harg9 arg10 harg10 x1 x2 x3 x6 x7 x8 x9) (rHead h).toLoadRect) shapeCasts_S1x256x128_S256x128
    = score arg2 harg2 arg3 harg3 arg4 harg4 arg7 harg7 arg8 harg8 arg9 harg9 arg10 harg10 x1 x2 x3 x6 x7 x8 x9 h := by
  rw [scores_pieces, read_head]; exact shapeCast_shapeCast _ _ _

theorem weights_read (h : Fin 32) : shapeCast S256x128 (arg13.view.readCov (kernelRun0_A.sl.HS1_32 c arg1 harg1 arg2 harg2 arg3 harg3 arg4 harg4 arg7 harg7 arg8 harg8 arg9 harg9 arg10 harg10 arg12 x0 x1 x2 x3 x6 x7 x8 x9) (rHead h).toLoadRect) shapeCasts_S1x256x128_S256x128
    = ptile (score arg2 harg2 arg3 harg3 arg4 harg4 arg7 harg7 arg8 harg8 arg9 harg9 arg10 harg10 x1 x2 x3 x6 x7 x8 x9 h) (sinkv arg1 harg1 x0 h) := by
  rw [weights_pieces, read_head, scores_read]; exact shapeCast_shapeCast _ _ _

theorem sinks_read (h : Fin 32) : arg14.view.readCov (kernelRun0_A.sl.HS2_32 c arg1 harg1 arg2 harg2 arg3 harg3 arg4 harg4 arg7 harg7 arg8 harg8 arg9 harg9 arg10 harg10 arg12 x0 x1 x2 x3 x6 x7 x8 x9) (rSink h).toLoadRect
    = sktile (score arg2 harg2 arg3 harg3 arg4 harg4 arg7 harg7 arg8 harg8 arg9 harg9 arg10 harg10 x1 x2 x3 x6 x7 x8 x9 h) (sinkv arg1 harg1 x0 h) := by
  rw [sinks_pieces, read_sink, scores_read]; exact shapeCast_self _ _

/-- The output window after the body, at pair `p`'s rectangle. -/
theorem out_apply (p : Fin 16) (j : S128x128.Idx) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 ((rPair p).emb j)
      = otile (vals arg5 harg5 arg6 harg6 x4 x5 p false) (vals arg5 harg5 arg6 harg6 x4 x5 p true)
          (ptile (score arg2 harg2 arg3 harg3 arg4 harg4 arg7 harg7 arg8 harg8 arg9 harg9 arg10 harg10 x1 x2 x3 x6 x7 x8 x9 (hd p false)) (sinkv arg1 harg1 x0 (hd p false)))
          (ptile (score arg2 harg2 arg3 harg3 arg4 harg4 arg7 harg7 arg8 harg8 arg9 harg9 arg10 harg10 x1 x2 x3 x6 x7 x8 x9 (hd p true)) (sinkv arg1 harg1 x0 (hd p true)))
          (sktile (score arg2 harg2 arg3 harg3 arg4 harg4 arg7 harg7 arg8 harg8 arg9 harg9 arg10 harg10 x1 x2 x3 x6 x7 x8 x9 (hd p false)) (sinkv arg1 harg1 x0 (hd p false)))
          (sktile (score arg2 harg2 arg3 harg3 arg4 harg4 arg7 harg7 arg8 harg8 arg9 harg9 arg10 harg10 x1 x2 x3 x6 x7 x8 x9 (hd p true)) (sinkv arg1 harg1 x0 (hd p true))) j := by
  unfold out0_A_10
  rw [View.read_writes_junk_eq_canon, out_pieces]
  refine (canon_map rPair _ pair_disj p j pairs (mem_pairs p)).trans ?_
  rw [weights_read, weights_read, sinks_read, sinks_read]

end run

end Cert.KernelIdeal.Att
-- ==== Proof.Softmax.lean ====
/-
  A softmax with a sink, in extended reals: scores scaled by the reciprocal of log 2 under a power of two, divided once
  after the weighted sum, give the weights divided one by one under the exponential.
-/
module

public import Idealize.ShloMosaic.PureOps.Ideal.Laws

@[expose] public section

noncomputable section

namespace Cert.Softmax

open Idealize.ShloMosaic

/-- The reciprocal root mean square of 64 entries. -/
def rr (f : Fin 64 → EReal) : EReal :=
  Ideal.rsqrt (Ideal.div (∑ e, f e * f e) (Ideal.ofBits FTy.f32 1115684864#32) + Ideal.ofBits FTy.f32 897988541#32)

/-- The greatest of a column of scores and the sink. -/
def top {n : ℕ} (s : Fin n → EReal) (sink : EReal) : EReal := max (Finset.univ.fold max ⊥ s) sink

/-- The reciprocal of log 2. -/
def Lr : ℝ := (Real.log 2)⁻¹

theorem Lr_pos : 0 < Lr := inv_pos.mpr (Real.log_pos (by norm_num))

theorem real_mul_add (L : ℝ) (hL : 0 ≤ L) (x y : EReal) : (L : EReal) * (x + y) = L * x + L * y :=
  EReal.left_distrib_of_nonneg_of_ne_top (by exact_mod_cast hL) (EReal.coe_ne_top L) x y

theorem real_mul_sum {ι : Type} (L : ℝ) (hL : 0 ≤ L) (t : Finset ι) (f : ι → EReal) :
    (L : EReal) * ∑ i ∈ t, f i = ∑ i ∈ t, (L : EReal) * f i := by
  classical
  induction t using Finset.induction_on with
  | empty => simp
  | insert a t ha ih => rw [Finset.sum_insert ha, Finset.sum_insert ha, real_mul_add L hL, ih]

theorem sum_mul_real {ι : Type} (L : ℝ) (hL : 0 ≤ L) (t : Finset ι) (f : ι → EReal) :
    (∑ i ∈ t, f i) * (L : EReal) = ∑ i ∈ t, f i * (L : EReal) := by
  rw [mul_comm, real_mul_sum L hL]
  exact Finset.sum_congr rfl fun i _ => mul_comm _ _

theorem mono_mul (L : ℝ) (hL : 0 ≤ L) : Monotone fun x : EReal => (L : EReal) * x :=
  fun x y h => mul_le_mul_of_nonneg_left h (by exact_mod_cast hL)

theorem mul_max' (L : ℝ) (hL : 0 ≤ L) (x y : EReal) : (L : EReal) * max x y = max (L * x) (L * y) :=
  (mono_mul L hL).map_max

theorem mul_fold {ι : Type} (L : ℝ) (hL : 0 < L) (t : Finset ι) (f : ι → EReal) :
    (L : EReal) * t.fold max ⊥ f = t.fold max ⊥ fun i => (L : EReal) * f i := by
  classical
  induction t using Finset.induction_on with
  | empty => simpa using EReal.coe_mul_bot_of_pos hL
  | insert a t ha ih => rw [Finset.fold_insert ha, Finset.fold_insert ha, mul_max' L hL.le, ih]

theorem mul_top' {n : ℕ} (s : Fin n → EReal) (σ : EReal) : (Lr : EReal) * top s σ = top (fun j => (Lr : EReal) * s j) (Lr * σ) := by
  rw [top, mul_max' _ Lr_pos.le, mul_fold _ Lr_pos]; rfl

theorem fold_ne_top {ι : Type} (t : Finset ι) (f : ι → EReal) (h : ∀ i, f i ≠ ⊤) : t.fold max ⊥ f ≠ ⊤ := by
  classical
  induction t using Finset.induction_on with
  | empty => simp
  | insert a t ha ih =>
    rw [Finset.fold_insert ha]
    rcases max_choice (f a) (t.fold max ⊥ f) with e | e <;> rw [e]
    · exact h a
    · exact ih

theorem top_real {n : ℕ} (s : Fin n → EReal) (hs : ∀ j, s j ≠ ⊤) (σ : ℝ) : ∃ m : ℝ, top s σ = m := by
  have h1 : top s σ ≠ ⊤ := by
    rw [top]
    rcases max_choice (Finset.univ.fold max ⊥ s) (σ : EReal) with e | e <;> rw [e]
    · exact fold_ne_top _ _ hs
    · exact EReal.coe_ne_top σ
  have h2 : top s σ ≠ ⊥ := fun e => EReal.coe_ne_bot σ (le_bot_iff.mp (e ▸ le_max_right _ _))
  exact ⟨_, (EReal.coe_toReal h1 h2).symm⟩

theorem exp2_L (x : EReal) (hx : x ≠ ⊤) (m : ℝ) : Ideal.exp2 ((Lr : EReal) * x - (Lr : EReal) * m) = Ideal.exp (x - m) := by
  induction x using EReal.rec with
  | bot => rw [EReal.coe_mul_bot_of_pos Lr_pos, ← EReal.coe_mul, EReal.bot_sub, EReal.bot_sub]; rfl
  | top => exact absurd rfl hx
  | coe a =>
    rw [← EReal.coe_mul, ← EReal.coe_mul, ← EReal.coe_sub, ← EReal.coe_sub]
    show ((Real.rpow 2 _ : ℝ) : EReal) = ((Real.exp _ : ℝ) : EReal)
    congr 1
    show (2 : ℝ) ^ (Lr * a - Lr * m) = _
    rw [Real.rpow_def_of_pos (by norm_num), Lr]
    congr 1
    have : Real.log 2 ≠ 0 := (Real.log_pos (by norm_num)).ne'
    field_simp

theorem exp_real (x : EReal) (hx : x ≠ ⊤) (m : ℝ) : ∃ r : ℝ, 0 ≤ r ∧ Ideal.exp (x - m) = r := by
  induction x using EReal.rec with
  | bot => exact ⟨0, le_rfl, by rw [EReal.bot_sub]; rfl⟩
  | top => exact absurd rfl hx
  | coe a => exact ⟨Real.exp (a - m), (Real.exp_pos _).le, by rw [← EReal.coe_sub]; rfl⟩

theorem sum_coe {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The scaled softmax, divided at the end, is the softmax. Values under a score of minus infinity do not matter. -/
theorem core {n : ℕ} (s : Fin n → EReal) (hs : ∀ j, s j ≠ ⊤) (σ : ℝ) (v v' : Fin n → EReal) (hv : ∀ j, s j = ⊥ ∨ v j = v' j) :
    Ideal.div (∑ j, v j * Ideal.exp2 ((Lr : EReal) * s j - top (fun j => (Lr : EReal) * s j) (Lr * σ)))
      (∑ j, 1 * Ideal.exp2 ((Lr : EReal) * s j - top (fun j => (Lr : EReal) * s j) (Lr * σ))
        + Ideal.exp2 ((Lr : EReal) * σ - top (fun j => (Lr : EReal) * s j) (Lr * σ)))
    = ∑ j, v' j * Ideal.div (Ideal.exp (s j - top s σ)) (∑ j, Ideal.exp (s j - top s σ) + Ideal.exp (σ - top s σ)) := by
  rw [← mul_top']
  obtain ⟨m, hm⟩ := top_real s hs σ
  rw [hm]
  have e := fun j => exp2_L (s j) (hs j) m
  simp only [e, exp2_L σ (EReal.coe_ne_top σ) m, one_mul]
  choose p hp0 hp using fun j => exp_real (s j) (hs j) m
  have hq : Ideal.exp ((σ : EReal) - m) = ((Real.exp (σ - m) : ℝ) : EReal) := by rw [← EReal.coe_sub]; rfl
  have hD : ∑ j, Ideal.exp (s j - m) + Ideal.exp ((σ : EReal) - m) = ((∑ j, p j + Real.exp (σ - m) : ℝ) : EReal) := by
    rw [hq, Finset.sum_congr rfl fun j _ => hp j, sum_coe, ← EReal.coe_add]
  have hpos : 0 < ∑ j, p j + Real.exp (σ - m) := add_pos_of_nonneg_of_pos (Finset.sum_nonneg fun j _ => hp0 j) (Real.exp_pos _)
  rw [hD]
  generalize (∑ j, p j + Real.exp (σ - m)) = D at hpos
  have hd : ∀ x : EReal, Ideal.div x (D : EReal) = x * ((D⁻¹ : ℝ) : EReal) := by
    intro x
    rw [Ideal.div, if_neg (by exact_mod_cast hpos.ne'), EReal.coe_inv]
  simp only [hd]
  rw [sum_mul_real _ (inv_pos.mpr hpos).le]
  refine Finset.sum_congr rfl fun j _ => ?_
  rcases hv j with h | h
  · rw [h, EReal.bot_sub]
    show v j * (0 : EReal) * _ = v' j * ((0 : EReal) * _)
    simp
  · rw [h, mul_assoc]

end Cert.Softmax
-- ==== Proof.Tiles.lean ====
/-
  The attention kernel's tiles read at an index, in extended real arithmetic.
-/
module

public import proofs.«01_k».proof.Proof.Body
public import proofs.«01_k».proof.Proof.Softmax
public import Idealize.ShloMosaic.Lib.Pointwise

@[expose] public section

set_option maxRecDepth 16384

noncomputable section

namespace Cert.KernelIdeal.Att

open Cert.Softmax Cert.KernelIdeal Cert.KernelIdeal.Gen Idealize.ShloMosaic Idealize.ShloMosaic.TcCoe Idealize.SL.Sem

theorem log2e : (Named.named (F := Ideal) κ "log2e" (φ := .f32) 0x3FB8AA3B#32 : EReal) = (Lr : EReal) :=
  IdealRules.named_const.ideal_named_scalar _ _ _ _ rfl

theorem qscale : (Named.named (F := Ideal) κ "qscale" (φ := .f32) 0x3E38AA3B#32 : EReal) = ((1 / 8 * Lr : ℝ) : EReal) :=
  IdealRules.named_const.ideal_named_scalar _ _ _ _ rfl

/-- Lane `d` of the lower (`false`) or upper (`true`) half of a row of 128. -/
def lane (b : Bool) (d : Fin 64) : Fin 128 := ⟨(if b then 64 else 0) + d.1, by cases b <;> simp <;> omega⟩

theorem lane_lo (d : Fin 64) : (lane false d).1 = d.1 := by simp [lane]

theorem lane_hi (d : Fin 64) : (lane true d).1 = 64 + d.1 := by simp [lane]

theorem sum_lanes {M : Type} [AddCommMonoid M] (f : Fin 128 → M) :
    ∑ l, f l = ∑ d, f (lane false d) + ∑ d, f (lane true d) := by
  refine (Fin.sum_univ_add (a := 64) (b := 64) f).trans ?_
  refine congr (congrArg HAdd.hAdd ?_) ?_ <;> exact Finset.sum_congr rfl fun d _ => congrArg f (Fin.ext (by simp [lane]; try omega))

theorem lane_cases (l : Fin 128) : ∃ b d, l = lane b d := by
  by_cases h : l.1 < 64
  · exact ⟨false, ⟨l.1, h⟩, Fin.ext (by simp [lane])⟩
  · exact ⟨true, ⟨l.1 - 64, by omega⟩, Fin.ext (by simp [lane]; omega)⟩

theorem lt_lo (d : Fin 64) : (lane false d).1 < 64 := by rw [lane_lo]; exact d.2

theorem lt_hi (d : Fin 64) : ¬ (lane true d).1 < 64 := by rw [lane_hi]; omega

theorem div64 (x : EReal) : Ideal.div x (Ideal.ofBits FTy.f32 1115684864#32) = x * Ideal.ofBits FTy.f32 1015021568#32 := by
  have h1 : Ideal.ofBits FTy.f32 1115684864#32 = ((64 : ℝ) : EReal) := by
    simp [Ideal.ofBits, Ideal.ieee, -EReal.coe_mul]; norm_num
  have h2 : Ideal.ofBits FTy.f32 1015021568#32 = (((64 : ℝ)⁻¹ : ℝ) : EReal) := by
    simp [Ideal.ofBits, Ideal.ieee, -EReal.coe_mul]; norm_num
  rw [h1, h2, EReal.coe_inv, Ideal.div, if_neg (by norm_num)]

theorem col_lo (c : Fin 4) (a b : FVec Ideal S128x512 .f32) (j : Fin 256) (h : j.1 < 128) (l : Fin 128) :
    col c a b (ix2 j l) = a (ix2 ⟨j.1, h⟩ ⟨128 * c.1 + l.1, by omega⟩) := by
  pointwise [col]
  rw [dif_pos h]

theorem col_hi (c : Fin 4) (a b : FVec Ideal S128x512 .f32) (j : Fin 256) (h : ¬ j.1 < 128) (l : Fin 128) :
    col c a b (ix2 j l) = b (ix2 ⟨j.1 - 128, by omega⟩ ⟨128 * c.1 + l.1, by omega⟩) := by
  pointwise [col]
  rw [dif_neg h]

theorem knorm_apply (x : FVec Ideal S256x128 .f32) (seg : FVec Ideal S128x128 .bf16) (g : FVec Ideal S1x128 .f32)
    (hseg : ∀ b b' d d', seg (ix2 (lane b d) (lane b' d')) = if b = b' then 1 else 0)
    (j : Fin 256) (hx : ∀ l, ∃ r : ℝ, x (ix2 j l) = r) (b : Bool) (d : Fin 64) :
    knorm x seg g (ix2 j (lane b d)) =
      x (ix2 j (lane b d)) * rr (fun e => x (ix2 j (lane b e))) * g (ix2 0 (lane b d)) := by
  pointwise [knorm]
  have h0 : ∀ l, x (ix2 j l) * x (ix2 j l) - x (ix2 j l) * x (ix2 j l) = 0 := by
    intro l
    obtain ⟨r, hr⟩ := hx l
    rw [hr, ← EReal.coe_mul, ← EReal.coe_sub, sub_self, EReal.coe_zero]
  simp only [h0, zero_mul, Finset.sum_const_zero, add_zero]
  rw [sum_lanes]
  cases b <;> simp only [hseg, rr, div64, if_true, if_false, mul_one, mul_zero, Finset.sum_const_zero, add_zero, zero_add, Bool.false_eq_true, Bool.true_eq_false, reduceCtorEq]

theorem slt_lo (d : Fin 64) : IntOp.cmpi CmpIPredicate.slt (BitVec.ofNat 32 (lane false d).1) 64#32 = 1#1 := by
  revert d; decide +kernel

theorem slt_hi (d : Fin 64) : IntOp.cmpi CmpIPredicate.slt (BitVec.ofNat 32 (lane true d).1) 64#32 = 0#1 := by
  revert d; decide +kernel

theorem sel_lo (d : Fin 64) (x y : EReal) : Scalar.select (IntOp.cmpi CmpIPredicate.slt (BitVec.ofNat 32 (lane false d).1) 64#32) x y = x := by
  rw [slt_lo]; rfl

theorem sel_hi (d : Fin 64) (x y : EReal) : Scalar.select (IntOp.cmpi CmpIPredicate.slt (BitVec.ofNat 32 (lane true d).1) 64#32) x y = y := by
  rw [slt_hi]; rfl

theorem sel_nlo (d : Fin 64) (x y : EReal) : Scalar.select (IntOp.xori (IntOp.cmpi CmpIPredicate.slt (BitVec.ofNat 32 (lane false d).1) 64#32) 1#1) x y = y := by
  rw [slt_lo]; rfl

theorem sel_nhi (d : Fin 64) (x y : EReal) : Scalar.select (IntOp.xori (IntOp.cmpi CmpIPredicate.slt (BitVec.ofNat 32 (lane true d).1) 64#32) 1#1) x y = x := by
  rw [slt_hi]; rfl

theorem ktile_apply (kc : FVec Ideal S256x128 .f32) (odd half : Bool) (j : Fin 256) (b : Bool) (d : Fin 64) :
    ktile kc odd half (ix2 j (lane b d)) = if b = half then kc (ix2 j (lane odd d)) else 0 := by
  cases odd <;> cases half <;> cases b <;>
  simp only [ktile, Bool.false_eq_true, if_false, if_true, reduceCtorEq] <;>
  pointwise [k0_pay2, k0_pay3] <;>
  simp only [sel_lo, sel_hi, sel_nlo, sel_nhi] <;>
  exact congrArg kc (congrArg (ix2 j) (Fin.ext (by simp [lane]; omega)))

theorem vtile_apply (vc : FVec Ideal S256x128 .f32) (odd half : Bool) (j : Fin 256) (b : Bool) (d : Fin 64) :
    vtile vc odd half (ix2 (lane b d) j) = if b = half then vc (ix2 j (lane odd d)) else 1 := by
  cases odd <;> cases half <;> cases b <;>
  simp only [vtile, Bool.false_eq_true, if_false, if_true, reduceCtorEq] <;>
  pointwise <;>
  first
  | rw [dif_pos (lt_lo d)]
  | rw [dif_neg (lt_hi d)]
  all_goals try exact congrArg vc (congrArg (ix2 j) (Fin.ext (by simp [lane])))

theorem qtile_apply (q : FVec Ideal S128x128 .f32) (qg : Vec Ideal S128x128 .f32) (b : Bool) (d : Fin 64) (r : Fin 128) :
    qtile q qg (ix2 (lane b d) r) =
      q (ix2 r (lane b d)) * rr (fun e => q (ix2 r (lane b e))) * (qg (ix2 (lane b d) r) * ((1 / 8 * Lr : ℝ) : EReal)) := by
  cases b <;>
  pointwise [qtile, qms]
  · rw [dif_pos (lt_lo d)]
    have e : ∀ x : Fin 64, (⟨x.1, by omega⟩ : Fin 128) = lane false x := fun x => Fin.ext (by rw [lane_lo])
    simp only [e, rr]
    rw [qscale]
  · rw [dif_neg (lt_hi d)]
    have e : ∀ x : Fin 64, (⟨64 + x.1, by omega⟩ : Fin 128) = lane true x := fun x => Fin.ext (by rw [lane_hi])
    simp only [e, rr]
    rw [qscale]

theorem stile_apply (kc : FVec Ideal S256x128 .f32) (odd half : Bool) (q : FVec Ideal S128x128 .bf16) (b : FVec Ideal S1x1x256x128 .f32) (j : Fin 256) (r : Fin 128) :
    stile (ktile kc odd half) q b (ix2 j r) = ∑ d, kc (ix2 j (lane odd d)) * q (ix2 (lane half d) r) + b (ix4 0 0 j r) * (Lr : EReal) := by
  pointwise [stile]
  rw [log2e]
  rw [sum_lanes]
  simp only [ktile_apply]
  cases half <;> simp

theorem ninf : Ideal.ofBits FTy.f32 4286578688#32 = ⊥ := by
  simp [Ideal.ofBits, Ideal.ieee]

theorem ptile_apply (s : FVec Ideal S256x128 .f32) (sink : Ideal .f32) (j : Fin 256) (r : Fin 128) :
    ptile s sink (ix2 j r) = FloatOps.exp2 (F := Ideal) (φ := .f32) (s (ix2 j r) - top (fun x => s (ix2 x r)) sink) := by
  pointwise [ptile, mtile]
  rw [ninf]; rfl

theorem sktile_apply (s : FVec Ideal S256x128 .f32) (sink : Ideal .f32) (j : Fin 1) (r : Fin 128) :
    sktile s sink (ix2 j r) = FloatOps.exp2 (F := Ideal) (φ := .f32) (sink - top (fun x => s (ix2 x r)) sink) := by
  pointwise [sktile, mtile]
  rw [ninf]; rfl

theorem otile_apply (vl vh : FVec Ideal S128x256 .bf16) (p0 p1 : FVec Ideal S256x128 .bf16) (s0 s1 : FVec Ideal S1x128 .f32) (r : Fin 128) (b : Bool) (d : Fin 64) :
    otile vl vh p0 p1 s0 s1 (ix2 r (lane b d)) =
      Ideal.div (∑ x, (if b then vh else vl) (ix2 (lane b d) x) * (if b then p1 else p0) (ix2 x r))
        (∑ x, (if b then vh else vl) (ix2 (lane (!b) d) x) * (if b then p1 else p0) (ix2 x r) + (if b then s1 else s0) (ix2 0 r)) := by
  cases b
  · pointwise [otile]
    rw [dif_pos (lt_lo d), dif_pos (lt_lo d)]
    have e1 : (⟨64 + (lane false d).1, by have := lane_lo d; omega⟩ : Fin 128) = lane true d := Fin.ext (by have := lane_hi d; have := lane_lo d; simp; omega)
    simp only [if_false, e1, Bool.false_eq_true, Bool.not_false]
  · pointwise [otile]
    rw [dif_neg (lt_hi d), dif_neg (lt_hi d)]
    have e1 : (⟨64 + ((lane true d).1 - 64), by have := lane_hi d; omega⟩ : Fin 128) = lane true d := Fin.ext (by have := lane_hi d; simp; omega)
    have e2 : (⟨(lane true d).1 - 64, by have := lane_hi d; omega⟩ : Fin 128) = lane false d := Fin.ext (by have := lane_hi d; have := lane_lo d; simp; omega)
    simp only [if_true, e1, e2, Bool.not_true]

end Cert.KernelIdeal.Att
-- ==== Proof.Point.lean ====
/-
  What one grid point of the attention leaves in its output block, from the point's input blocks.
-/
module

public import proofs.«01_k».proof.Proof.Tiles
public import Idealize.ShloMosaic.Lib.Pipeline.ValueKit
public import Idealize.ShloMosaic.Lib.Pointwise

@[expose] public section

set_option maxRecDepth 16384

noncomputable section

namespace Cert.KernelIdeal.Att

open Cert.Softmax Cert.KernelIdeal Cert.KernelIdeal.Gen Idealize.ShloMosaic Idealize.ShloMosaic.TcCoe Idealize.SL.Sem

section loads

theorem load_q (v : Memref sig .tc .vmem S128x2048 .f32) (hv : v.IsWhole) (x : Vec Ideal S128x2048 .f32) (p : Fin 16) (r l : Fin 128) :
    View.readAt (Elt Ideal) v.view (rPair p).toLoadRect (hv.unread x) (ix2 r l) = x (ix2 r ⟨128 * p.1 + l.1, by omega⟩) := by
  rw [View.readAt_eq_ld, Memref.IsWhole.read_unread]
  pointwise [rPair]

theorem load_kv (v : Memref sig .tc .vmem S128x512 .f32) (hv : v.IsWhole) (x : Vec Ideal S128x512 .f32) :
    View.readAt (Elt Ideal) v.view rKv.toLoadRect (hv.unread x) = x := by
  rw [View.readAt_eq_ld, Memref.IsWhole.read_unread]
  exact View.ld_unit_lit _ _ (by decide)

theorem load_seg (v : Memref sig .tc .vmem S128x128 .bf16) (hv : v.IsWhole) (x : Vec Ideal S128x128 .bf16) :
    View.readAt (Elt Ideal) v.view rSeg.toLoadRect (hv.unread x) = x := by
  rw [View.readAt_eq_ld, Memref.IsWhole.read_unread]
  exact View.ld_unit_lit _ _ (by decide)

theorem load_qg (v : Memref sig .tc .vmem S128x128 .f32) (hv : v.IsWhole) (x : Vec Ideal S128x128 .f32) :
    View.readAt (Elt Ideal) v.view rSeg.toLoadRect (hv.unread x) = x := by
  rw [View.readAt_eq_ld, Memref.IsWhole.read_unread]
  exact View.ld_unit_lit _ _ (by decide)

theorem load_kg (v : Memref sig .tc .vmem S1x512 .f32) (hv : v.IsWhole) (x : Vec Ideal S1x512 .f32) (c : Fin 4) (l : Fin 128) :
    View.readAt (Elt Ideal) v.view (rGain c).toLoadRect (hv.unread x) (ix2 0 l) = x (ix2 0 ⟨128 * c.1 + l.1, by omega⟩) := by
  rw [View.readAt_eq_ld, Memref.IsWhole.read_unread]
  pointwise [rGain]

theorem load_bias (v : Memref sig .tc .vmem S1x32x256x128 .f32) (hv : v.IsWhole) (x : Vec Ideal S1x32x256x128 .f32) (h : Fin 32) (j : Fin 256) (r : Fin 128) :
    View.readAt (Elt Ideal) v.view (rBias h).toLoadRect (hv.unread x) (ix4 0 0 j r) = x (ix4 0 h j r) := by
  rw [View.readAt_eq_ld, Memref.IsWhole.read_unread]
  pointwise [rBias]

theorem load_sink (v : Memref sig .tc .smem S32 .f32) (hv : v.IsWhole) (x : Vec Ideal S32 .f32) (h : Fin 32) (i : S1.Idx) :
    View.readAt (Elt Ideal) v.view (rScal h).toLoadRect (hv.unread x) i = x (ix1 h) := by
  rw [View.readAt_eq_ld, Memref.IsWhole.read_unread]
  pointwise [rScal]

end loads

/-- Row `j` of the stacked previous and current block. -/
def stack (a b : Vec Ideal S128x512 .f32) (j : Fin 256) (n : Fin 512) : EReal :=
  if h : j.1 < 128 then a (ix2 ⟨j.1, h⟩ n) else b (ix2 ⟨j.1 - 128, by omega⟩ n)

/-- The column of entry `e` of key head `kv`. -/
def kvc (kv : Fin 8) (e : Fin 64) : Fin 512 := ⟨64 * kv.1 + e.1, by omega⟩

/-- The column of entry `e` of head `h`. -/
def hc (h : Fin 32) (e : Fin 64) : Fin 2048 := ⟨64 * h.1 + e.1, by omega⟩

/-- The key head of head `h`. -/
def kvOf (h : Fin 32) : Fin 8 := ⟨h.1 / 4, by omega⟩

theorem col_lane (c : Fin 4) (a b : Vec Ideal S128x512 .f32) (j : Fin 256) (l : Fin 128) :
    col c a b (ix2 j l) = stack a b j ⟨128 * c.1 + l.1, by omega⟩ := by
  by_cases h : j.1 < 128
  · rw [col_lo c a b j h l, stack, dif_pos h]
  · rw [col_hi c a b j h l, stack, dif_neg h]

theorem kv_lane (p : Fin 16) (b : Bool) (e : Fin 64) (hlt : 128 * (colOf p).1 + (lane (oddOf p) e).1 < 512) :
    (⟨128 * (colOf p).1 + (lane (oddOf p) e).1, hlt⟩ : Fin 512) = kvc (kvOf (hd p b)) e := by
  apply Fin.ext
  have hb : b.toNat ≤ 1 := by cases b <;> simp
  by_cases h : p.1 / 2 % 2 = 1
  · simp [oddOf, h, lane, colOf, kvc, kvOf, hd]; omega
  · simp [oddOf, h, lane, colOf, kvc, kvOf, hd]; omega

theorem hd_lane (p : Fin 16) (b : Bool) (e : Fin 64) (hlt : 128 * p.1 + (lane b e).1 < 2048) :
    (⟨128 * p.1 + (lane b e).1, hlt⟩ : Fin 2048) = hc (hd p b) e := by
  apply Fin.ext
  cases b <;> simp [lane, hc, hd] <;> omega

theorem kvOf_hd (p : Fin 16) : kvOf (hd p true) = kvOf (hd p false) := by
  apply Fin.ext
  simp [kvOf, hd]; omega

theorem pairOf_hd (p : Fin 16) (b : Bool) : pairOf (hd p b) = p := by
  apply Fin.ext
  cases b <;> simp [pairOf, hd] <;> omega

theorem halfOf_hd (p : Fin 16) (b : Bool) : halfOf (hd p b) = b := by
  cases b <;> simp [halfOf, hd] <;> omega

/-- Head `h`'s scaled score of key row `j` for query row `r`, from the point's blocks. -/
def sc (x1 : Vec Ideal S128x2048 .f32) (x2 x3 : Vec Ideal S128x512 .f32) (x6 : Vec Ideal S1x32x256x128 .f32)
    (x7 : Vec Ideal S128x128 .f32) (x8 : Vec Ideal S1x512 .f32) (p : Fin 16) (b : Bool) (r : Fin 128) (j : Fin 256) : EReal :=
  ∑ e, (stack x2 x3 j (kvc (kvOf (hd p b)) e) * rr (fun e => stack x2 x3 j (kvc (kvOf (hd p b)) e)) * x8 (ix2 0 (kvc (kvOf (hd p b)) e)))
      * (x1 (ix2 r (hc (hd p b) e)) * rr (fun e => x1 (ix2 r (hc (hd p b) e))) * (x7 (ix2 (lane b e) r) * ((1 / 8 * Lr : ℝ) : EReal)))
    + x6 (ix4 0 (hd p b) j r) * (Lr : EReal)

section run

variable (c : Dev nD) (i : grid0.Coords) (arg1 : Memref sig .tc .smem S32 .f32) (harg1 : arg1.IsWhole) (arg2 : Memref sig .tc .vmem S128x2048 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x32x256x128 .f32) (harg7 : arg7.IsWhole) (arg8 : Memref sig .tc .vmem S128x128 .f32) (harg8 : arg8.IsWhole) (arg9 : Memref sig .tc .vmem S1x512 .f32) (harg9 : arg9.IsWhole) (arg10 : Memref sig .tc .vmem S128x128 .bf16) (harg10 : arg10.IsWhole) (arg11 : Memref sig .tc .vmem S128x2048 .bf16) (harg11 : arg11.IsWhole) (arg12 : Memref sig .tc .vmem S32x256x128 .f32) (harg12 : arg12.IsWhole) (arg13 : Memref sig .tc .vmem S32x256x128 .bf16) (harg13 : arg13.IsWhole) (arg14 : Memref sig .tc .vmem S32x128 .f32) (harg14 : arg14.IsWhole)
    (x0 : Vec Ideal S32 .f32) (x1 : Vec Ideal S128x2048 .f32) (x2 : Vec Ideal S128x512 .f32) (x3 : Vec Ideal S128x512 .f32) (x4 : Vec Ideal S128x512 .f32) (x5 : Vec Ideal S128x512 .f32) (x6 : Vec Ideal S1x32x256x128 .f32) (x7 : Vec Ideal S128x128 .f32) (x8 : Vec Ideal S1x512 .f32) (x9 : Vec Ideal S128x128 .bf16)
    (hseg : ∀ b b' d d', x9 (ix2 (lane b d) (lane b' d')) = if b = b' then 1 else 0)
    (hk : ∀ j n, ∃ y : ℝ, stack x2 x3 j n = y)

include hseg hk in
theorem score_apply (p : Fin 16) (b : Bool) (r : Fin 128) (j : Fin 256) :
    score arg2 harg2 arg3 harg3 arg4 harg4 arg7 harg7 arg8 harg8 arg9 harg9 arg10 harg10 x1 x2 x3 x6 x7 x8 x9 (hd p b) (ix2 j r)
      = sc x1 x2 x3 x6 x7 x8 p b r j := by
  unfold score
  rw [stile_apply, load_kv, load_kv, load_seg, load_qg, load_bias, pairOf_hd, halfOf_hd, sc]
  congr 1
  refine Finset.sum_congr rfl fun e _ => ?_
  rw [knorm_apply _ _ _ hseg j (fun l => by rw [col_lane]; exact hk _ _), qtile_apply]
  simp only [col_lane, load_kg, load_q, kv_lane p b, hd_lane p b]

theorem sinkv_apply (h : Fin 32) : sinkv (F := Ideal) arg1 harg1 x0 h = (Lr : EReal) * x0 (ix1 h) := by
  unfold sinkv
  rw [load_sink, log2e]
  exact mul_comm _ _

include hseg hk in
/-- The output block at row `r` and entry `d` of head `hd p b`. -/
theorem out_point (p : Fin 16) (b : Bool) (r : Fin 128) (d : Fin 64) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9
        (ix2 r (hc (hd p b) d))
      = Ideal.div (∑ j, stack x4 x5 j (kvc (kvOf (hd p b)) d) * Ideal.exp2 (sc x1 x2 x3 x6 x7 x8 p b r j - top (sc x1 x2 x3 x6 x7 x8 p b r) ((Lr : EReal) * x0 (ix1 (hd p b)))))
          (∑ j, 1 * Ideal.exp2 (sc x1 x2 x3 x6 x7 x8 p b r j - top (sc x1 x2 x3 x6 x7 x8 p b r) ((Lr : EReal) * x0 (ix1 (hd p b))))
            + Ideal.exp2 ((Lr : EReal) * x0 (ix1 (hd p b)) - top (sc x1 x2 x3 x6 x7 x8 p b r) ((Lr : EReal) * x0 (ix1 (hd p b))))) := by
  have e : (ix2 r (hc (hd p b) d) : S128x2048.Idx) = (rPair p).emb (ix2 r (lane b d)) := by
    rw [← hd_lane p b d (by omega)]
    funext a
    apply Fin.ext
    fin_cases a
    · exact (Rect.idx_unit_val ..).trans (by simp) |>.symm
    · exact (Rect.idx_unit_val ..).trans (by simp) |>.symm
  rw [e, out_apply, otile_apply]
  have hs := fun j => score_apply arg2 harg2 arg3 harg3 arg4 harg4 arg7 harg7 arg8 harg8 arg9 harg9 arg10 harg10 x1 x2 x3 x6 x7 x8 x9 hseg hk p b r j
  cases b <;>
  · simp only [Bool.false_eq_true, if_false, if_true, Bool.not_false, Bool.not_true, ptile_apply, sktile_apply, hs, sinkv_apply, vals, vtile_apply, load_kv, col_lane,
      kv_lane p false, kv_lane p true, reduceCtorEq]
    first | rfl | (rw [kvOf_hd]; rfl)

end run

end Cert.KernelIdeal.Att
-- ==== Proof.Bucket.lean ====
module

public import proofs.«01_k».proof.Proof.Softmax
public import Idealize.ShloMosaic.Lib.Pointwise
public import Idealize.ShloMosaic.Lib.ValueIdx

@[expose] public section

set_option maxRecDepth 16384

noncomputable section

namespace Cert.Bucket

open Idealize.ShloMosaic Idealize.ShloMosaic.TcCoe

/-- The row of a table of 32 rows that an index word names: read signed and clamped into the table. -/
def clamp (w : BitVec 32) : Fin 32 := ⟨min w.toInt.toNat (32 - 1), by omega⟩

/-- Rows of a 32×32 table taken at a column of index words: entry `(p, y)` is the table's at the row that word `p` names. -/
theorem take_rows {α : Type} {n : Nat} (wf : GatherDims.WF ⟨2, ![32, 32]⟩ ⟨2, ![n, 1]⟩ ⟨2, ![n, 32]⟩ [1] [0] [] [0] [] 1 ![1, 32])
    (x : (⟨2, ![32, 32]⟩ : Shape).Idx → α) (idx : IVec ⟨2, ![n, 1]⟩ 32) (p : Fin n) (y : Fin 32) :
    Host.gather (⟨[1], [0], [], [], [0], 1, ![1, 32], wf⟩ : GatherDims ⟨2, ![32, 32]⟩ ⟨2, ![n, 1]⟩ ⟨2, ![n, 32]⟩) x idx (ix2 p y)
      = x (ix2 (clamp (idx (ix2 p 0))) y) := by
  unfold Host.gather
  congr 1
  funext a
  refine Fin.ext ?_
  match a with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (d : GatherDims ⟨2, ![32, 32]⟩ ⟨2, ![n, 1]⟩ ⟨2, ![n, 32]⟩) (hd : d = ⟨[1], [0], [], [], [0], 1, ![1, 32], wf⟩) k,
        d.siIdx (ix2 p y) k = ix2 p (0 : Fin 1) := by
      rintro _ rfl k
      funext b; refine Fin.ext ?_
      match b with
      | ⟨0, _⟩ => rfl
      | ⟨1, _⟩ => exact Nat.lt_one_iff.mp (Fin.isLt _)
    rw [hsi _ rfl]
    rfl
  | ⟨1, _⟩ =>
    show GatherDims.start _ _ _ 1 + GatherDims.batchCoord _ _ 1 + GatherDims.offCoord _ _ 1 = y.val
    rw [GatherDims.batchCoord_eq_zero _ _ _ List.not_mem_nil]
    unfold GatherDims.start
    rw [dif_neg (show ¬(1 : Fin 2) ∈ ([0] : List (Fin 2)) by decide)]
    simp only [Nat.zero_add, Nat.add_zero]
    rfl

/-- The same at a matrix of index words. -/
theorem take_rows2 {α : Type} {n k : Nat} (wf : GatherDims.WF ⟨2, ![32, 32]⟩ ⟨3, ![n, k, 1]⟩ ⟨3, ![n, k, 32]⟩ [2] [0] [] [0] [] 2 ![1, 32])
    (x : (⟨2, ![32, 32]⟩ : Shape).Idx → α) (idx : IVec ⟨3, ![n, k, 1]⟩ 32) (p : Fin n) (q : Fin k) (y : Fin 32) :
    Host.gather (⟨[2], [0], [], [], [0], 2, ![1, 32], wf⟩ : GatherDims ⟨2, ![32, 32]⟩ ⟨3, ![n, k, 1]⟩ ⟨3, ![n, k, 32]⟩) x idx (ix3 p q y)
      = x (ix2 (clamp (idx (ix3 p q 0))) y) := by
  unfold Host.gather
  congr 1
  funext a
  refine Fin.ext ?_
  match a with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (d : GatherDims ⟨2, ![32, 32]⟩ ⟨3, ![n, k, 1]⟩ ⟨3, ![n, k, 32]⟩) (hd : d = ⟨[2], [0], [], [], [0], 2, ![1, 32], wf⟩) j,
        d.siIdx (ix3 p q y) j = ix3 p q (0 : Fin 1) := by
      rintro _ rfl k
      funext b; refine Fin.ext ?_
      match b with
      | ⟨0, _⟩ => rfl
      | ⟨1, _⟩ => rfl
      | ⟨2, _⟩ => exact Nat.lt_one_iff.mp (Fin.isLt _)
    rw [hsi _ rfl]
    rfl
  | ⟨1, _⟩ =>
    show GatherDims.start _ _ _ 1 + GatherDims.batchCoord _ _ 1 + GatherDims.offCoord _ _ 1 = y.val
    rw [GatherDims.batchCoord_eq_zero _ _ _ List.not_mem_nil]
    unfold GatherDims.start
    rw [dif_neg (show ¬(1 : Fin 2) ∈ ([0] : List (Fin 2)) by decide)]
    simp only [Nat.zero_add, Nat.add_zero]
    rfl

/-- The relative-position bucket of a distance word, as the programs compute it over the extended reals. -/
def bkt (w : BitVec 32) : BitVec 32 :=
  Scalar.select (IntOp.cmpi CmpIPredicate.slt (IntOp.maxsi w 0#32) 16#32) (IntOp.maxsi w 0#32)
    (IntOp.minsi
      (IntOp.addi (16#32)
        (FloatOps.fptosi (F := Ideal) (φ := FTy.f32) 32
          (Ideal.div
              (Ideal.log
                (Ideal.div (FloatOps.sitofp (F := Ideal) FTy.f32 (IntOp.maxsi (IntOp.maxsi w 0#32) 1#32))
                  (Ideal.ofBits FTy.f32 1098907648#32)))
              (Ideal.ofBits FTy.f32 1074075026#32) *
            Ideal.ofBits FTy.f32 1098907648#32)))
      31#32)

/-- The row of the bias table for a distance word: a negative bucket counts from the table's end. -/
def row (w : BitVec 32) : Fin 32 :=
  clamp (Scalar.select (IntOp.cmpi CmpIPredicate.slt (bkt w) 0#32) (IntOp.addi (bkt w) 32#32) (bkt w))

/-- Query row `r` of a block sees key row `j` of the two stacked blocks: its distance is in `[0, 128)`. -/
def Band (r : Fin 128) (j : Fin 256) : Prop := j.val ≤ 128 + r.val ∧ r.val < j.val

instance (r : Fin 128) (j : Fin 256) : Decidable (Band r j) := by unfold Band; infer_instance

/-- The bias of head `h` at query row `r` and key row `j`, when `j` is in sight. -/
def relv (rel : (⟨2, ![32, 32]⟩ : Shape).Idx → EReal) (h : Fin 32) (r : Fin 128) (j : Fin 256) : EReal :=
  rel (ix2 (row (BitVec.ofNat 32 (128 + r.val - j.val))) h)

end Cert.Bucket
-- ==== Proof.Entry.lean ====
module

public import proofs.«01_k».proof.Proof.Point
public import proofs.«01_k».proof.Proof.Bucket
public import Idealize.ShloMosaic.Lib.Claim
public import Idealize.ShloMosaic.Lib.StableHlo.RunRead

@[expose] public section

set_option maxRecDepth 16384
set_option maxHeartbeats 1000000

noncomputable section

namespace Cert.KernelIdeal.Att

open Cert.Softmax Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

theorem v57 (c : Dev nD) (l r : Fin 128) : V m c main_v57 (ix2 l r) = m ((c : Thread nD τ).loc main_arg2) (ix1 ⟨l % 64, by omega⟩) := by
  simp only [V, List.flatten_cons, List.flatten_nil, List.append_nil, List.cons_append, List.nil_append]
  after_reads_simp
  pointwise

theorem v61 (c : Dev nD) (l : Fin 512) : V m c main_v61 (ix2 0 l) = m ((c : Thread nD τ).loc main_arg3) (ix1 ⟨l % 64, by omega⟩) := by
  simp only [V, List.flatten_cons, List.flatten_nil, List.append_nil, List.cons_append, List.nil_append]
  after_reads_simp
  pointwise

theorem segword : ∀ l : Fin 128, (Scalar.select
          (IntOp.andi
            (IntOp.cmpi CmpIPredicate.ne
              (if BitVec.ofNat 32 l.val = 0 then 0 else if (BitVec.ofNat 32 l.val).msb = true then -1 else 1 : BitVec 32)
              (if 64#32 = 0 then 0 else if BitVec.msb 64#32 = true then -1 else 1))
            (IntOp.cmpi CmpIPredicate.ne (IntOp.remsi ArithUnit.host (BitVec.ofNat 32 l.val) 64#32) 0#32))
          (IntOp.subi (IntOp.divsi ArithUnit.host (BitVec.ofNat 32 l.val) 64#32) 1#32)
          (IntOp.divsi ArithUnit.host (BitVec.ofNat 32 l.val) 64#32)) = BitVec.ofNat 32 (l.val / 64) := by decide +kernel

theorem seg_eq : ∀ l r : Fin 128, IntOp.cmpi CmpIPredicate.eq (BitVec.ofNat 32 (l.val / 64)) (BitVec.ofNat 32 (r.val / 64))
    = if l.val / 64 = r.val / 64 then 1#1 else 0#1 := by decide +kernel

/-- The segment table: one where two lanes belong to the same head, zero elsewhere. -/
theorem v52 (c : Dev nD) (l r : Fin 128) : V m c main_v52 (ix2 l r) = (if l.val / 64 = r.val / 64 then 1 else 0 : EReal) := by
  simp only [V, List.flatten_cons, List.flatten_nil, List.append_nil, List.cons_append, List.nil_append, TRef.binary, TRef.ternary, TRef.unary, TRef.nullary, TRef.toBuf, TRef.ofBuf, cast_eq]
  after_reads_simp
  pointwise
  have h64 : id (constantI S_ 32 64#32) ix0 = 64#32 := rfl
  simp only [h64]
  refine (congrArg₂ (fun a b => FloatOps.uitofp (F := Ideal) FTy.bf16 (IntOp.cmpi CmpIPredicate.eq a b)) (segword l) (segword r)).trans ?_
  simp only [seg_eq]
  split
  · show FloatOps.uitofp (F := Ideal) FTy.bf16 1#1 = _
    simp [FloatOps.uitofp]
  · show FloatOps.uitofp (F := Ideal) FTy.bf16 0#1 = _
    simp [FloatOps.uitofp]

theorem take (x : FVec Ideal S32x32 .f32) (idx : IVec S128x1 32) (p : Fin 128) (y : Fin 32) :
    Host.gather gather_S32x32_S128x1_S128x32_1_0_n_n_0_1_132 x idx (ix2 p y) = x (ix2 (Bucket.clamp (idx (ix2 p 0))) y) :=
  Bucket.take_rows _ x idx p y

theorem period : ∀ (j : Fin 256) (r : Fin 128), ((j.val * 511 + (128 + r.val)) % 512 < 128 ↔ Bucket.Band r j)
    ∧ (Bucket.Band r j → (j.val * 511 + (128 + r.val)) % 512 = 128 + r.val - j.val) := by
  intro j r
  have := j.isLt
  have := r.isLt
  unfold Bucket.Band
  omega

/-- The bias table of the later blocks of a sequence: the bias in the band, minus infinity outside it. -/
theorem v44 (c : Dev nD) (h : Fin 32) (j : Fin 256) (r : Fin 128) : V m c main_v44 (ix4 1 h j r)
    = (if Bucket.Band r j then Bucket.relv (m ((c : Thread nD τ).loc main_arg1)) h r j else ⊥ : EReal) := by
  simp only [V, List.flatten_cons, List.flatten_nil, List.append_nil, List.cons_append, List.nil_append, TRef.binary, TRef.ternary, TRef.unary, TRef.nullary, TRef.toBuf, TRef.ofBuf, cast_eq]
  after_reads_simp
  pointwise
  after_reads_simp
  pointwise
  simp only [take]
  pointwise
  by_cases hb : Bucket.Band r j
  · rw [dif_pos ((period j r).1.2 hb), if_pos hb, (period j r).2 hb]
    rfl
  · rw [dif_neg (fun h => hb ((period j r).1.1 h)), if_neg hb, ninf]

theorem sge128 : ∀ j : Fin 256, IntOp.cmpi CmpIPredicate.sge (BitVec.ofNat 32 j.val) 128#32 = if 128 ≤ j.val then 1#1 else 0#1 := by
  decide +kernel

/-- The bias table of the first block of a sequence: the rows before the block are hidden too. -/
theorem v44' (c : Dev nD) (h : Fin 32) (j : Fin 256) (r : Fin 128) : V m c main_v44 (ix4 0 h j r)
    = (if 128 ≤ j.val then (if Bucket.Band r j then Bucket.relv (m ((c : Thread nD τ).loc main_arg1)) h r j else ⊥) else ⊥ : EReal) := by
  simp only [V, List.flatten_cons, List.flatten_nil, List.append_nil, List.cons_append, List.nil_append, TRef.binary, TRef.ternary, TRef.unary, TRef.nullary, TRef.toBuf, TRef.ofBuf, cast_eq]
  after_reads_simp
  pointwise
  after_reads_simp
  pointwise
  simp only [take]
  pointwise
  have hn : id (constant (F := Ideal) S_ FTy.f32 4286578688#32) ix0 = Ideal.ofBits FTy.f32 4286578688#32 := rfl
  rw [sge128, hn]
  by_cases hj : 128 ≤ j.val
  · rw [if_pos hj, if_pos hj]
    refine (ValueIdx.select_one _ _).trans ?_
    by_cases hb : Bucket.Band r j
    · rw [dif_pos ((period j r).1.2 hb), if_pos hb, (period j r).2 hb]
      rfl
    · rw [dif_neg (fun h => hb ((period j r).1.1 h)), if_neg hb, ninf]
  · rw [if_neg hj, if_neg hj]
    exact ninf

end Cert.KernelIdeal.Att
-- ==== Proof.Spec.lean ====
/-
  The sliding-window attention in extended reals, entry by entry: what kernel and reference both compute.
-/
module

public import proofs.«01_k».proof.Proof.Softmax
public import proofs.«01_k».proof.Proof.Bucket

@[expose] public section

noncomputable section

namespace Cert.Spec

open Idealize.ShloMosaic Cert.Softmax Cert.Bucket

variable (x : (⟨2, ![8192, 18432]⟩ : Shape).Idx → EReal) (rel : (⟨2, ![32, 32]⟩ : Shape).Idx → EReal)
  (qg kg : (⟨1, ![64]⟩ : Shape).Idx → EReal) (sk : (⟨1, ![32]⟩ : Shape).Idx → EReal)

/-- The row of query `r` of block `t`. -/
def qrow (t : Fin 64) (r : Fin 128) : Fin 8192 := ⟨128 * t.val + r.val, by omega⟩

/-- The row of key `j` of block `t`: the block before and the block itself, stacked. -/
def krow (t : Fin 64) (j : Fin 256) : Fin 8192 := ⟨128 * t.val + j.val - 128, by omega⟩

/-- The query, key and value entries of head `h`, four heads to a key head. -/
def qe (t : Fin 64) (r : Fin 128) (h : Fin 32) (e : Fin 64) : EReal := x (ix2 (qrow t r) ⟨64 * h.val + e.val, by omega⟩)
def ke (t : Fin 64) (j : Fin 256) (h : Fin 32) (e : Fin 64) : EReal := x (ix2 (krow t j) ⟨2048 + (64 * (h.val / 4) + e.val), by omega⟩)
def ve (t : Fin 64) (j : Fin 256) (h : Fin 32) (e : Fin 64) : EReal := x (ix2 (krow t j) ⟨2560 + (64 * (h.val / 4) + e.val), by omega⟩)

/-- Key `j` lies in the sequence of block `t`: only a sequence's first block has none before it. -/
def Near (t : Fin 64) (j : Fin 256) : Prop := t.val % 16 ≠ 0 ∨ 128 ≤ j.val

instance (t : Fin 64) (j : Fin 256) : Decidable (Near t j) := by unfold Near; infer_instance

/-- The score of query `r` and key `j`; minus infinity where the query does not see the key. -/
def score (t : Fin 64) (h : Fin 32) (r : Fin 128) (j : Fin 256) : EReal :=
  if Band r j ∧ Near t j then
    (∑ e, (ke x t j h e * rr (ke x t j h) * kg (ix1 e)) * (qe x t r h e * rr (qe x t r h) * qg (ix1 e) * ((1 / 8 : ℝ) : EReal)))
      + relv rel h r j
  else ⊥

/-- Entry `d` of head `h` of query `r` of block `t`. -/
def out (t : Fin 64) (h : Fin 32) (r : Fin 128) (d : Fin 64) : EReal :=
  ∑ j, (if Near t j then ve x t j h d else 0)
    * Ideal.div (Ideal.exp (score x rel qg kg t h r j - top (score x rel qg kg t h r) (sk (ix1 h))))
        (∑ j, Ideal.exp (score x rel qg kg t h r j - top (score x rel qg kg t h r) (sk (ix1 h)))
          + Ideal.exp (sk (ix1 h) - top (score x rel qg kg t h r) (sk (ix1 h))))

/-- The whole result, rows of queries by columns of heads. -/
def att (i : (⟨2, ![8192, 2048]⟩ : Shape).Idx) : EReal :=
  out x rel qg kg sk ⟨(i 0).val / 128, by have := (i 0).isLt; simp at this; omega⟩ ⟨(i 1).val / 64, by have := (i 1).isLt; simp at this; omega⟩
    ⟨(i 0).val % 128, by omega⟩ ⟨(i 1).val % 64, by omega⟩

/-- A sum of squares with an infinite entry is infinite; else it is a real that is not negative. -/
theorem sumsq (f : Fin 64 → EReal) : (∃ s : ℝ, 0 ≤ s ∧ ∑ e, f e * f e = s ∧ ∀ e, ∃ y : ℝ, f e = y) ∨ ∑ e, f e * f e = ⊤ := by
  by_cases h : ∀ e, ∃ y : ℝ, f e = y
  · choose y hy using h
    refine .inl ⟨∑ e, y e * y e, Finset.sum_nonneg fun e _ => mul_self_nonneg _, ?_, fun e => ⟨y e, hy e⟩⟩
    rw [← sum_coe]
    exact Finset.sum_congr rfl fun e _ => by rw [hy, ← EReal.coe_mul]
  · push Not at h
    obtain ⟨e, he⟩ := h
    have hn : ∀ e, 0 ≤ f e * f e := fun e => by
      induction f e using EReal.rec with
      | bot => simp
      | top => simp
      | coe a => rw [← EReal.coe_mul]; exact_mod_cast mul_self_nonneg a
    have ht : f e * f e = ⊤ := by
      generalize f e = z at he
      induction z using EReal.rec with
      | bot => simp
      | top => simp
      | coe a => exact absurd rfl (he a)
    exact .inr (top_le_iff.mp (ht ▸ Finset.single_le_sum (f := fun e => f e * f e) (fun e _ => hn e) (Finset.mem_univ e)))

theorem c64 : Ideal.ofBits FTy.f32 1115684864#32 = ((64 : ℝ) : EReal) := by
  simp [Ideal.ofBits, Ideal.ieee, -EReal.coe_mul]; norm_num

theorem eps_pos : ∃ ε : ℝ, 0 < ε ∧ Ideal.ofBits FTy.f32 897988541#32 = (ε : EReal) := by
  refine ⟨_, ?_, by simp [Ideal.ofBits, Ideal.ieee, -EReal.coe_mul]; rfl⟩
  norm_num

/-- An entry over the root mean square of its row is a real, whatever the row holds. -/
theorem norm_real (f : Fin 64 → EReal) (e : Fin 64) : ∃ y : ℝ, f e * rr f = y := by
  obtain ⟨ε, hε, he⟩ := eps_pos
  have hd : ∀ z : EReal, Ideal.div z ((64 : ℝ) : EReal) = z * ((64⁻¹ : ℝ) : EReal) := fun z => by
    rw [Ideal.div, if_neg (by exact_mod_cast (by norm_num : (64 : ℝ) ≠ 0)), ← EReal.coe_inv]
  rcases sumsq f with ⟨s, hs, hsum, hf⟩ | hsum
  · obtain ⟨y, hy⟩ := hf e
    have hp : 0 < s * 64⁻¹ + ε := by positivity
    refine ⟨y * (Real.sqrt (s * 64⁻¹ + ε))⁻¹, ?_⟩
    rw [rr, hsum, he, c64, hd, ← EReal.coe_mul, ← EReal.coe_add, hy]
    show (y : EReal) * (if s * 64⁻¹ + ε < 0 then ⊥ else if s * 64⁻¹ + ε = 0 then ⊤ else ((Real.sqrt (s * 64⁻¹ + ε))⁻¹ : ℝ) : EReal) = _
    rw [if_neg hp.not_gt, if_neg hp.ne', ← EReal.coe_mul]
  · refine ⟨0, ?_⟩
    rw [rr, hsum, he, c64, hd, EReal.top_mul_coe_of_pos (by norm_num), EReal.top_add_coe]
    show f e * 0 = _
    simp

/-- With finite gains and a finite bias table no score is plus infinity. -/
theorem score_ne_top (hq : ∀ e, ∃ y : ℝ, qg (ix1 e) = y) (hk : ∀ e, ∃ y : ℝ, kg (ix1 e) = y) (hr : ∀ i, ∃ y : ℝ, rel i = y)
    (t : Fin 64) (h : Fin 32) (r : Fin 128) (j : Fin 256) : score x rel qg kg t h r j ≠ ⊤ := by
  unfold score
  split
  · choose a ha using hq
    choose b hb using hk
    choose u hu using norm_real (ke x t j h)
    choose v hv using norm_real (qe x t r h)
    obtain ⟨y, hy⟩ := hr (ix2 (row (BitVec.ofNat 32 (128 + r.val - j.val))) h)
    rw [relv, hy]
    simp only [hu, hv, ha, hb, ← EReal.coe_mul]
    rw [sum_coe, ← EReal.coe_add]
    exact EReal.coe_ne_top _
  · exact bot_ne_top

end Cert.Spec
-- ==== Proof.Blocks.lean ====
/-
  The blocks that a grid point of the attention kernel works on, read off the arrays.
-/
module

public import proofs.«01_k».proof.Proof.Entry
public import proofs.«01_k».proof.Proof.Spec
public import proofs.«01_k».proof.Proof.Gen.KernelIdeal.Value
public import Idealize.ShloMosaic.Lib.Pipeline.ValueKit

@[expose] public section

set_option maxRecDepth 16384
set_option maxHeartbeats 1000000

noncomputable section

namespace Cert.KernelIdeal.Att

open Cert.Softmax Cert.KernelIdeal Cert.KernelIdeal.Gen Idealize.ShloMosaic Idealize.ShloMosaic.TcCoe Idealize.SL.Sem
variable (m : (ℓ : Loc nD τ sig) → Buf (Elt Ideal) ℓ)

/-- The block before `t`, in `t`'s own sequence; a sequence's first block takes itself. -/
def prev (t : ℕ) : ℕ := if t % 16 = 0 then t else t - 1

theorem idx : ∀ t : Fin cfg0.N, win0_0.index t = ![0] ∧ win0_1.index t = ![t.val, 0] ∧ win0_2.index t = ![prev t.val, 4] ∧ win0_3.index t = ![t.val, 4]
    ∧ win0_4.index t = ![prev t.val, 5] ∧ win0_5.index t = ![t.val, 5] ∧ win0_6.index t = ![if t.val % 16 = 0 then 0 else 1, 0, 0, 0]
    ∧ win0_7.index t = ![0, 0] ∧ win0_8.index t = ![0, 0] ∧ win0_9.index t = ![0, 0] ∧ win0_10.index t = ![t.val, 0] :=
  (by decide +kernel : ∀ t : Fin grid0.N, _)

theorem N64 : cfg0.N = 64 := by decide

theorem tlt (t : Fin cfg0.N) : t.val < 64 := N64 ▸ t.isLt

theorem prev_le (t : ℕ) : prev t ≤ t := by unfold prev; split <;> omega

theorem rd0 (c : Dev nD) (t : Fin cfg0.N) (h : Fin 32) : iblk m c 0 t (ix1 h) = m ((c : Thread nD τ).loc main_arg4) (ix1 h) := by
  rw [← V_main_arg4 m c]
  blk_ext [iblk, idx t]

theorem rd1 (c : Dev nD) (t : Fin cfg0.N) (r : Fin 128) (n : Fin 2048) : iblk m c 1 t (ix2 r n)
    = m ((c : Thread nD τ).loc main_arg0) (ix2 ⟨128 * t.val + r.val, by have := tlt t; omega⟩ ⟨n.val, by omega⟩) := by
  rw [← V_main_arg0 m c]
  blk_ext [iblk, idx t]

theorem rd2 (c : Dev nD) (t : Fin cfg0.N) (r : Fin 128) (n : Fin 512) : iblk m c 2 t (ix2 r n)
    = m ((c : Thread nD τ).loc main_arg0) (ix2 ⟨128 * prev t.val + r.val, by have := tlt t; have := prev_le t.val; omega⟩ ⟨2048 + n.val, by omega⟩) := by
  rw [← V_main_arg0 m c]
  blk_ext [iblk, idx t]

theorem rd3 (c : Dev nD) (t : Fin cfg0.N) (r : Fin 128) (n : Fin 512) : iblk m c 3 t (ix2 r n)
    = m ((c : Thread nD τ).loc main_arg0) (ix2 ⟨128 * t.val + r.val, by have := tlt t; omega⟩ ⟨2048 + n.val, by omega⟩) := by
  rw [← V_main_arg0 m c]
  blk_ext [iblk, idx t]

theorem rd4 (c : Dev nD) (t : Fin cfg0.N) (r : Fin 128) (n : Fin 512) : iblk m c 4 t (ix2 r n)
    = m ((c : Thread nD τ).loc main_arg0) (ix2 ⟨128 * prev t.val + r.val, by have := tlt t; have := prev_le t.val; omega⟩ ⟨2560 + n.val, by omega⟩) := by
  rw [← V_main_arg0 m c]
  blk_ext [iblk, idx t]

theorem rd5 (c : Dev nD) (t : Fin cfg0.N) (r : Fin 128) (n : Fin 512) : iblk m c 5 t (ix2 r n)
    = m ((c : Thread nD τ).loc main_arg0) (ix2 ⟨128 * t.val + r.val, by have := tlt t; omega⟩ ⟨2560 + n.val, by omega⟩) := by
  rw [← V_main_arg0 m c]
  blk_ext [iblk, idx t]

theorem rd6 (c : Dev nD) (t : Fin cfg0.N) (h : Fin 32) (j : Fin 256) (r : Fin 128) : iblk m c 6 t (ix4 0 h j r)
    = V m c main_v44 (ix4 (if t.val % 16 = 0 then 0 else 1) h j r) := by
  by_cases ht : t.val % 16 = 0
  · blk_ext [iblk, idx t, ht]
    simp
  · blk_ext [iblk, idx t, ht]
    simp

theorem rd7 (c : Dev nD) (t : Fin cfg0.N) (l r : Fin 128) : iblk m c 7 t (ix2 l r) = V m c main_v57 (ix2 l r) := by
  blk_ext [iblk, idx t]

theorem rd8 (c : Dev nD) (t : Fin cfg0.N) (l : Fin 512) : iblk m c 8 t (ix2 0 l) = V m c main_v61 (ix2 0 l) := by
  blk_ext [iblk, idx t]

theorem rd9 (c : Dev nD) (t : Fin cfg0.N) (l r : Fin 128) : iblk m c 9 t (ix2 l r) = V m c main_v52 (ix2 l r) := by
  blk_ext [iblk, idx t]

end Cert.KernelIdeal.Att
-- ==== Proof.Final.lean ====
/-
  The attention kernel's result array, entry by entry.
-/
module

public import proofs.«01_k».proof.Proof.Blocks
public import proofs.«01_k».proof.Proof.Gen.KernelIdeal.Value
public import Idealize.ShloMosaic.Lib.Pipeline.ValueKit

@[expose] public section

set_option maxRecDepth 16384
set_option maxHeartbeats 1000000

noncomputable section

namespace Cert.KernelIdeal.Att

open Cert.Softmax Cert.KernelIdeal Cert.KernelIdeal.Gen Idealize.ShloMosaic Idealize.ShloMosaic.TcCoe Idealize.SL.Sem
variable (m : (ℓ : Loc nD τ sig) → Buf (Elt Ideal) ℓ)

abbrev X (c : Dev nD) : S8192x18432.Idx → EReal := m ((c : Thread nD τ).loc main_arg0)
abbrev REL (c : Dev nD) : S32x32.Idx → EReal := m ((c : Thread nD τ).loc main_arg1)
abbrev QG (c : Dev nD) : S64.Idx → EReal := m ((c : Thread nD τ).loc main_arg2)
abbrev KG (c : Dev nD) : S64.Idx → EReal := m ((c : Thread nD τ).loc main_arg3)
abbrev SK (c : Dev nD) : S32.Idx → EReal := m ((c : Thread nD τ).loc main_arg4)

/-- A grid point as a block of rows. -/
def blkOf (t : Fin cfg0.N) : Fin 64 := ⟨t.val, tlt t⟩

theorem stack_k (c : Dev nD) (t : Fin cfg0.N) (j : Fin 256) (n : Fin 512) (hn : Spec.Near (blkOf t) j) :
    stack (iblk m c 2 t) (iblk m c 3 t) j n = X m c (ix2 (Spec.krow (blkOf t) j) ⟨2048 + n.val, by omega⟩) := by
  have ht := tlt t
  unfold stack
  split
  · rename_i hj
    rw [rd2]
    congr 2
    apply Fin.ext
    unfold Spec.Near blkOf at hn
    simp only [prev, Spec.krow, blkOf] at *
    rw [if_neg (by omega)]
    omega
  · rename_i hj
    rw [rd3]
    congr 2
    apply Fin.ext
    simp only [Spec.krow, blkOf]
    omega

theorem stack_v (c : Dev nD) (t : Fin cfg0.N) (j : Fin 256) (n : Fin 512) (hn : Spec.Near (blkOf t) j) :
    stack (iblk m c 4 t) (iblk m c 5 t) j n = X m c (ix2 (Spec.krow (blkOf t) j) ⟨2560 + n.val, by omega⟩) := by
  have ht := tlt t
  unfold stack
  split
  · rename_i hj
    rw [rd4]
    congr 2
    apply Fin.ext
    unfold Spec.Near blkOf at hn
    simp only [prev, Spec.krow, blkOf] at *
    rw [if_neg (by omega)]
    omega
  · rename_i hj
    rw [rd5]
    congr 2
    apply Fin.ext
    simp only [Spec.krow, blkOf]
    omega

theorem stack_real (c : Dev nD) (t : Fin cfg0.N) (hfin : ∀ (i : Fin 8192) (n : Fin 512), ∃ y : ℝ, X m c (ix2 i ⟨2048 + n.val, by omega⟩) = y)
    (j : Fin 256) (n : Fin 512) : ∃ y : ℝ, stack (iblk m c 2 t) (iblk m c 3 t) j n = y := by
  unfold stack
  split
  · rw [rd2]; exact hfin _ _
  · rw [rd3]; exact hfin _ _

theorem bias_eq (c : Dev nD) (t : Fin cfg0.N) (h : Fin 32) (j : Fin 256) (r : Fin 128) : iblk m c 6 t (ix4 0 h j r)
    = (if Bucket.Band r j ∧ Spec.Near (blkOf t) j then Bucket.relv (REL m c) h r j else ⊥ : EReal) := by
  rw [rd6]
  unfold Spec.Near blkOf
  by_cases ht : t.val % 16 = 0
  · rw [if_pos ht, v44']
    by_cases hj : 128 ≤ j.val <;> simp [ht, hj]
  · rw [if_neg ht, v44]
    simp [ht]

theorem seg_lanes (c : Dev nD) (t : Fin cfg0.N) (b b' : Bool) (d d' : Fin 64) :
    iblk m c 9 t (ix2 (lane b d) (lane b' d')) = (if b = b' then 1 else 0 : EReal) := by
  rw [rd9, v52]
  congr 1
  have := d.isLt
  have := d'.isLt
  cases b <;> cases b' <;> simp only [lane_lo, lane_hi, eq_iff_iff] <;> simp <;> omega

theorem score_eq (c : Dev nD) (t : Fin cfg0.N) (p : Fin 16) (b : Bool) (r : Fin 128) (j : Fin 256) :
    sc (iblk m c 1 t) (iblk m c 2 t) (iblk m c 3 t) (iblk m c 6 t) (iblk m c 7 t) (iblk m c 8 t) p b r j
      = (Lr : EReal) * Spec.score (X m c) (REL m c) (QG m c) (KG m c) (blkOf t) (hd p b) r j := by
  unfold sc Spec.score
  rw [bias_eq]
  by_cases hs : Bucket.Band r j ∧ Spec.Near (blkOf t) j
  · rw [if_pos hs, if_pos hs, real_mul_add _ Lr_pos.le, real_mul_sum _ Lr_pos.le]
    have hkk : (fun e => stack (iblk m c 2 t) (iblk m c 3 t) j (kvc (kvOf (hd p b)) e)) = Spec.ke (X m c) (blkOf t) j (hd p b) :=
      funext fun e => stack_k m c t j _ hs.2
    have hqq : (fun e => iblk m c 1 t (ix2 r (hc (hd p b) e))) = Spec.qe (X m c) (blkOf t) r (hd p b) :=
      funext fun e => rd1 m c t r _
    refine congrArg₂ (· + ·) (Finset.sum_congr rfl fun e _ => ?_) (mul_comm _ _)
    rw [hkk, hqq, congrFun hkk e, congrFun hqq e, rd7, rd8, v57, v61]
    have h1 : (⟨(kvc (kvOf (hd p b)) e).val % 64, by omega⟩ : Fin 64) = e := by
      apply Fin.ext
      show (64 * _ + e.val) % 64 = e.val
      have := e.isLt
      omega
    have h2 : (⟨(lane b e).val % 64, by omega⟩ : Fin 64) = e := by
      apply Fin.ext
      have := e.isLt
      cases b <;> simp only [lane_lo, lane_hi] <;> omega
    rw [h1, h2, EReal.coe_mul]
    show _ * _ * KG m c (ix1 e) * (_ * _ * (QG m c (ix1 e) * _)) = _
    ac_rfl
  · rw [if_neg hs, if_neg hs, EReal.bot_mul_coe_of_pos Lr_pos, EReal.add_bot, EReal.coe_mul_bot_of_pos Lr_pos]

/-- What the body leaves at one entry of its block is the attention's entry. -/
theorem point_eq (c : Dev nD) (hfin : ∀ (i : Fin 8192) (n : Fin 512), ∃ y : ℝ, X m c (ix2 i ⟨2048 + n.val, by omega⟩) = y)
    (hq : ∀ e, ∃ y : ℝ, QG m c (ix1 e) = y) (hk : ∀ e, ∃ y : ℝ, KG m c (ix1 e) = y) (hr : ∀ i, ∃ y : ℝ, REL m c i = y)
    (hsk : ∀ h, ∃ y : ℝ, SK m c (ix1 h) = y) (t : Fin cfg0.N) (p : Fin 16) (b : Bool) (r : Fin 128) (d : Fin 64) :
    outsAt0 m c t (ix2 r (hc (hd p b) d)) = Spec.out (X m c) (REL m c) (QG m c) (KG m c) (SK m c) (blkOf t) (hd p b) r d := by
  unfold outsAt0
  refine (out_point (hseg := fun b b' d d' => seg_lanes m c t b b' d d') (hk := fun j n => stack_real m c t hfin j n) (p := p) (b := b) (r := r) (d := d) ..).trans ?_
  obtain ⟨σ, hσ⟩ := hsk (hd p b)
  have hsc : sc (iblk m c 1 t) (iblk m c 2 t) (iblk m c 3 t) (iblk m c 6 t) (iblk m c 7 t) (iblk m c 8 t) p b r
      = fun j => (Lr : EReal) * Spec.score (X m c) (REL m c) (QG m c) (KG m c) (blkOf t) (hd p b) r j := funext fun j => score_eq m c t p b r j
  have hσ' : m ((c : Thread nD τ).loc main_arg4) (ix1 (hd p b)) = (σ : EReal) := hσ
  rw [hsc, rd0, hσ']
  unfold Spec.out
  rw [hσ]
  refine core _ (fun j => Spec.score_ne_top _ _ _ _ hq hk hr _ _ _ j) σ _ _ fun j => ?_
  by_cases hn : Spec.Near (blkOf t) j
  · right
    rw [if_pos hn]
    exact stack_v m c t j _ hn
  · left
    exact if_neg fun h => hn h.2

/-- The kernel's result array is the attention. -/
theorem final_eq (c : Dev nD) (hfin : ∀ (i : Fin 8192) (n : Fin 512), ∃ y : ℝ, X m c (ix2 i ⟨2048 + n.val, by omega⟩) = y)
    (hq : ∀ e, ∃ y : ℝ, QG m c (ix1 e) = y) (hk : ∀ e, ∃ y : ℝ, KG m c (ix1 e) = y) (hr : ∀ i, ∃ y : ℝ, REL m c i = y)
    (hsk : ∀ h, ∃ y : ℝ, SK m c (ix1 h) = y) :
    (dats m 0 c).arrAt 10 cfg0.N = Spec.att (X m c) (REL m c) (QG m c) (KG m c) (SK m c) := by
  refine (dats m 0 c).arrAt_eq_of_covers 10 (Spec.att (X m c) (REL m c) (QG m c) (KG m c) (SK m c)) (by decide +kernel) fun t hf y => ?_
  blk_simp
  rw [after0_10]
  have h0 : (y 0).val < 128 := (y 0).isLt
  have h1 : (y 1).val < 2048 := (y 1).isLt
  have ht := tlt t
  have hb : ∀ n : ℕ, (decide (n % 2 = 1)).toNat = n % 2 := fun n => by
    rcases Nat.mod_two_eq_zero_or_one n with h | h <;> simp [h]
  have hy : y = ix2 ⟨(y 0).val, h0⟩ (hc (hd ⟨(y 1).val / 128, by omega⟩ (decide ((y 1).val / 64 % 2 = 1))) ⟨(y 1).val % 64, by omega⟩) := by
    funext a
    apply Fin.ext
    match a with
    | ⟨0, _⟩ => rfl
    | ⟨1, _⟩ =>
      show (y 1).val = 64 * (2 * ((y 1).val / 128) + (decide ((y 1).val / 64 % 2 = 1)).toNat) + (y 1).val % 64
      rw [hb]
      omega
  refine (congrArg (outsAt0 m c t) hy).trans ((point_eq m c hfin hq hk hr hsk t _ _ _ _).trans ?_)
  have e0 : (((win0_10.blk t).view.emb y) 0).val = 128 * t.val + (y 0).val := by
    blk_simp [idx t]
    omega
  have e1 : (((win0_10.blk t).view.emb y) 1).val = (y 1).val := by
    blk_simp [idx t]
    try omega
  unfold Spec.att
  congr 1
  · apply Fin.ext
    show t.val = _ / 128
    rw [e0]
    omega
  · apply Fin.ext
    show 2 * ((y 1).val / 128) + (decide ((y 1).val / 64 % 2 = 1)).toNat = _ / 64
    rw [e1, hb]
    omega
  · apply Fin.ext
    show (y 0).val = _ % 128
    rw [e0]
    omega
  · apply Fin.ext
    show (y 1).val % 64 = _ % 64
    rw [e1]

end Cert.KernelIdeal.Att
-- ==== Proof.RefA.lean ====
/-
  The reference's queries, keys, values, bias and mask, entry by entry.
-/
module

public import proofs.«01_k».proof.Proof.Spec
public import proofs.«01_k».proof.Proof.Gen.ReferenceIdeal.Read
public import Idealize.ShloMosaic.Lib.ValueIdxRank6
public import Idealize.ShloMosaic.Lib.KernelVsHost

@[expose] public section

set_option maxRecDepth 16384
set_option maxHeartbeats 1000000

noncomputable section

namespace Cert.ReferenceIdeal.Att

open Cert.Softmax Cert.ReferenceIdeal Cert.ReferenceIdeal.Gen Cert.ReferenceIdeal.Read Idealize.ShloMosaic Idealize.ShloMosaic.TcCoe

variable (x : (⟨2, ![8192, 18432]⟩ : Shape).Idx → EReal) (rel : (⟨2, ![32, 32]⟩ : Shape).Idx → EReal)
  (qg kg : (⟨1, ![64]⟩ : Shape).Idx → EReal) (sk : (⟨1, ![32]⟩ : Shape).Idx → EReal)

theorem v61 (b : Fin 4) (s : Fin 2048) (h : Fin 32) (e : Fin 64) : val_main_v61 (F := Ideal) x (ix4 b s h e)
    = x (ix2 ⟨2048 * b.val + s.val, by omega⟩ ⟨64 * h.val + e.val, by omega⟩) := by
  pointwise [val_main_v61, val_main_v58, val_main_v57]
  refine congrArg x (funext fun a => Fin.ext ?_)
  match a with
  | ⟨0, _⟩ => simp; try omega
  | ⟨1, _⟩ => simp; try omega

theorem v78 (b : Fin 4) (s : Fin 2048) (h : Fin 8) (e : Fin 64) : val_main_v78 (F := Ideal) x (ix4 b s h e)
    = x (ix2 ⟨2048 * b.val + s.val, by omega⟩ ⟨2048 + (64 * h.val + e.val), by omega⟩) := by
  pointwise [val_main_v78, val_main_v59, val_main_v57]
  refine congrArg x (funext fun a => Fin.ext ?_)
  match a with
  | ⟨0, _⟩ => simp; try omega
  | ⟨1, _⟩ => simp; try omega

theorem v98 (b : Fin 4) (s : Fin 2048) (h : Fin 8) (e : Fin 64) : val_main_v98 (F := Ideal) x (ix4 b s h e)
    = x (ix2 ⟨2048 * b.val + s.val, by omega⟩ ⟨2560 + (64 * h.val + e.val), by omega⟩) := by
  pointwise [val_main_v98, val_main_v60, val_main_v57]
  refine congrArg x (funext fun a => Fin.ext ?_)
  match a with
  | ⟨0, _⟩ => simp; try omega
  | ⟨1, _⟩ => simp; try omega

theorem zero : Ideal.ofBits FTy.f32 0#32 = 0 := by simp [Ideal.ofBits, Ideal.ieee]

theorem eighth : Ideal.ofBits FTy.f32 0x3E000000#32 = ((1 / 8 : ℝ) : EReal) := by
  simp [Ideal.ofBits, Ideal.ieee, -EReal.coe_mul]; norm_num

theorem v76 (b : Fin 4) (s : Fin 2048) (h : Fin 32) (e : Fin 64) : val_main_v76 (F := Ideal) x qg (ix4 b s h e)
    = val_main_v61 (F := Ideal) x (ix4 b s h e) * rr (fun e => val_main_v61 (F := Ideal) x (ix4 b s h e)) * qg (ix1 e) * ((1 / 8 : ℝ) : EReal) := by
  pointwise [val_main_v76, val_main_v74, val_main_v71, val_main_v70, val_main_v69, val_main_v68, val_main_v66, val_main_v64, val_main_v63, val_main_v62, val_main_v65, val_main_v67, val_main_v72, val_main_v73, val_main_v75, val_main_cst_13, val_main_cst_14, val_main_cst_15, val_main_cst_16]
  rw [eighth]
  rfl

theorem v91 (b : Fin 4) (s : Fin 2048) (h : Fin 8) (e : Fin 64) : val_main_v91 (F := Ideal) x kg (ix4 b s h e)
    = val_main_v78 (F := Ideal) x (ix4 b s h e) * rr (fun e => val_main_v78 (F := Ideal) x (ix4 b s h e)) * kg (ix1 e) := by
  pointwise [val_main_v91, val_main_v88, val_main_v87, val_main_v86, val_main_v85, val_main_v83, val_main_v81, val_main_v80, val_main_v79, val_main_v82, val_main_v84, val_main_v89, val_main_v90, val_main_cst_17, val_main_cst_18, val_main_cst_19]
  rfl

/-- The block of sequence `b` with number `n`. -/
def tb (b : Fin 4) (n : Fin 16) : Fin 64 := ⟨16 * b.val + n.val, by omega⟩

/-- The head `g` of the key head `k`. -/
def hd (k : Fin 8) (g : Fin 4) : Fin 32 := ⟨4 * k.val + g.val, by omega⟩

theorem v77 (b : Fin 4) (n : Fin 16) (r : Fin 128) (k : Fin 8) (g : Fin 4) (e : Fin 64) :
    val_main_v77 (F := Ideal) x qg (ValueIdx.ix6 b n r k g e)
    = Spec.qe x (tb b n) r (hd k g) e * rr (Spec.qe x (tb b n) r (hd k g)) * qg (ix1 e) * ((1 / 8 : ℝ) : EReal) := by
  unfold val_main_v77
  rw [shapeCast_apply _ _ (ValueIdx.ix6 b n r k g e) (ix4 b (⟨128 * n.val + r.val, by omega⟩ : Fin 2048) (hd k g) e)
    (by
      rw [Shape.rowMajor_val_four, Shape.rowMajor_val_six]
      show ((b.val * 2048 + (128 * n.val + r.val)) * 32 + (4 * k.val + g.val)) * 64 + e.val
        = ((((b.val * 16 + n.val) * 128 + r.val) * 8 + k.val) * 4 + g.val) * 64 + e.val
      omega), v76]
  have e1 : ∀ e, val_main_v61 (F := Ideal) x (ix4 b (⟨128 * n.val + r.val, by omega⟩ : Fin 2048) (hd k g) e) = Spec.qe x (tb b n) r (hd k g) e := fun e => by
    rw [v61]
    refine congrArg x (funext fun a => Fin.ext ?_)
    match a with
    | ⟨0, _⟩ => simp [Spec.qrow, tb]; omega
    | ⟨1, _⟩ => simp
  simp only [e1]

theorem padk (b : Fin 4) (s : Fin 2176) (h : Fin 8) (e : Fin 64) (hs : 128 ≤ s.val) :
    val_main_v92 (F := Ideal) x kg (ix4 b s h e) = val_main_v91 (F := Ideal) x kg (ix4 b ⟨s.val - 128, by omega⟩ h e) := by
  unfold val_main_v92
  refine pad_apply_of_inside _ _ _ _ _ _ _ _ _ fun a => ?_
  match a with
  | ⟨0, _⟩ => simp
  | ⟨1, _⟩ => simp; omega
  | ⟨2, _⟩ => simp
  | ⟨3, _⟩ => simp

theorem padv (b : Fin 4) (s : Fin 2176) (h : Fin 8) (e : Fin 64) (hs : 128 ≤ s.val) :
    val_main_v99 (F := Ideal) x (ix4 b s h e) = val_main_v98 (F := Ideal) x (ix4 b ⟨s.val - 128, by omega⟩ h e) := by
  unfold val_main_v99
  refine pad_apply_of_inside _ _ _ _ _ _ _ _ _ fun a => ?_
  match a with
  | ⟨0, _⟩ => simp
  | ⟨1, _⟩ => simp; omega
  | ⟨2, _⟩ => simp
  | ⟨3, _⟩ => simp

theorem padv0 (b : Fin 4) (s : Fin 2176) (h : Fin 8) (e : Fin 64) (hs : s.val < 128) :
    val_main_v99 (F := Ideal) x (ix4 b s h e) = 0 := by
  unfold val_main_v99
  rw [pad_apply_of_not_inside _ _ _ _ _ _ _ _ (1 : Fin 4) (by simp; omega)]
  show FloatOps.sitofp (F := Ideal) FTy.f32 0#32 = 0
  simp [FloatOps.sitofp]

theorem v97 (b : Fin 4) (n : Fin 16) (j : Fin 256) (k : Fin 8) (g : Fin 4) (e : Fin 64) (hn : Spec.Near (tb b n) j) :
    val_main_v97 (F := Ideal) x kg (ix5 b n j k e)
    = Spec.ke x (tb b n) j (hd k g) e * rr (Spec.ke x (tb b n) j (hd k g)) * kg (ix1 e) := by
  have hp : 128 ≤ 128 * n.val + j.val := by
    rcases hn with h | h
    · simp [tb] at h; omega
    · omega
  have e0 : val_main_v97 (F := Ideal) x kg (ix5 b n j k e) = val_main_v92 (F := Ideal) x kg (ix4 b (⟨128 * n.val + j.val, by omega⟩ : Fin 2176) k e) := by
    pointwise [val_main_v97]
    split
    · pointwise [val_main_v94, val_main_v93]
      refine congrArg _ (funext fun a => Fin.ext ?_)
      match a with
      | ⟨0, _⟩ => simp; try omega
      | ⟨1, _⟩ => simp; try omega
      | ⟨2, _⟩ => simp; try omega
      | ⟨3, _⟩ => simp; try omega
    · pointwise [val_main_v96, val_main_v95]
      refine congrArg _ (funext fun a => Fin.ext ?_)
      match a with
      | ⟨0, _⟩ => simp; try omega
      | ⟨1, _⟩ => simp; try omega
      | ⟨2, _⟩ => simp; try omega
      | ⟨3, _⟩ => simp; try omega
  rw [e0, padk x kg _ _ _ _ hp, v91]
  have e1 : ∀ e, val_main_v78 (F := Ideal) x (ix4 b (⟨128 * n.val + j.val - 128, by omega⟩ : Fin 2048) k e) = Spec.ke x (tb b n) j (hd k g) e := fun e => by
    rw [v78]
    refine congrArg x (funext fun a => Fin.ext ?_)
    match a with
    | ⟨0, _⟩ => simp [Spec.krow, tb]; omega
    | ⟨1, _⟩ => simp [hd]; omega
  simp only [e1]

theorem v104 (b : Fin 4) (n : Fin 16) (j : Fin 256) (k : Fin 8) (g : Fin 4) (e : Fin 64) :
    val_main_v104 (F := Ideal) x (ix5 b n j k e) = if Spec.Near (tb b n) j then Spec.ve x (tb b n) j (hd k g) e else 0 := by
  have e0 : val_main_v104 (F := Ideal) x (ix5 b n j k e) = val_main_v99 (F := Ideal) x (ix4 b (⟨128 * n.val + j.val, by omega⟩ : Fin 2176) k e) := by
    pointwise [val_main_v104]
    split
    · pointwise [val_main_v101, val_main_v100]
      refine congrArg _ (funext fun a => Fin.ext ?_)
      match a with
      | ⟨0, _⟩ => simp; try omega
      | ⟨1, _⟩ => simp; try omega
      | ⟨2, _⟩ => simp; try omega
      | ⟨3, _⟩ => simp; try omega
    · pointwise [val_main_v103, val_main_v102]
      refine congrArg _ (funext fun a => Fin.ext ?_)
      match a with
      | ⟨0, _⟩ => simp; try omega
      | ⟨1, _⟩ => simp; try omega
      | ⟨2, _⟩ => simp; try omega
      | ⟨3, _⟩ => simp; try omega
  rw [e0]
  by_cases hp : 128 ≤ 128 * n.val + j.val
  · rw [padv x _ _ _ _ hp, if_pos (by unfold Spec.Near tb; simp; omega), v98]
    refine congrArg x (funext fun a => Fin.ext ?_)
    match a with
    | ⟨0, _⟩ => simp [Spec.krow, tb]; omega
    | ⟨1, _⟩ => simp [hd]; omega
  · rw [padv0 x _ _ _ _ (by simpa using hp), if_neg (by unfold Spec.Near tb; simp; omega)]

theorem band : ∀ (r : Fin 128) (j : Fin 256), IntOp.andi
    (IntOp.cmpi CmpIPredicate.sge (IntOp.subi (IntOp.addi 128#32 (BitVec.ofNat 32 r.val)) (BitVec.ofNat 32 j.val)) 0#32)
    (IntOp.cmpi CmpIPredicate.slt (IntOp.subi (IntOp.addi 128#32 (BitVec.ofNat 32 r.val)) (BitVec.ofNat 32 j.val)) 128#32)
    = if Bucket.Band r j then 1#1 else 0#1 := by decide +kernel

theorem near : ∀ (n : Fin 16) (j : Fin 256), IntOp.ori (IntOp.cmpi CmpIPredicate.sgt (BitVec.ofNat 32 n.val) 0#32)
    (IntOp.cmpi CmpIPredicate.sge (BitVec.ofNat 32 j.val) 128#32) = if n.val ≠ 0 ∨ 128 ≤ j.val then 1#1 else 0#1 := by decide +kernel

theorem v56 (b : Fin 4) (n : Fin 16) (r : Fin 128) (j : Fin 256) : val_main_v56 (F := Ideal) (ix3 n r j)
    = if Bucket.Band r j ∧ Spec.Near (tb b n) j then 1#1 else 0#1 := by
  pointwise [val_main_v56, val_main_v54, val_main_v55, val_main_v45, val_main_v13, val_main_v10, val_main_v12, val_main_v9, val_main_v11, val_main_v8, val_main_v7, val_main_v6, val_main_v5, val_main_v4, val_main_v3, val_main_v2, val_main_v1, val_main_v0,
    val_main_v53, val_main_v52, val_main_v51, val_main_v50, val_main_v49, val_main_v48, val_main_v47, val_main_v46, val_main_v44, val_main_v43, val_main_c, val_main_c_0, val_main_c_1, val_main_c_11, val_main_c_12]
  rw [band, near]
  have : (n.val ≠ 0 ∨ 128 ≤ j.val) ↔ Spec.Near (tb b n) j := by unfold Spec.Near tb; simp; omega
  by_cases h1 : Bucket.Band r j <;> by_cases h2 : Spec.Near (tb b n) j
  · rw [if_pos h1, if_pos (this.2 h2), if_pos ⟨h1, h2⟩]; rfl
  · rw [if_pos h1, if_neg (fun h => h2 (this.1 h)), if_neg (fun h => h2 h.2)]; rfl
  · rw [if_neg h1, if_pos (this.2 h2), if_neg (fun h => h1 h.1)]; rfl
  · rw [if_neg h1, if_neg (fun h => h2 (this.1 h)), if_neg (fun h => h1 h.1)]; rfl

theorem dist (r : Fin 128) (j : Fin 256) (h : Bucket.Band r j) :
    IntOp.subi (IntOp.addi 128#32 (BitVec.ofNat 32 r.val)) (BitVec.ofNat 32 j.val) = BitVec.ofNat 32 (128 + r.val - j.val) := by
  have h1 := h.1
  have := r.isLt
  have := j.isLt
  show 128#32 + BitVec.ofNat 32 r.val - BitVec.ofNat 32 j.val = _
  apply BitVec.eq_of_toNat_eq
  simp [BitVec.toNat_sub, BitVec.toNat_add]
  omega

theorem v42 (k : Fin 8) (g : Fin 4) (r : Fin 128) (j : Fin 256) (h : Bucket.Band r j) :
    val_main_v42 (F := Ideal) rel (ix4 k g r j) = Bucket.relv rel (hd k g) r j := by
  have e0 : val_main_v42 (F := Ideal) rel (ix4 k g r j) = val_main_v40 (F := Ideal) rel (ix3 r j (hd k g)) := by
    pointwise [val_main_v42, val_main_v41]
    refine congrArg _ (funext fun a => Fin.ext ?_)
    match a with
    | ⟨0, _⟩ => simp; try omega
    | ⟨1, _⟩ => simp; try omega
    | ⟨2, _⟩ => simp [hd]; try omega
  rw [e0]
  refine (Bucket.take_rows2 _ rel _ r j (hd k g)).trans ?_
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14,
    val_main_v8, val_main_v7, val_main_v6, val_main_v5, val_main_v4, val_main_v3, val_main_v2, val_main_v1, val_main_v0, val_main_c, val_main_c_2, val_main_c_3, val_main_cst, val_main_cst_4, val_main_cst_5, val_main_c_6, val_main_c_7, val_main_c_8, val_main_c_9, val_main_c_10]
  rw [dist r j h]
  rfl

end Cert.ReferenceIdeal.Att
-- ==== Proof.RefB.lean ====
/-
  The reference's scores, weights and result, entry by entry.
-/
module

public import proofs.«01_k».proof.Proof.RefA

@[expose] public section

set_option maxRecDepth 16384
set_option maxHeartbeats 1000000

noncomputable section

namespace Cert.ReferenceIdeal.Att

open Cert.Softmax Cert.ReferenceIdeal Cert.ReferenceIdeal.Gen Cert.ReferenceIdeal.Read Idealize.ShloMosaic Idealize.ShloMosaic.TcCoe

variable (x : (⟨2, ![8192, 18432]⟩ : Shape).Idx → EReal) (rel : (⟨2, ![32, 32]⟩ : Shape).Idx → EReal)
  (qg kg : (⟨1, ![64]⟩ : Shape).Idx → EReal) (sk : (⟨1, ![32]⟩ : Shape).Idx → EReal)

theorem ninf : Ideal.ofBits FTy.f32 0xFF800000#32 = ⊥ := by simp [Ideal.ofBits, Ideal.ieee]

theorem v106 (b : Fin 4) (n : Fin 16) (k : Fin 8) (g : Fin 4) (r : Fin 128) (j : Fin 256) (hn : Spec.Near (tb b n) j) :
    val_main_v106 (F := Ideal) x qg kg (ValueIdx.ix6 b n k g r j)
    = ∑ e, (Spec.ke x (tb b n) j (hd k g) e * rr (Spec.ke x (tb b n) j (hd k g)) * kg (ix1 e))
        * (Spec.qe x (tb b n) r (hd k g) e * rr (Spec.qe x (tb b n) r (hd k g)) * qg (ix1 e) * ((1 / 8 : ℝ) : EReal)) := by
  rw [val_main_v106_apply, val_main_v105_apply]
  refine Finset.sum_congr rfl fun e _ => ?_
  rw [← v97 x kg b n j k g e hn, ← v77 x qg b n r k g e]
  refine congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl
    | ⟨5, _⟩ => rfl

theorem v108 (b : Fin 4) (n : Fin 16) (k : Fin 8) (g : Fin 4) (r : Fin 128) (j : Fin 256) :
    val_main_v108 (F := Ideal) rel (ValueIdx.ix6 b n k g r j) = val_main_v42 (F := Ideal) rel (ix4 k g r j) := by
  rw [val_main_v108_apply, val_main_v107_apply]
  refine congrArg _ (funext fun a => ?_)
  match a with
  | ⟨0, _⟩ => rfl
  | ⟨1, _⟩ => rfl
  | ⟨2, _⟩ => rfl
  | ⟨3, _⟩ => rfl

theorem mask (b : Fin 4) (n : Fin 16) (k : Fin 8) (g : Fin 4) (r : Fin 128) (j : Fin 256) :
    val_main_call3_v1 (F := Ideal) (ValueIdx.ix6 b n k g r j) = val_main_v56 (F := Ideal) (ix3 n r j) := by
  rw [val_main_call3_v1_apply, val_main_v110_apply]
  refine congrArg _ (funext fun a => ?_)
  match a with
  | ⟨0, _⟩ => rfl
  | ⟨1, _⟩ => rfl
  | ⟨2, _⟩ => rfl

theorem v111 (b : Fin 4) (n : Fin 16) (k : Fin 8) (g : Fin 4) (r : Fin 128) (j : Fin 256) :
    val_main_v111 (F := Ideal) x rel qg kg (ValueIdx.ix6 b n k g r j) = Spec.score x rel qg kg (tb b n) (hd k g) r j := by
  rw [val_main_v111_apply, mask, v56 b]
  unfold Spec.score
  by_cases h : Bucket.Band r j ∧ Spec.Near (tb b n) j
  · rw [if_pos h, if_pos h]
    refine (ValueIdx.select_one _ _).trans ?_
    rw [val_main_v109_apply, v106 x qg kg b n k g r j h.2, v108, v42 rel k g r j h.1]
    rfl
  · rw [if_neg h, if_neg h]
    refine (ValueIdx.select_zero _ _).trans ?_
    rw [val_main_call3_v2_apply, val_main_call3_v0_apply, val_main_cst_22_apply]
    exact ninf

theorem v112 (k : Fin 8) (g : Fin 4) : val_main_v112 (F := Ideal) sk (ix2 k g) = sk (ix1 (hd k g)) := by
  pointwise [val_main_v112]
  refine congrArg sk (funext fun a => Fin.ext ?_)
  match a with
  | ⟨0, _⟩ => simp [hd]; try omega

theorem v114 (b : Fin 4) (n : Fin 16) (k : Fin 8) (g : Fin 4) (r : Fin 128) :
    val_main_v114 (F := Ideal) x rel qg kg (ix5 b n k g r) = Finset.univ.fold max ⊥ (Spec.score x rel qg kg (tb b n) (hd k g) r) := by
  have h : val_main_v114 (F := Ideal) x rel qg kg (ix5 b n k g r)
      = Finset.univ.fold (FloatOps.maximumf (F := Ideal) (φ := FTy.f32)) ((val_main_cst_23 (F := Ideal)) (Shape.Idx.first h_S_))
          (fun j : Fin 256 => val_main_v111 (F := Ideal) x rel qg kg (ValueIdx.ix6 b n k g r j)) := by
    unfold val_main_v114
    generalize val_main_v111 (F := Ideal) x rel qg kg = y
    generalize val_main_cst_23 (F := Ideal) = z
    rw [Host.reduce_eq_fold_single _ _ _ reducesTo_S4x16x8x4x128x256_S4x16x8x4x128_d5 (by decide) h_S_]
    refine Finset.fold_congr fun j _ => congrArg y (funext fun a => ?_)
    match a with
    | ⟨0, _⟩ => rfl
    | ⟨1, _⟩ => rfl
    | ⟨2, _⟩ => rfl
    | ⟨3, _⟩ => rfl
    | ⟨4, _⟩ => rfl
    | ⟨5, _⟩ => rfl
  rw [h, val_main_cst_23_apply]
  have hf : FloatOps.ofBits (F := Ideal) FTy.f32 0xFF800000#32 = ⊥ := ninf
  simp only [v111, hf]
  rfl

theorem v117 (b : Fin 4) (n : Fin 16) (k : Fin 8) (g : Fin 4) (r : Fin 128) :
    val_main_v117 (F := Ideal) sk (ValueIdx.ix6 b n k g r (0 : Fin 1)) = sk (ix1 (hd k g)) := by
  rw [val_main_v117_apply, val_main_v116_apply, val_main_v113_apply, ← v112 sk k g]
  refine congrArg _ (funext fun a => ?_)
  match a with
  | ⟨0, _⟩ => rfl
  | ⟨1, _⟩ => rfl

theorem v125 (b : Fin 4) (n : Fin 16) (k : Fin 8) (g : Fin 4) (r : Fin 128) :
    val_main_v125 (F := Ideal) sk (ValueIdx.ix6 b n k g r (0 : Fin 1)) = sk (ix1 (hd k g)) := by
  rw [val_main_v125_apply, val_main_v124_apply, val_main_v113_apply, ← v112 sk k g]
  refine congrArg _ (funext fun a => ?_)
  match a with
  | ⟨0, _⟩ => rfl
  | ⟨1, _⟩ => rfl

theorem v118 (b : Fin 4) (n : Fin 16) (k : Fin 8) (g : Fin 4) (r : Fin 128) :
    val_main_v118 (F := Ideal) x rel qg kg sk (ValueIdx.ix6 b n k g r (0 : Fin 1))
    = top (Spec.score x rel qg kg (tb b n) (hd k g) r) (sk (ix1 (hd k g))) := by
  rw [val_main_v118_apply, v117, val_main_v115_apply]
  have hi : idx_main_v115 (ValueIdx.ix6 b n k g r (0 : Fin 1)) = ix5 b n k g r := funext fun a => by
    match a with
    | ⟨0, _⟩ => rfl
    | ⟨1, _⟩ => rfl
    | ⟨2, _⟩ => rfl
    | ⟨3, _⟩ => rfl
    | ⟨4, _⟩ => rfl
  rw [hi, v114]
  rfl

theorem v121 (b : Fin 4) (n : Fin 16) (k : Fin 8) (g : Fin 4) (r : Fin 128) (j : Fin 256) :
    val_main_v121 (F := Ideal) x rel qg kg sk (ValueIdx.ix6 b n k g r j)
    = Ideal.exp (Spec.score x rel qg kg (tb b n) (hd k g) r j - top (Spec.score x rel qg kg (tb b n) (hd k g) r) (sk (ix1 (hd k g)))) := by
  rw [val_main_v121_apply, val_main_v120_apply, v111, val_main_v119_apply]
  have hi : idx_main_v119 (ValueIdx.ix6 b n k g r j) = ValueIdx.ix6 b n k g r (0 : Fin 1) := funext fun a => by
    match a with
    | ⟨0, _⟩ => rfl
    | ⟨1, _⟩ => rfl
    | ⟨2, _⟩ => rfl
    | ⟨3, _⟩ => rfl
    | ⟨4, _⟩ => rfl
    | ⟨5, _⟩ => rfl
  rw [hi, v118]
  rfl

theorem v128 (b : Fin 4) (n : Fin 16) (k : Fin 8) (g : Fin 4) (r : Fin 128) :
    val_main_v128 (F := Ideal) x rel qg kg sk (ValueIdx.ix6 b n k g r (0 : Fin 1))
    = ∑ j, Ideal.exp (Spec.score x rel qg kg (tb b n) (hd k g) r j - top (Spec.score x rel qg kg (tb b n) (hd k g) r) (sk (ix1 (hd k g))))
      + Ideal.exp (sk (ix1 (hd k g)) - top (Spec.score x rel qg kg (tb b n) (hd k g) r) (sk (ix1 (hd k g)))) := by
  rw [val_main_v128_apply, val_main_v127_apply, val_main_v126_apply, v118, v125, val_main_v123_apply, val_main_v122_apply]
  have hf : (val_main_cst_24 (F := Ideal)) (Shape.Idx.first h_S_) = 0 := by
    rw [val_main_cst_24_apply]
    exact zero
  rw [hf, zero_add]
  refine congrArg₂ (· + ·) (Finset.sum_congr rfl fun j _ => ?_) rfl
  rw [← v121 x rel qg kg sk b n k g r j]
  refine congrArg _ (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

theorem v130 (b : Fin 4) (n : Fin 16) (k : Fin 8) (g : Fin 4) (r : Fin 128) (j : Fin 256) :
    val_main_v130 (F := Ideal) x rel qg kg sk (ValueIdx.ix6 b n k g r j)
    = Ideal.div (Ideal.exp (Spec.score x rel qg kg (tb b n) (hd k g) r j - top (Spec.score x rel qg kg (tb b n) (hd k g) r) (sk (ix1 (hd k g)))))
       (∑ j, Ideal.exp (Spec.score x rel qg kg (tb b n) (hd k g) r j - top (Spec.score x rel qg kg (tb b n) (hd k g) r) (sk (ix1 (hd k g))))
        + Ideal.exp (sk (ix1 (hd k g)) - top (Spec.score x rel qg kg (tb b n) (hd k g) r) (sk (ix1 (hd k g))))) := by
  rw [val_main_v130_apply, v121, val_main_v129_apply]
  have hi : idx_main_v129 (ValueIdx.ix6 b n k g r j) = ValueIdx.ix6 b n k g r (0 : Fin 1) := funext fun a => by
    match a with
    | ⟨0, _⟩ => rfl
    | ⟨1, _⟩ => rfl
    | ⟨2, _⟩ => rfl
    | ⟨3, _⟩ => rfl
    | ⟨4, _⟩ => rfl
    | ⟨5, _⟩ => rfl
  rw [hi, v128]
  rfl

theorem v132 (b : Fin 4) (n : Fin 16) (k : Fin 8) (g : Fin 4) (r : Fin 128) (d : Fin 64) :
    val_main_v132 (F := Ideal) x rel qg kg sk (ValueIdx.ix6 b n r k g d) = Spec.out x rel qg kg sk (tb b n) (hd k g) r d := by
  rw [val_main_v132_apply, val_main_v131_apply]
  unfold Spec.out
  refine Finset.sum_congr rfl fun j _ => ?_
  rw [← v130, ← v104 x b n j k g d]
  refine congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl
    | ⟨5, _⟩ => rfl

theorem v134 (i : Fin 8192) (y : Fin 2048) : val_main_v134 (F := Ideal) x rel qg kg sk (ix2 i y) = Spec.att x rel qg kg sk (ix2 i y) := by
  have e0 : val_main_v134 (F := Ideal) x rel qg kg sk (ix2 i y)
      = val_main_v133 (F := Ideal) x rel qg kg sk (ix3 (⟨i.val / 2048, by omega⟩ : Fin 4) (⟨i.val % 2048, by omega⟩ : Fin 2048) y) := by
    pointwise [val_main_v134]
  rw [e0]
  unfold val_main_v133
  rw [shapeCast_apply _ _ _ (ValueIdx.ix6 (⟨i.val / 2048, by omega⟩ : Fin 4) (⟨i.val % 2048 / 128, by omega⟩ : Fin 16) (⟨i.val % 128, by omega⟩ : Fin 128)
    (⟨y.val / 256, by omega⟩ : Fin 8) (⟨y.val % 256 / 64, by omega⟩ : Fin 4) (⟨y.val % 64, by omega⟩ : Fin 64)) (by
      rw [Shape.rowMajor_val_six, Shape.rowMajor_val_three]
      show ((((i.val / 2048 * 16 + i.val % 2048 / 128) * 128 + i.val % 128) * 8 + y.val / 256) * 4 + y.val % 256 / 64) * 64 + y.val % 64
        = (i.val / 2048 * 2048 + i.val % 2048) * 2048 + y.val
      omega), v132]
  unfold Spec.att
  have h1 : tb ⟨i.val / 2048, by omega⟩ ⟨i.val % 2048 / 128, by omega⟩ = ⟨i.val / 128, by omega⟩ := Fin.ext (by simp [tb]; omega)
  have h2 : hd ⟨y.val / 256, by omega⟩ ⟨y.val % 256 / 64, by omega⟩ = ⟨y.val / 64, by omega⟩ := Fin.ext (by simp [hd]; omega)
  rw [h1, h2]
  rfl

theorem ref_eq : val_main_v135 (F := Ideal) x rel qg kg sk = Spec.att x rel qg kg sk := by
  funext i
  have hi : i = ix2 (i 0) (i 1) := funext fun a => by
    match a with
    | ⟨0, _⟩ => rfl
    | ⟨1, _⟩ => rfl
  rw [hi]
  exact v134 x rel qg kg sk (i 0) (i 1)

end Cert.ReferenceIdeal.Att
-- ==== Proof.Finite.lean ====
/-
  The precondition read: every entry of the keys, of the bias table, of the gains and of the sinks is a real.
-/
module

public import proofs.«01_k».proof.Pre_finite
public import proofs.«01_k».proof.Proof.Softmax
public import Idealize.ShloMosaic.Lib.Pointwise
public import Idealize.ShloMosaic.Lib.ReduceAll

@[expose] public section

set_option maxRecDepth 16384

noncomputable section

namespace Cert.Pre_finite.Read

open Cert.Pre_finite Idealize.ShloMosaic

instance facts : Cert.Pre_finite.Facts where
  slices_S8192x18432_S8192x512_0_2048 := by decide
  bcast_S_S8192x512 := by decide
  reducesTo_S8192x512_S_d0_1 := by decide
  h_S_ := by decide
  bcast_S_S32x32 := by decide
  reducesTo_S32x32_S_d0_1 := by decide
  bcast_S_S64 := by decide
  reducesTo_S64_S_d0 := by decide
  bcast_S_S32 := by decide
  reducesTo_S32_S_d0 := by decide

instance : Subsingleton S_.Idx := ⟨fun a b => funext fun i => i.elim0⟩

theorem inf : Ideal.ofBits FTy.f32 0x7F800000#32 = ⊤ := by simp [Ideal.ofBits, Ideal.ieee]

/-- A value whose absolute value lies under plus infinity is a real. -/
theorem real_of_lt (y : EReal) (h : FloatOps.cmpf (F := Ideal) (φ := FTy.f32) CmpFPredicate.olt (FloatOps.absf (F := Ideal) (φ := FTy.f32) y) (Ideal.ofBits FTy.f32 0x7F800000#32) = 1#1) :
    ∃ z : ℝ, y = z := by
  rw [inf] at h
  induction y using EReal.rec with
  | coe a => exact ⟨a, rfl⟩
  | bot => exact absurd h (by simp [Ideal.cmpf_def, Ideal.cmp, Ideal.absf_def])
  | top => exact absurd h (by simp [Ideal.cmpf_def, Ideal.cmp, Ideal.absf_def])

theorem read (x : FVec Ideal S8192x18432 .f32) (rel : FVec Ideal S32x32 .f32) (qg kg : FVec Ideal S64 .f32) (sk : FVec Ideal S32 .f32)
    (h : Cert.Pre_finite.fn (F := Ideal) x rel qg kg sk = fun _ => 1#1) :
    (∀ (i : Fin 8192) (n : Fin 512), ∃ y : ℝ, x (ix2 i ⟨2048 + n.val, by omega⟩) = y) ∧ (∀ i, ∃ y : ℝ, rel i = y)
      ∧ (∀ e, ∃ y : ℝ, qg (ix1 e) = y) ∧ (∀ e, ∃ y : ℝ, kg (ix1 e) = y) ∧ (∀ e, ∃ y : ℝ, sk (ix1 e) = y) := by
  have h0 := congrFun h ix0
  dsimp only [Cert.Pre_finite.fn, Cert.Pre_finite.fn_part1] at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i n => ?_, fun i => ?_, fun e => ?_, fun e => ?_, fun e => ?_⟩
  · have e := Host.reduce_andi_all _ _ _ _ _ h0 (ix2 i n)
    have hx : extractStridedSlice S8192x512 ![0, 2048] x Facts.slices_S8192x18432_S8192x512_0_2048 (ix2 i n) = x (ix2 i ⟨2048 + n.val, by omega⟩) := by
      pointwise
    rw [← hx]
    exact real_of_lt _ e
  · exact real_of_lt _ (Host.reduce_andi_all _ _ _ _ _ h1 i)
  · exact real_of_lt _ (Host.reduce_andi_all _ _ _ _ _ h2 (ix1 e))
  · exact real_of_lt _ (Host.reduce_andi_all _ _ _ _ _ h3 (ix1 e))
  · exact real_of_lt _ (Host.reduce_andi_all _ _ _ _ _ h4 (ix1 e))

end Cert.Pre_finite.Read
-- ==== Proof.Rms.lean ====
/-
  The root mean square of a row of 4096 entries: the sum of squares by 128 lanes, the division by 4096 as a product,
  and the reciprocal root as a nonnegative real, whatever the row holds.
-/
module

public import proofs.«01_k».proof.Proof.Softmax
public import Idealize.ShloMosaic.Lib.Pipeline.ValueKit
public import Idealize.ShloMosaic.Lib.Pointwise

@[expose] public section

set_option maxRecDepth 16384
set_option maxHeartbeats 1000000

noncomputable section

namespace Cert.Rms

open Cert.Softmax Idealize.ShloMosaic

theorem div4096 (x : EReal) : Ideal.div x (Ideal.ofBits FTy.f32 0x45800000#32) = x * Ideal.ofBits FTy.f32 964689920#32 := by
  have h1 : Ideal.ofBits FTy.f32 0x45800000#32 = ((4096 : ℝ) : EReal) := by
    simp [Ideal.ofBits, Ideal.ieee, -EReal.coe_mul]; norm_num
  have h2 : Ideal.ofBits FTy.f32 964689920#32 = (((4096 : ℝ)⁻¹ : ℝ) : EReal) := by
    simp [Ideal.ofBits, Ideal.ieee, -EReal.coe_mul]; norm_num
  rw [h1, h2, EReal.coe_inv, Ideal.div, if_neg (by norm_num)]

theorem one_bits : Ideal.ofBits FTy.f32 0x3F800000#32 = 1 := by
  simp [Ideal.ofBits, Ideal.ieee, -EReal.coe_mul]; norm_num

theorem zero_bits : Ideal.ofBits FTy.f32 0#32 = 0 := by
  simp [Ideal.ofBits, Ideal.ieee, -EReal.coe_mul]

theorem eps_pos : ∃ ε : ℝ, 0 < ε ∧ Ideal.ofBits FTy.f32 897988541#32 = (ε : EReal) := by
  refine ⟨_, ?_, by simp [Ideal.ofBits, Ideal.ieee, -EReal.coe_mul]; rfl⟩
  norm_num

/-- The reciprocal of a row's root mean square. -/
def rrow (f : Fin 4096 → EReal) : EReal :=
  Ideal.rsqrt (Ideal.div (∑ k, f k * f k) (Ideal.ofBits FTy.f32 0x45800000#32) + Ideal.ofBits FTy.f32 897988541#32)

theorem sq_nonneg' (x : EReal) : 0 ≤ x * x := by
  induction x using EReal.rec with
  | bot => simp
  | top => simp
  | coe r => rw [← EReal.coe_mul]; exact_mod_cast mul_self_nonneg r

/-- It is a nonnegative real. -/
theorem rrow_real (f : Fin 4096 → EReal) : ∃ r : ℝ, 0 ≤ r ∧ rrow f = r := by
  obtain ⟨ε, hε, he⟩ := eps_pos
  have h2 : Ideal.ofBits FTy.f32 964689920#32 = (((4096 : ℝ)⁻¹ : ℝ) : EReal) := by
    simp [Ideal.ofBits, Ideal.ieee, -EReal.coe_mul]; norm_num
  have h0 : 0 ≤ ∑ k, f k * f k := Finset.sum_nonneg fun k _ => sq_nonneg' (f k)
  unfold rrow
  rw [div4096, he, h2]
  generalize ∑ k, f k * f k = z at h0
  induction z using EReal.rec with
  | bot => exact absurd h0 (by simp)
  | top =>
    refine ⟨0, le_refl _, ?_⟩
    rw [EReal.top_mul_coe_of_pos (by norm_num), EReal.top_add_coe]
    rfl
  | coe s =>
    have hs : 0 ≤ s := by exact_mod_cast h0
    have hp : 0 < s * 4096⁻¹ + ε := by positivity
    refine ⟨(Real.sqrt (s * 4096⁻¹ + ε))⁻¹, by positivity, ?_⟩
    rw [← EReal.coe_mul, ← EReal.coe_add]
    show (if s * 4096⁻¹ + ε < 0 then ⊥ else if s * 4096⁻¹ + ε = 0 then ⊤ else ((Real.sqrt (s * 4096⁻¹ + ε))⁻¹ : ℝ) : EReal) = _
    rw [if_neg hp.not_gt, if_neg hp.ne']

/-- One lane's share of a row's sum. -/
def lane (q : Fin 4096 → EReal) (l : Fin 128) : EReal := ∑ c : Fin 32, q ⟨128 * c.val + l.val, by omega⟩

/-- One lane's share, its 32 terms written out. -/
theorem lane_terms (q : Fin 4096 → EReal) (l : Fin 128) : q ⟨l.val, by omega⟩ + q ⟨128 + l.val, by omega⟩ + q ⟨256 + l.val, by omega⟩ + q ⟨384 + l.val, by omega⟩
      + q ⟨512 + l.val, by omega⟩ + q ⟨640 + l.val, by omega⟩ + q ⟨768 + l.val, by omega⟩ + q ⟨896 + l.val, by omega⟩
      + q ⟨1024 + l.val, by omega⟩ + q ⟨1152 + l.val, by omega⟩ + q ⟨1280 + l.val, by omega⟩ + q ⟨1408 + l.val, by omega⟩
      + q ⟨1536 + l.val, by omega⟩ + q ⟨1664 + l.val, by omega⟩ + q ⟨1792 + l.val, by omega⟩ + q ⟨1920 + l.val, by omega⟩
      + q ⟨2048 + l.val, by omega⟩ + q ⟨2176 + l.val, by omega⟩ + q ⟨2304 + l.val, by omega⟩ + q ⟨2432 + l.val, by omega⟩
      + q ⟨2560 + l.val, by omega⟩ + q ⟨2688 + l.val, by omega⟩ + q ⟨2816 + l.val, by omega⟩ + q ⟨2944 + l.val, by omega⟩
      + q ⟨3072 + l.val, by omega⟩ + q ⟨3200 + l.val, by omega⟩ + q ⟨3328 + l.val, by omega⟩ + q ⟨3456 + l.val, by omega⟩
      + q ⟨3584 + l.val, by omega⟩ + q ⟨3712 + l.val, by omega⟩ + q ⟨3840 + l.val, by omega⟩ + q ⟨3968 + l.val, by omega⟩
      = lane q l := by
  unfold lane
  simp only [Fin.sum_univ_castSucc, Fin.sum_univ_zero, zero_add]
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  exact congrArg q (Fin.ext (by show l.val = 128 * 0 + l.val; omega))

/-- The lanes' shares make up the whole sum. -/
theorem sum_lane (q : Fin 4096 → EReal) : ∑ l, lane q l = ∑ k, q k := by
  unfold lane
  rw [Finset.sum_comm]
  exact (Fintype.sum_prod_type' (fun (c : Fin 32) (l : Fin 128) => q ⟨128 * c.val + l.val, by omega⟩)).symm.trans
    (Fintype.sum_equiv (finProdFinEquiv (m := 32) (n := 128)) _ _ fun p => congrArg q (Fin.ext (Nat.add_comm _ _)))

/-- The kernel's reciprocal root over the lanes' shares. -/
theorem rrow_lanes (f : Fin 4096 → EReal) (s : Fin 128 → EReal) (h : ∀ l, s l = lane (fun k => f k * f k) l) :
    Ideal.rsqrt ((∑ l, s l) * Ideal.ofBits FTy.f32 964689920#32 + Ideal.ofBits FTy.f32 897988541#32) = rrow f := by
  unfold rrow
  rw [div4096, Finset.sum_congr rfl fun l _ => h l, sum_lane]

/-- The root goes through the product with the weights. -/
theorem rrow_dot (f g w : Fin 4096 → EReal) : rrow f * ∑ k, f k * g k * w k = ∑ k, f k * rrow f * g k * w k := by
  obtain ⟨r, hr, he⟩ := rrow_real f
  rw [he, real_mul_sum r hr]
  exact Finset.sum_congr rfl fun k _ => by ac_rfl

end Cert.Rms
-- ==== Proof.Glu2.lean ====
/-
  The feed-forward's activation, `silu(normed @ w[1][:, :11008]) * (normed @ w[1][:, 11008:])`, as one formula of the
  result's entry; the kernel's result array is it. The kernel multiplies the gained row by the weights first and by the
  row's reciprocal root mean square afterwards.
-/
module

public import proofs.«01_k».proof.Proof.Rms
public import proofs.«01_k».proof.Proof.Gen.Kernel2Ideal.Value
public import Idealize.ShloMosaic.Lib.Claim
public import Idealize.ShloMosaic.Lib.StableHlo.RunRead

@[expose] public section

set_option maxRecDepth 16384
set_option maxHeartbeats 1000000

noncomputable section

namespace Cert.Kernel2Ideal.Out

open Cert.Rms Cert.Kernel2Ideal Cert.Kernel2Ideal.Gen Idealize.ShloMosaic Idealize.ShloMosaic.TcCoe Idealize.SL.Sem Idealize.ShloMosaic.StableHlo

/-- The gated product. -/
def glu (u v : EReal) : EReal := u * Ideal.logistic u * v

/-- The scale of a row from its lanes' sums of squares. -/
def scale (s : Fin 128 → EReal) : EReal :=
  Ideal.rsqrt ((∑ l, s l) * Ideal.ofBits FTy.f32 964689920#32 + Ideal.ofBits FTy.f32 897988541#32)

/-- One sub-block of rows, entry by entry. -/
theorem pay (h : S256x4096.Idx → EReal) (s : S256x128.Idx → EReal) (wg wu : S4096x256.Idx → EReal) (r n : Fin 256) :
    k0_pay4 (F := Ideal) h s wg wu (ix2 r n) = glu (scale (fun l => s (ix2 r l)) * ∑ k : Fin 4096, h (ix2 r k) * wg (ix2 k n))
      (scale (fun l => s (ix2 r l)) * ∑ k : Fin 4096, h (ix2 r k) * wu (ix2 k n)) := by
  unfold glu scale
  pointwise [k0_pay4]

theorem pay2 (v0 : S1x4096x256.Idx → EReal) (k : Fin 4096) (n : Fin 256) : k0_pay2 (F := Ideal) v0 (ix2 k n) = v0 (ix3 0 k n) := by
  pointwise [k0_pay2]

theorem pay3 (v0 : S1x4096x256.Idx → EReal) (k : Fin 4096) (n : Fin 256) : k0_pay3 (F := Ideal) v0 (ix2 k n) = v0 (ix3 0 k n) := by
  pointwise [k0_pay3]

/-- What a grid point leaves, as a function of its blocks and the two weight tiles kept. -/
def blockOut (x0 : S2048x4096.Idx → EReal) (x1 : S2048x128.Idx → EReal) (wg wu : S4096x256.Idx → EReal) : S2048x256.Idx → EReal :=
  fun i => glu
    (scale (fun l => x1 (ix2 ⟨(i 0).val, (i 0).isLt⟩ l)) * ∑ k : Fin 4096, x0 (ix2 ⟨(i 0).val, (i 0).isLt⟩ k) * wg (ix2 k ⟨(i 1).val, (i 1).isLt⟩))
    (scale (fun l => x1 (ix2 ⟨(i 0).val, (i 0).isLt⟩ l)) * ∑ k : Fin 4096, x0 (ix2 ⟨(i 0).val, (i 0).isLt⟩ k) * wu (ix2 k ⟨(i 1).val, (i 1).isLt⟩))

/-- A sub-block of rows starting at row `o` agrees with it. -/
theorem piece (x0 : S2048x4096.Idx → EReal) (x1 : S2048x128.Idx → EReal) (wg wu : S4096x256.Idx → EReal) (o : ℕ)
    (h : ∀ a, (![o, 0] : Fin 2 → ℕ) a + S256x256.size a ≤ S2048x256.size a)
    (h' : ∀ a, (![o, 0] : Fin 2 → ℕ) a + S256x4096.size a ≤ S2048x4096.size a)
    (h'' : ∀ a, (![o, 0] : Fin 2 → ℕ) a + S256x128.size a ≤ S2048x128.size a) (x : S256x256.Idx) :
    k0_pay4 (F := Ideal) (View.ld x0 (Rect.unit (s := S2048x4096) ![o, 0] S256x4096.size h'))
        (View.ld x1 (Rect.unit (s := S2048x128) ![o, 0] S256x128.size h'')) wg wu x
      = blockOut x0 x1 wg wu ((Rect.unit (s := S2048x256) ![o, 0] S256x256.size h).emb x) := by
  have h0 : (x 0).val < 256 := (x 0).isLt
  have h1 : (x 1).val < 256 := (x 1).isLt
  have hx : x = ix2 (⟨(x 0).val, h0⟩ : Fin 256) (⟨(x 1).val, h1⟩ : Fin 256) := funext fun a => match a with | ⟨0, _⟩ => rfl | ⟨1, _⟩ => rfl
  refine (congrArg _ hx).trans ((pay _ _ _ _ _ _).trans ?_)
  have hs : ∀ l : Fin 128, View.ld (Val := Elt Ideal) (e' := .f32) x1 (Rect.unit (s := S2048x128) ![o, 0] S256x128.size h'') (ix2 (⟨(x 0).val, h0⟩ : Fin 256) l)
      = x1 (ix2 ⟨(((Rect.unit (s := S2048x256) ![o, 0] S256x256.size h).emb x) 0).val, (((Rect.unit (s := S2048x256) ![o, 0] S256x256.size h).emb x) 0).isLt⟩ l) := by
    intro l
    refine congrArg x1 (funext fun a => Fin.ext ?_)
    match a with
    | ⟨0, _⟩ => rfl
    | ⟨1, _⟩ => show 0 + 1 * l.val = l.val; omega
  have hd : ∀ w : S4096x256.Idx → EReal, (∑ k : Fin 4096, (View.ld (Val := Elt Ideal) (e' := .bf16) x0 (Rect.unit (s := S2048x4096) ![o, 0] S256x4096.size h') (ix2 (⟨(x 0).val, h0⟩ : Fin 256) k) : EReal) * w (ix2 k (⟨(x 1).val, h1⟩ : Fin 256)))
      = ∑ k : Fin 4096, x0 (ix2 ⟨(((Rect.unit (s := S2048x256) ![o, 0] S256x256.size h).emb x) 0).val, (((Rect.unit (s := S2048x256) ![o, 0] S256x256.size h).emb x) 0).isLt⟩ k)
          * w (ix2 k ⟨(((Rect.unit (s := S2048x256) ![o, 0] S256x256.size h).emb x) 1).val, (((Rect.unit (s := S2048x256) ![o, 0] S256x256.size h).emb x) 1).isLt⟩) := by
    intro w
    refine Finset.sum_congr rfl fun k _ => congrArg₂ (· * ·) (congrArg x0 (funext fun a => Fin.ext ?_)) (congrArg w (funext fun a => Fin.ext ?_))
    · match a with
      | ⟨0, _⟩ => rfl
      | ⟨1, _⟩ => show 0 + 1 * k.val = k.val; omega
    · match a with
      | ⟨0, _⟩ => rfl
      | ⟨1, _⟩ => show (x 1).val = 0 + 1 * (x 1).val; omega
  exact congrArg₂ glu (congrArg₂ (· * ·) (congrArg scale (funext hs)) (hd wg)) (congrArg₂ (· * ·) (congrArg scale (funext hs)) (hd wu))

variable (m : (ℓ : Loc nD τ sig) → Buf (Elt Ideal) ℓ)

/-- The point's result where the weight tiles are written first. -/
theorem out_A (c : Dev nD) (t : Fin cfg0.N) (h0 : t.val % 4 = 0) (y : S2048x256.Idx) : (outsAt0 m c t.val t.isLt).1 y
    = blockOut (iblk m c 0 t) (iblk m c 1 t) (k0_pay2 (F := Ideal) (iblk m c 2 t)) (k0_pay3 (F := Ideal) (iblk m c 3 t)) y := by
  rw [outsAt0_A m c t h0]
  frame_out
  refine View.canon_apply_of_pieces (Val := Elt Ideal) (e := .bf16) (blockOut (iblk m c 0 t) (iblk m c 1 t) (k0_pay2 (F := Ideal) (iblk m c 2 t)) (k0_pay3 (F := Ideal) (iblk m c 3 t))) _ ?_ y ?_
  swap
  · exact View.cover_of_tiledL (s := S2048x256) _ S256x256.size (by rfl) y
  simp only [List.forall_mem_cons, List.not_mem_nil, false_implies, implies_true, and_true]
  exact ⟨piece _ _ _ _ 1792 _ _ _, piece _ _ _ _ 1536 _ _ _, piece _ _ _ _ 1280 _ _ _, piece _ _ _ _ 1024 _ _ _,
    piece _ _ _ _ 768 _ _ _, piece _ _ _ _ 512 _ _ _, piece _ _ _ _ 256 _ _ _, piece _ _ _ _ 0 _ _ _⟩

/-- The point's result where they are kept from the point before. -/
theorem out_B (c : Dev nD) (t : Fin cfg0.N) (h0 : ¬t.val % 4 = 0) (y : S2048x256.Idx) : (outsAt0 m c t.val t.isLt).1 y
    = blockOut (iblk m c 0 t) (iblk m c 1 t) (outsAt0 m c (t.val - 1) (Nat.lt_of_le_of_lt (Nat.sub_le _ _) t.isLt)).2.1
        (outsAt0 m c (t.val - 1) (Nat.lt_of_le_of_lt (Nat.sub_le _ _) t.isLt)).2.2 y := by
  rw [outsAt0_B m c t h0]
  generalize (outsAt0 m c (t.val - 1) (Nat.lt_of_le_of_lt (Nat.sub_le _ _) t.isLt)) = p
  obtain ⟨p0, p1, p2⟩ := p
  frame_out
  simp only [(Memref.isWhole_whole _).read_unread]
  refine View.canon_apply_of_pieces (Val := Elt Ideal) (e := .bf16) (blockOut (iblk m c 0 t) (iblk m c 1 t) p1 p2) _ ?_ y ?_
  swap
  · exact View.cover_of_tiledL (s := S2048x256) _ S256x256.size (by rfl) y
  simp only [List.forall_mem_cons, List.not_mem_nil, false_implies, implies_true, and_true]
  exact ⟨piece _ _ _ _ 1792 _ _ _, piece _ _ _ _ 1536 _ _ _, piece _ _ _ _ 1280 _ _ _, piece _ _ _ _ 1024 _ _ _,
    piece _ _ _ _ 768 _ _ _, piece _ _ _ _ 512 _ _ _, piece _ _ _ _ 256 _ _ _, piece _ _ _ _ 0 _ _ _⟩

theorem kept_A (c : Dev nD) (t : Fin cfg0.N) (h0 : t.val % 4 = 0) : (outsAt0 m c t.val t.isLt).2
    = (k0_pay2 (F := Ideal) (iblk m c 2 t), k0_pay3 (F := Ideal) (iblk m c 3 t)) := by
  refine Prod.ext ?_ ?_
  · rw [outsAt0_A m c t h0]
    frame_out
  · rw [outsAt0_A m c t h0]
    frame_out

theorem kept_B (c : Dev nD) (t : Fin cfg0.N) (h0 : ¬t.val % 4 = 0) : (outsAt0 m c t.val t.isLt).2
    = (outsAt0 m c (t.val - 1) (Nat.lt_of_le_of_lt (Nat.sub_le _ _) t.isLt)).2 := by
  rw [outsAt0_B m c t h0]
  rfl

theorem idx : ∀ t : Fin cfg0.N, win0_0.index t = ![t.val % 4, 0] ∧ win0_1.index t = ![t.val % 4, 0] ∧ win0_2.index t = ![1, 0, t.val / 4]
    ∧ win0_3.index t = ![1, 0, t.val / 4 + 43] ∧ win0_4.index t = ![t.val % 4, t.val / 4] :=
  (by decide +kernel : ∀ t : Fin grid0.N, _)

theorem tlt (t : Fin cfg0.N) : t.val < 172 := (by decide : cfg0.N = 172) ▸ t.isLt

theorem rd0 (c : Dev nD) (t : Fin cfg0.N) (r : Fin 2048) (k : Fin 4096) : iblk m c 0 t (ix2 r k)
    = V m c main_v5 (ix2 ⟨2048 * (t.val % 4) + r.val, by omega⟩ k) := by
  blk_ext [iblk, idx t]

theorem rd1 (c : Dev nD) (t : Fin cfg0.N) (r : Fin 2048) (l : Fin 128) : iblk m c 1 t (ix2 r l)
    = V m c main_v69 (ix2 ⟨2048 * (t.val % 4) + r.val, by omega⟩ l) := by
  blk_ext [iblk, idx t]

theorem rd2 (c : Dev nD) (t : Fin cfg0.N) (k : Fin 4096) (n : Fin 256) : iblk m c 2 t (ix3 0 k n)
    = m ((c : Thread nD τ).loc main_arg2) (ix3 1 k ⟨256 * (t.val / 4) + n.val, by have := tlt t; omega⟩) := by
  rw [← V_main_arg2 m c]
  blk_ext [iblk, idx t]

theorem rd3 (c : Dev nD) (t : Fin cfg0.N) (k : Fin 4096) (n : Fin 256) : iblk m c 3 t (ix3 0 k n)
    = m ((c : Thread nD τ).loc main_arg2) (ix3 1 k ⟨11008 + 256 * (t.val / 4) + n.val, by have := tlt t; omega⟩) := by
  rw [← V_main_arg2 m c]
  blk_ext [iblk, idx t]

abbrev X (c : Dev nD) : S8192x4096.Idx → EReal := m ((c : Thread nD τ).loc main_arg0)
abbrev GN (c : Dev nD) : S2x4096.Idx → EReal := m ((c : Thread nD τ).loc main_arg1)
abbrev W (c : Dev nD) : S2x4096x22016.Idx → EReal := m ((c : Thread nD τ).loc main_arg2)

theorem v5 (c : Dev nD) (i : Fin 8192) (k : Fin 4096) : V m c main_v5 (ix2 i k) = X m c (ix2 i k) * GN m c (ix2 1 k) := by
  simp only [V, List.flatten_cons, List.flatten_nil, List.append_nil, List.cons_append, List.nil_append, TRef.binary, TRef.ternary, TRef.unary, TRef.nullary, TRef.toBuf, TRef.ofBuf, cast_eq]
  after_reads_simp
  pointwise

theorem v69 (c : Dev nD) (i : Fin 8192) (l : Fin 128) : V m c main_v69 (ix2 i l)
    = lane (fun k => X m c (ix2 i k) * X m c (ix2 i k)) l := by
  simp only [V, List.flatten_cons, List.flatten_nil, List.append_nil, List.cons_append, List.nil_append, TRef.binary, TRef.ternary, TRef.unary, TRef.nullary, TRef.toBuf, TRef.ofBuf, cast_eq]
  after_reads_simp
  pointwise
  exact lane_terms (fun k => X m c (ix2 i k) * X m c (ix2 i k)) l

/-- The weights of the two halves, kept through the four row blocks of a column block. -/
theorem kept (c : Dev nD) : ∀ n (hn : n < cfg0.N), (outsAt0 m c n hn).2
    = (k0_pay2 (F := Ideal) (iblk m c 2 ⟨4 * (n / 4), by omega⟩), k0_pay3 (F := Ideal) (iblk m c 3 ⟨4 * (n / 4), by omega⟩)) := by
  intro n
  induction n with
  | zero => exact fun hn => kept_A m c ⟨0, hn⟩ rfl
  | succ n ih =>
    intro hn
    by_cases h0 : (n + 1) % 4 = 0
    · have e : (⟨4 * ((n + 1) / 4), by omega⟩ : Fin cfg0.N) = ⟨n + 1, hn⟩ := Fin.ext (by show 4 * ((n + 1) / 4) = n + 1; omega)
      rw [e]
      exact kept_A m c ⟨n + 1, hn⟩ h0
    · have e : (⟨4 * ((n + 1) / 4), by omega⟩ : Fin cfg0.N) = ⟨4 * (n / 4), by omega⟩ := Fin.ext (by show 4 * ((n + 1) / 4) = 4 * (n / 4); omega)
      rw [e]
      exact (kept_B m c ⟨n + 1, hn⟩ h0).trans (ih _)

theorem out_eq (c : Dev nD) (t : Fin cfg0.N) (y : S2048x256.Idx) : (outsAt0 m c t.val t.isLt).1 y
    = blockOut (iblk m c 0 t) (iblk m c 1 t) (k0_pay2 (F := Ideal) (iblk m c 2 ⟨4 * (t.val / 4), by omega⟩))
        (k0_pay3 (F := Ideal) (iblk m c 3 ⟨4 * (t.val / 4), by omega⟩)) y := by
  by_cases h0 : t.val % 4 = 0
  · rw [out_A m c t h0]
    have e : (⟨4 * (t.val / 4), by omega⟩ : Fin cfg0.N) = t := Fin.ext (by show 4 * (t.val / 4) = t.val; omega)
    rw [e]
  · rw [out_B m c t h0, kept m c]
    have e : (⟨4 * ((t.val - 1) / 4), by omega⟩ : Fin cfg0.N) = ⟨4 * (t.val / 4), by omega⟩ := Fin.ext (by show 4 * ((t.val - 1) / 4) = 4 * (t.val / 4); omega)
    rw [e]

/-- One entry of the normalised row's product with a weight column. -/
def dot (x : S8192x4096.Idx → EReal) (g : S2x4096.Idx → EReal) (w : S2x4096x22016.Idx → EReal) (i : Fin 8192) (n : Fin 22016) : EReal :=
  ∑ k : Fin 4096, x (ix2 i k) * rrow (fun k => x (ix2 i k)) * g (ix2 1 k) * w (ix3 1 k n)

/-- The formula: the gated product of the two halves. -/
def spec (x : S8192x4096.Idx → EReal) (g : S2x4096.Idx → EReal) (w : S2x4096x22016.Idx → EReal) : S8192x11008.Idx → EReal :=
  fun i => glu (dot x g w ⟨(i 0).val, (i 0).isLt⟩ ⟨(i 1).val, Nat.lt_of_lt_of_le (i 1).isLt (by decide)⟩)
    (dot x g w ⟨(i 0).val, (i 0).isLt⟩ ⟨11008 + (i 1).val, Nat.add_lt_add_left (i 1).isLt 11008⟩)

/-- A block's entry of the product, its scale outside the sum. -/
theorem dot_eq (x : S8192x4096.Idx → EReal) (g : S2x4096.Idx → EReal) (w : S2x4096x22016.Idx → EReal) (i : Fin 8192) (n : Fin 22016)
    (s : Fin 128 → EReal) (a b : Fin 4096 → EReal) (hs : ∀ l, s l = lane (fun k => x (ix2 i k) * x (ix2 i k)) l)
    (ha : ∀ k, a k = x (ix2 i k) * g (ix2 1 k)) (hb : ∀ k, b k = w (ix3 1 k n)) :
    scale s * ∑ k : Fin 4096, a k * b k = dot x g w i n := by
  unfold dot
  rw [← rrow_dot (fun k => x (ix2 i k)) (fun k => g (ix2 1 k)) (fun k => w (ix3 1 k n))]
  exact congrArg₂ (· * ·) (rrow_lanes _ _ hs) (Finset.sum_congr rfl fun k _ => congrArg₂ (· * ·) (ha k) (hb k))

theorem final_eq (c : Dev nD) : (dats m 0 c).arrAt 4 cfg0.N = spec (X m c) (GN m c) (W m c) := by
  refine (dats m 0 c).arrAt_eq_of_covers 4 (spec _ _ _) (by decide +kernel) fun t hf y => ?_
  blk_simp
  rw [after0_4, out_eq]
  have ht := tlt t
  have h0 : (y 0).val < 2048 := (y 0).isLt
  have h1 : (y 1).val < 256 := (y 1).isLt
  have e0 : (((win0_4.blk t).view.emb y) 0).val = 2048 * (t.val % 4) + (y 0).val := by
    blk_simp [idx t]
    omega
  have e1 : (((win0_4.blk t).view.emb y) 1).val = 256 * (t.val / 4) + (y 1).val := by
    blk_simp [idx t]
    omega
  have e4 : 4 * (t.val / 4) / 4 = t.val / 4 := by omega
  have hr : 2048 * (t.val % 4) + (y 0).val < 8192 := by omega
  have hg : 256 * (t.val / 4) + (y 1).val < 22016 := by omega
  have hu : 11008 + 256 * (t.val / 4) + (y 1).val < 22016 := by omega
  have hg' : ∀ k : Fin 4096, k0_pay2 (F := Ideal) (iblk m c 2 ⟨4 * (t.val / 4), by omega⟩) (ix2 k (⟨(y 1).val, h1⟩ : Fin 256)) = W m c (ix3 1 k ⟨256 * (t.val / 4) + (y 1).val, hg⟩) := fun k =>
    (pay2 _ k _).trans ((rd2 m c _ k _).trans (congrArg (W m c) (congrArg (ix3 1 k) (Fin.ext (by show 256 * (4 * (t.val / 4) / 4) + (y 1).val = _; rw [e4])))))
  have hu' : ∀ k : Fin 4096, k0_pay3 (F := Ideal) (iblk m c 3 ⟨4 * (t.val / 4), by omega⟩) (ix2 k (⟨(y 1).val, h1⟩ : Fin 256)) = W m c (ix3 1 k ⟨11008 + 256 * (t.val / 4) + (y 1).val, hu⟩) := fun k =>
    (pay3 _ k _).trans ((rd3 m c _ k _).trans (congrArg (W m c) (congrArg (ix3 1 k) (Fin.ext (by show 11008 + 256 * (4 * (t.val / 4) / 4) + (y 1).val = _; rw [e4])))))
  have hs : ∀ l : Fin 128, iblk m c 1 t (ix2 (⟨(y 0).val, h0⟩ : Fin 2048) l) = lane (fun k => X m c (ix2 ⟨2048 * (t.val % 4) + (y 0).val, hr⟩ k) * X m c (ix2 ⟨2048 * (t.val % 4) + (y 0).val, hr⟩ k)) l := fun l =>
    (rd1 m c t _ l).trans (v69 m c _ l)
  have ha : ∀ k : Fin 4096, iblk m c 0 t (ix2 (⟨(y 0).val, h0⟩ : Fin 2048) k) = X m c (ix2 ⟨2048 * (t.val % 4) + (y 0).val, hr⟩ k) * GN m c (ix2 1 k) := fun k =>
    (rd0 m c t _ k).trans (v5 m c _ k)
  have d1 := dot_eq (X m c) (GN m c) (W m c) _ _ _ _ _ hs ha hg'
  have d2 := dot_eq (X m c) (GN m c) (W m c) _ _ _ _ _ hs ha hu'
  have f0 : (⟨2048 * (t.val % 4) + (y 0).val, hr⟩ : Fin 8192) = ⟨(((win0_4.blk t).view.emb y) 0).val, (((win0_4.blk t).view.emb y) 0).isLt⟩ := Fin.ext e0.symm
  refine (congrArg₂ glu d1 d2).trans ?_
  unfold spec
  refine congrArg₂ glu (congrArg₂ (dot _ _ _) f0 (Fin.ext e1.symm)) (congrArg₂ (dot _ _ _) f0 (Fin.ext ?_))
  show 11008 + 256 * (t.val / 4) + (y 1).val = 11008 + _
  rw [e1, Nat.add_assoc]

end Cert.Kernel2Ideal.Out
-- ==== Proof.Ref2.lean ====
/-
  The plain activation of the feed-forward is the formula of its kernel.
-/
module

public import proofs.«01_k».proof.Proof.Glu2
public import proofs.«01_k».proof.Proof.Gen.Reference2Ideal.Read

@[expose] public section

set_option maxRecDepth 16384
set_option maxHeartbeats 1000000

noncomputable section

namespace Cert.Reference2Ideal.Out

open Cert.Rms Cert.Reference2Ideal Cert.Reference2Ideal.Gen Cert.Reference2Ideal.Read Idealize.ShloMosaic Idealize.ShloMosaic.TcCoe Idealize.SL.Sem

/-- The row's scale. -/
theorem scale_eq (x : S8192x4096.Idx → EReal) (i : Fin 8192) : val_main_v9 (F := Ideal) x (ix2 i 0) = rrow (fun k => x (ix2 i k)) := by
  rw [val_main_v9_apply, val_main_v8_apply, val_main_v7_apply, val_main_cst_1_apply, val_main_v6_apply, val_main_v5_apply, val_main_cst_0_apply,
    val_main_v4_apply, val_main_v3_apply, val_main_cst_apply]
  have hz : (∑ k : Fin 4096, val_main_v2 (F := Ideal) x (idx_main_v3 (idx_main_v4 (ix2 i 0)) k)) = ∑ k : Fin 4096, x (ix2 i k) * x (ix2 i k) :=
    Finset.sum_congr rfl fun k _ => by
      have e : idx_main_v3 (idx_main_v4 (ix2 i 0)) k = ix2 i k := funext fun a => match a with | ⟨0, _⟩ => rfl | ⟨1, _⟩ => rfl
      rw [e, val_main_v2_apply]
      rfl
  rw [hz]
  unfold rrow
  refine congrArg Ideal.rsqrt (congrArg (· + _) (congrArg (fun z => Ideal.div z _) ?_))
  show Ideal.ofBits FTy.f32 0#32 + _ = _
  rw [zero_bits, zero_add]

/-- The normalised, gained entry. -/
theorem normed_eq (x : S8192x4096.Idx → EReal) (g : S2x4096.Idx → EReal) (i : Fin 8192) (k : Fin 4096) :
    val_main_v14 (F := Ideal) x g (ix2 i k) = x (ix2 i k) * rrow (fun k => x (ix2 i k)) * g (ix2 1 k) := by
  rw [val_main_v14_apply, val_main_v11_apply, val_main_v10_apply, val_main_v13_apply, val_main_v12_apply, val_main_v1_apply, val_main_v0_apply]
  have e : idx_main_v10 (ix2 i k) = ix2 i 0 := funext fun a => match a with | ⟨0, _⟩ => rfl | ⟨1, _⟩ => rfl
  rw [e, scale_eq]
  refine congrArg₂ (· * ·) rfl (congrArg g (funext fun a => Fin.ext ?_))
  have hk := k.isLt
  match a with
  | ⟨0, _⟩ => rfl
  | ⟨1, _⟩ => show k.val % 4096 = k.val; omega

theorem dot_eq (x : S8192x4096.Idx → EReal) (g : S2x4096.Idx → EReal) (w : S2x4096x22016.Idx → EReal) (i : Fin 8192) (n : Fin 22016) :
    val_main_v17 (F := Ideal) x g w (ix2 i n) = Cert.Kernel2Ideal.Out.dot x g w i n := by
  rw [val_main_v17_apply]
  unfold Cert.Kernel2Ideal.Out.dot
  refine Finset.sum_congr rfl fun k _ => ?_
  have e : lidx_main_v17 (ix2 i n) k = ix2 i k := funext fun a => match a with | ⟨0, _⟩ => rfl | ⟨1, _⟩ => rfl
  rw [e, normed_eq, val_main_v16_apply, val_main_v15_apply]
  refine congrArg (_ * ·) (congrArg w (funext fun a => Fin.ext ?_))
  have hk := k.isLt
  have hn := n.isLt
  match a with
  | ⟨0, _⟩ => rfl
  | ⟨1, _⟩ => show (k.val * 22016 + n.val) / 22016 % 4096 = k.val; omega
  | ⟨2, _⟩ => show (k.val * 22016 + n.val) % 22016 = n.val; omega

theorem ref_eq (x : S8192x4096.Idx → EReal) (g : S2x4096.Idx → EReal) (w : S2x4096x22016.Idx → EReal) :
    val_main_v22 (F := Ideal) x g w = Cert.Kernel2Ideal.Out.spec x g w := by
  funext i
  have h0 : (i 0).val < 8192 := (i 0).isLt
  have h1 : (i 1).val < 11008 := (i 1).isLt
  rw [val_main_v22_apply, val_main_v21_apply, val_main_v20_apply, val_main_call0_v5_apply, val_main_call0_v4_apply, val_main_call0_cst_0_apply,
    val_main_call0_v3_apply, val_main_call0_v2_apply, val_main_call0_cst_apply, val_main_call0_v1_apply, val_main_call0_v0_apply,
    val_main_v18_apply, val_main_v19_apply]
  have e1 : idx_main_v18 i = ix2 ⟨(i 0).val, h0⟩ ⟨(i 1).val, by omega⟩ := funext fun a => Fin.ext (by
    match a with
    | ⟨0, _⟩ => show _ = (i 0).val; simp
    | ⟨1, _⟩ => show _ = (i 1).val; simp)
  have e2 : idx_main_v19 i = ix2 ⟨(i 0).val, h0⟩ ⟨11008 + (i 1).val, by omega⟩ := funext fun a => Fin.ext (by
    match a with
    | ⟨0, _⟩ => show _ = (i 0).val; simp
    | ⟨1, _⟩ => rfl)
  rw [e1, e2, dot_eq, dot_eq]
  unfold Cert.Kernel2Ideal.Out.spec Cert.Kernel2Ideal.Out.glu
  refine congrArg₂ (· * ·) (congrArg₂ (· * ·) rfl ?_) rfl
  show Ideal.div (Ideal.ofBits FTy.f32 0x3F800000#32) (Ideal.ofBits FTy.f32 0x3F800000#32 + _) = _
  rw [one_bits]
  rfl

end Cert.Reference2Ideal.Out
-- ==== Proof.Mm3.lean ====
/-
  The feed-forward's second product with the residual sum, `x + 0.5 * (act @ w_out[1])`, as one formula of the result's
  entry; the kernel's result array is it.
-/
module

public import proofs.«01_k».proof.Proof.Gen.Kernel3Ideal.Value
public import Idealize.ShloMosaic.Lib.Pipeline.ValueKit
public import Idealize.ShloMosaic.Lib.Pointwise

@[expose] public section

set_option maxRecDepth 16384
set_option maxHeartbeats 1000000

noncomputable section

namespace Cert.Kernel3Ideal.Out

open Cert.Kernel3Ideal Cert.Kernel3Ideal.Gen Idealize.ShloMosaic Idealize.ShloMosaic.TcCoe Idealize.SL.Sem

/-- The float one half. -/
abbrev half : EReal := (FloatOps.ofBits .f32 0x3F000000#32 : Ideal .f32)

/-- One sub-block of rows, entry by entry. -/
theorem pay (v0 : S1x11008x256.Idx → EReal) (a : S256x256.Idx → EReal) (b : S256x11008.Idx → EReal) (r n : Fin 256) :
    k0_pay1 (F := Ideal) (k0_pay2 (F := Ideal) v0) a b (ix2 r n) = a (ix2 r n) + half * ∑ k : Fin 11008, b (ix2 r k) * v0 (ix3 0 k n) := by
  pointwise [k0_pay1, k0_pay2]

/-- What a grid point leaves, as a function of its blocks. -/
def blockOut (x0 : S1024x11008.Idx → EReal) (x1 : S1x11008x256.Idx → EReal) (x2 : S1024x256.Idx → EReal) : S1024x256.Idx → EReal :=
  fun i => x2 i + half * ∑ k : Fin 11008, x0 (ix2 ⟨(i 0).val, (i 0).isLt⟩ k) * x1 (ix3 0 k ⟨(i 1).val, (i 1).isLt⟩)

/-- A sub-block of rows starting at row `o` agrees with it. -/
theorem piece (x0 : S1024x11008.Idx → EReal) (x1 : S1x11008x256.Idx → EReal) (x2 : S1024x256.Idx → EReal) (o : ℕ)
    (h : ∀ a, (![o, 0] : Fin 2 → ℕ) a + S256x256.size a ≤ S1024x256.size a) (h' : ∀ a, (![o, 0] : Fin 2 → ℕ) a + S256x11008.size a ≤ S1024x11008.size a)
    (x : S256x256.Idx) :
    k0_pay1 (F := Ideal) (k0_pay2 (F := Ideal) x1) (View.ld x2 (Rect.unit (s := S1024x256) ![o, 0] S256x256.size h))
        (View.ld x0 (Rect.unit (s := S1024x11008) ![o, 0] S256x11008.size h')) x
      = blockOut x0 x1 x2 ((Rect.unit (s := S1024x256) ![o, 0] S256x256.size h).emb x) := by
  have h0 : (x 0).val < 256 := (x 0).isLt
  have h1 : (x 1).val < 256 := (x 1).isLt
  have hx : x = ix2 (⟨(x 0).val, h0⟩ : Fin 256) (⟨(x 1).val, h1⟩ : Fin 256) := funext fun a => match a with | ⟨0, _⟩ => rfl | ⟨1, _⟩ => rfl
  refine (congrArg _ hx).trans ((pay _ _ _ _ _).trans ?_)
  unfold blockOut
  refine congrArg₂ (· + ·) (congrArg (fun z => x2 ((Rect.unit (s := S1024x256) ![o, 0] S256x256.size h).emb z)) hx.symm) (congrArg (half * ·) (Finset.sum_congr rfl fun k _ => congrArg₂ (· * ·) ?_ ?_))
  · refine congrArg x0 (funext fun a => Fin.ext ?_)
    match a with
    | ⟨0, _⟩ => rfl
    | ⟨1, _⟩ => show 0 + 1 * k.val = k.val; omega
  · refine congrArg x1 (funext fun a => Fin.ext ?_)
    match a with
    | ⟨0, _⟩ => rfl
    | ⟨1, _⟩ => rfl
    | ⟨2, _⟩ => show (x 1).val = 0 + 1 * (x 1).val; omega

theorem out_eq (x0 : S1024x11008.Idx → EReal) (x1 : S1x11008x256.Idx → EReal) (x2 : S1024x256.Idx → EReal) (y : S1024x256.Idx) :
    out0_3 (F := Ideal) x0 x1 x2 y = blockOut x0 x1 x2 y := by
  unfold out0_3
  rw [View.ld_unit_zero (by funext a; match a with | ⟨0, _⟩ => rfl | ⟨1, _⟩ => rfl | ⟨2, _⟩ => rfl)]
  refine View.canon_apply_of_pieces (Val := Elt Ideal) (e := .f32) (blockOut x0 x1 x2) _ ?_ y (cover0_3 _ _ _ _ y)
  simp only [List.forall_mem_cons, List.not_mem_nil, false_implies, implies_true, and_true]
  exact ⟨piece x0 x1 x2 768 _ _, piece x0 x1 x2 512 _ _, piece x0 x1 x2 256 _ _, piece x0 x1 x2 0 _ _⟩

variable (m : (ℓ : Loc nD τ sig) → Buf (Elt Ideal) ℓ)

theorem idx : ∀ t : Fin cfg0.N, win0_0.index t = ![t.val / 16, 0] ∧ win0_1.index t = ![1, 0, t.val % 16] ∧ win0_2.index t = ![t.val / 16, t.val % 16]
    ∧ win0_3.index t = ![t.val / 16, t.val % 16] :=
  (by decide +kernel : ∀ t : Fin grid0.N, _)

theorem tlt (t : Fin cfg0.N) : t.val < 128 := (by decide : cfg0.N = 128) ▸ t.isLt

theorem rd0 (c : Dev nD) (t : Fin cfg0.N) (r : Fin 1024) (k : Fin 11008) : iblk m c 0 t (ix2 r k)
    = m ((c : Thread nD τ).loc main_arg0) (ix2 ⟨1024 * (t.val / 16) + r.val, by have := tlt t; omega⟩ k) := by
  rw [← V_main_arg0 m c]
  blk_ext [iblk, idx t]

theorem rd1 (c : Dev nD) (t : Fin cfg0.N) (k : Fin 11008) (n : Fin 256) : iblk m c 1 t (ix3 0 k n)
    = m ((c : Thread nD τ).loc main_arg1) (ix3 1 k ⟨256 * (t.val % 16) + n.val, by have := tlt t; omega⟩) := by
  rw [← V_main_arg1 m c]
  blk_ext [iblk, idx t]

theorem rd2 (c : Dev nD) (t : Fin cfg0.N) (r : Fin 1024) (n : Fin 256) : iblk m c 2 t (ix2 r n)
    = m ((c : Thread nD τ).loc main_arg2) (ix2 ⟨1024 * (t.val / 16) + r.val, by have := tlt t; omega⟩ ⟨256 * (t.val % 16) + n.val, by have := tlt t; omega⟩) := by
  rw [← V_main_arg2 m c]
  blk_ext [iblk, idx t]

/-- The formula: `x + 0.5 * (act @ w_out[1])`. -/
def spec (a : S8192x11008.Idx → EReal) (w : S2x11008x4096.Idx → EReal) (x : S8192x4096.Idx → EReal) : S8192x4096.Idx → EReal :=
  fun i => x i + half * ∑ k : Fin 11008, a (ix2 ⟨(i 0).val, (i 0).isLt⟩ k) * w (ix3 1 k ⟨(i 1).val, (i 1).isLt⟩)

theorem final_eq (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 (spec _ _ _) (by decide +kernel) fun t hf y => ?_
  blk_simp
  rw [after0_3, out_eq]
  have ht := tlt t
  have h0 : (y 0).val < 1024 := (y 0).isLt
  have h1 : (y 1).val < 256 := (y 1).isLt
  have e0 : (((win0_3.blk t).view.emb y) 0).val = 1024 * (t.val / 16) + (y 0).val := by
    blk_simp [idx t]
    omega
  have e1 : (((win0_3.blk t).view.emb y) 1).val = 256 * (t.val % 16) + (y 1).val := by
    blk_simp [idx t]
    omega
  have hy : y = ix2 ⟨(y 0).val, h0⟩ ⟨(y 1).val, h1⟩ := funext fun a => match a with | ⟨0, _⟩ => rfl | ⟨1, _⟩ => rfl
  unfold spec blockOut
  refine congrArg₂ (· + ·) ?_ (congrArg (half * ·) (Finset.sum_congr rfl fun k _ => congrArg₂ (· * ·) ?_ ?_))
  · refine (congrArg (iblk m c 2 t) hy).trans ((rd2 m c t _ _).trans (congrArg _ (funext fun a => Fin.ext ?_)))
    match a with
    | ⟨0, _⟩ => exact e0.symm
    | ⟨1, _⟩ => exact e1.symm
  · refine (rd0 m c t _ _).trans (congrArg _ (funext fun a => Fin.ext ?_))
    match a with
    | ⟨0, _⟩ => exact e0.symm
    | ⟨1, _⟩ => rfl
  · refine (rd1 m c t _ _).trans (congrArg _ (funext fun a => Fin.ext ?_))
    match a with
    | ⟨0, _⟩ => rfl
    | ⟨1, _⟩ => rfl
    | ⟨2, _⟩ => exact e1.symm

end Cert.Kernel3Ideal.Out
-- ==== Proof.Ref3.lean ====
/-
  The plain second product of the feed-forward is the formula of its kernel.
-/
module

public import proofs.«01_k».proof.Proof.Mm3
public import proofs.«01_k».proof.Proof.Gen.Reference3Ideal.Read

@[expose] public section

set_option maxRecDepth 16384
set_option maxHeartbeats 1000000

noncomputable section

namespace Cert.Reference3Ideal.Out

open Cert.Reference3Ideal Cert.Reference3Ideal.Gen Cert.Reference3Ideal.Read Idealize.ShloMosaic Idealize.ShloMosaic.TcCoe Idealize.SL.Sem

theorem ref_eq (a : S8192x11008.Idx → EReal) (w : S2x11008x4096.Idx → EReal) (x : S8192x4096.Idx → EReal) :
    val_main_v6 (F := Ideal) a w x = Cert.Kernel3Ideal.Out.spec a w x := by
  funext i
  have h0 : (i 0).val < 8192 := (i 0).isLt
  have h1 : (i 1).val < 4096 := (i 1).isLt
  rw [val_main_v6_apply, val_main_v5_apply, val_main_v4_apply, val_main_v3_apply]
  unfold Cert.Kernel3Ideal.Out.spec
  refine congrArg₂ (· + ·) rfl (congrArg₂ (· * ·) rfl (Finset.sum_congr rfl fun k _ => congrArg₂ (· * ·) ?_ ?_))
  · rw [val_main_v0_apply]
    exact congrArg a (funext fun b => match b with | ⟨0, _⟩ => rfl | ⟨1, _⟩ => rfl)
  · rw [val_main_v2_apply, val_main_v1_apply]
    have hk := k.isLt
    refine congrArg w (funext fun b => Fin.ext ?_)
    match b with
    | ⟨0, _⟩ => rfl
    | ⟨1, _⟩ => show (k.val * 4096 + (i 1).val) / 4096 % 11008 = k.val; omega
    | ⟨2, _⟩ => show (k.val * 4096 + (i 1).val) % 4096 = (i 1).val; omega

end Cert.Reference3Ideal.Out
-- ==== Proof.Lanes.lean ====
/-
  The sum of a row's entries by 128 lanes, built up 256 columns at a time.
-/
module

public import proofs.«01_k».proof.Proof.Rms

@[expose] public section

noncomputable section

namespace Cert.Rms

/-- What columns `256 j` to `256 j + 255` add to lane `l`. -/
def step (q : Fin 4096 → EReal) (l : Fin 128) (j : ℕ) : EReal :=
  if h : j < 16 then q ⟨256 * j + l.val, by omega⟩ + q ⟨256 * j + (128 + l.val), by omega⟩ else 0

/-- The lane after the first `n` of the sixteen column blocks. -/
def upTo (q : Fin 4096 → EReal) (l : Fin 128) (n : ℕ) : EReal := ∑ j ∈ Finset.range n, step q l j

theorem upTo_succ (q : Fin 4096 → EReal) (l : Fin 128) (n : ℕ) : upTo q l (n + 1) = upTo q l n + step q l n :=
  Finset.sum_range_succ _ _

theorem upTo_one (q : Fin 4096 → EReal) (l : Fin 128) : upTo q l 1 = step q l 0 := by
  rw [upTo_succ]
  exact zero_add _

/-- After all sixteen it is the lane's share. -/
theorem upTo_all (q : Fin 4096 → EReal) (l : Fin 128) : upTo q l 16 = lane q l := by
  unfold upTo lane
  rw [Finset.sum_range]
  refine Eq.symm ((Fintype.sum_equiv (finProdFinEquiv (m := 16) (n := 2)) (fun p => q ⟨128 * (p.2.val + 2 * p.1.val) + l.val, by omega⟩) _
    fun p => congrArg q (Fin.ext rfl)).symm.trans ?_)
  rw [Fintype.sum_prod_type]
  refine Finset.sum_congr rfl fun j _ => ?_
  rw [Fin.sum_univ_two]
  unfold step
  rw [dif_pos j.isLt]
  refine congrArg₂ (· + ·) (congrArg q (Fin.ext ?_)) (congrArg q (Fin.ext ?_))
  · show 128 * (0 + 2 * j.val) + l.val = 256 * j.val + l.val
    omega
  · show 128 * (1 + 2 * j.val) + l.val = 256 * j.val + (128 + l.val)
    omega

end Cert.Rms
-- ==== Proof.Mm4.lean ====
/-
  The feed-forward's second product with the residual sum, and the two arrays it prepares for the next norm: the rows
  times the gain, and the rows' sums of squares by 128 lanes. Each as one formula of its entry; the kernel's result
  arrays are these.
-/
module

public import proofs.«01_k».proof.Proof.Lanes
public import proofs.«01_k».proof.Proof.Gen.Kernel4Ideal.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384
set_option maxHeartbeats 1000000

noncomputable section

namespace Cert.Kernel4Ideal.Out

open Cert.Rms Cert.Kernel4Ideal Cert.Kernel4Ideal.Gen Idealize.ShloMosaic Idealize.ShloMosaic.TcCoe Idealize.SL.Sem Idealize.ShloMosaic.StableHlo

/-- The float one half. -/
abbrev half : EReal := (FloatOps.ofBits .f32 0x3F000000#32 : Ideal .f32)

/-- The two columns of a block of 256 that a lane takes. -/
abbrev lo (l : Fin 128) : Fin 256 := ⟨l.val, by omega⟩
abbrev hi (l : Fin 128) : Fin 256 := ⟨128 + l.val, by omega⟩

/-- One sub-block of rows, entry by entry: the sum, the gained rows, the lanes. -/
theorem payY (v0 : S1x11008x256.Idx → EReal) (a : S256x256.Idx → EReal) (b : S256x11008.Idx → EReal) (r n : Fin 256) :
    k0_pay13 (F := Ideal) (k0_pay6 (F := Ideal) v0) a b (ix2 r n) = a (ix2 r n) + half * ∑ k : Fin 11008, b (ix2 r k) * v0 (ix3 0 k n) := by
  pointwise [k0_pay13, k0_pay6]

theorem payH (v : S11008x256.Idx → EReal) (a : S256x256.Idx → EReal) (b : S256x11008.Idx → EReal) (g : S1x256.Idx → EReal) (r n : Fin 256) :
    k0_pay14 (F := Ideal) v a b g (ix2 r n) = k0_pay13 (F := Ideal) v a b (ix2 r n) * g (ix2 0 n) := by
  pointwise [k0_pay14]

theorem payQ (y : S256x256.Idx → EReal) (p : S256x128.Idx → EReal) (r : Fin 256) (l : Fin 128) :
    k0_pay1 (F := Ideal) y p (ix2 r l) = p (ix2 r l) + (y (ix2 r (lo l)) * y (ix2 r (lo l)) + y (ix2 r (hi l)) * y (ix2 r (hi l))) := by
  pointwise [k0_pay1]

theorem pay0 (i : S1024x128.Idx) : k0_pay5 (F := Ideal) i = 0 := by
  exact zero_bits

/-- What a grid point leaves, as functions of its blocks. -/
def yOut (x0 : S1024x11008.Idx → EReal) (x1 : S1x11008x256.Idx → EReal) (x2 : S1024x256.Idx → EReal) : S1024x256.Idx → EReal :=
  fun i => x2 i + half * ∑ k : Fin 11008, x0 (ix2 ⟨(i 0).val, (i 0).isLt⟩ k) * x1 (ix3 0 k ⟨(i 1).val, (i 1).isLt⟩)

def hOut (y : S1024x256.Idx → EReal) (g : S1x256.Idx → EReal) : S1024x256.Idx → EReal :=
  fun i => y i * g (ix2 0 ⟨(i 1).val, (i 1).isLt⟩)

def qOut (y : S1024x256.Idx → EReal) (p : S1024x128.Idx → EReal) : S1024x128.Idx → EReal :=
  fun i => p i + (y (ix2 ⟨(i 0).val, (i 0).isLt⟩ (lo ⟨(i 1).val, (i 1).isLt⟩)) * y (ix2 ⟨(i 0).val, (i 0).isLt⟩ (lo ⟨(i 1).val, (i 1).isLt⟩))
    + y (ix2 ⟨(i 0).val, (i 0).isLt⟩ (hi ⟨(i 1).val, (i 1).isLt⟩)) * y (ix2 ⟨(i 0).val, (i 0).isLt⟩ (hi ⟨(i 1).val, (i 1).isLt⟩)))

/-- A sub-block of rows starting at row `o` agrees with them. -/
theorem pieceY (x0 : S1024x11008.Idx → EReal) (x1 : S1x11008x256.Idx → EReal) (x2 : S1024x256.Idx → EReal) (o : ℕ)
    (h : ∀ a, (![o, 0] : Fin 2 → ℕ) a + S256x256.size a ≤ S1024x256.size a) (h' : ∀ a, (![o, 0] : Fin 2 → ℕ) a + S256x11008.size a ≤ S1024x11008.size a)
    (x : S256x256.Idx) :
    k0_pay13 (F := Ideal) (k0_pay6 (F := Ideal) x1) (View.ld x2 (Rect.unit (s := S1024x256) ![o, 0] S256x256.size h))
        (View.ld x0 (Rect.unit (s := S1024x11008) ![o, 0] S256x11008.size h')) x
      = yOut x0 x1 x2 ((Rect.unit (s := S1024x256) ![o, 0] S256x256.size h).emb x) := by
  have h0 : (x 0).val < 256 := (x 0).isLt
  have h1 : (x 1).val < 256 := (x 1).isLt
  have hx : x = ix2 (⟨(x 0).val, h0⟩ : Fin 256) (⟨(x 1).val, h1⟩ : Fin 256) := funext fun a => match a with | ⟨0, _⟩ => rfl | ⟨1, _⟩ => rfl
  refine (congrArg _ hx).trans ((payY _ _ _ _ _).trans ?_)
  unfold yOut
  refine congrArg₂ (· + ·) (congrArg (fun z => x2 ((Rect.unit (s := S1024x256) ![o, 0] S256x256.size h).emb z)) hx.symm) (congrArg (half * ·) (Finset.sum_congr rfl fun k _ => congrArg₂ (· * ·) ?_ ?_))
  · refine congrArg x0 (funext fun a => Fin.ext ?_)
    match a with
    | ⟨0, _⟩ => rfl
    | ⟨1, _⟩ => show 0 + 1 * k.val = k.val; omega
  · refine congrArg x1 (funext fun a => Fin.ext ?_)
    match a with
    | ⟨0, _⟩ => rfl
    | ⟨1, _⟩ => rfl
    | ⟨2, _⟩ => show (x 1).val = 0 + 1 * (x 1).val; omega

theorem pieceH (x0 : S1024x11008.Idx → EReal) (x1 : S1x11008x256.Idx → EReal) (x2 : S1024x256.Idx → EReal) (g : S1x256.Idx → EReal) (o : ℕ)
    (h : ∀ a, (![o, 0] : Fin 2 → ℕ) a + S256x256.size a ≤ S1024x256.size a) (h' : ∀ a, (![o, 0] : Fin 2 → ℕ) a + S256x11008.size a ≤ S1024x11008.size a)
    (x : S256x256.Idx) :
    k0_pay14 (F := Ideal) (k0_pay6 (F := Ideal) x1) (View.ld x2 (Rect.unit (s := S1024x256) ![o, 0] S256x256.size h))
        (View.ld x0 (Rect.unit (s := S1024x11008) ![o, 0] S256x11008.size h')) g x
      = hOut (yOut x0 x1 x2) g ((Rect.unit (s := S1024x256) ![o, 0] S256x256.size h).emb x) := by
  have h0 : (x 0).val < 256 := (x 0).isLt
  have h1 : (x 1).val < 256 := (x 1).isLt
  have hx : x = ix2 (⟨(x 0).val, h0⟩ : Fin 256) (⟨(x 1).val, h1⟩ : Fin 256) := funext fun a => match a with | ⟨0, _⟩ => rfl | ⟨1, _⟩ => rfl
  refine (congrArg _ hx).trans ((payH _ _ _ _ _ _).trans ?_)
  unfold hOut
  refine congrArg₂ (· * ·) ((congrArg _ hx.symm).trans (pieceY x0 x1 x2 o h h' x)) (congrArg g (funext fun a => Fin.ext ?_))
  match a with
  | ⟨0, _⟩ => rfl
  | ⟨1, _⟩ => show (x 1).val = 0 + 1 * (x 1).val; omega

theorem pieceQ (x0 : S1024x11008.Idx → EReal) (x1 : S1x11008x256.Idx → EReal) (x2 : S1024x256.Idx → EReal) (p : S1024x128.Idx → EReal) (o : ℕ)
    (h : ∀ a, (![o, 0] : Fin 2 → ℕ) a + S256x256.size a ≤ S1024x256.size a) (h' : ∀ a, (![o, 0] : Fin 2 → ℕ) a + S256x11008.size a ≤ S1024x11008.size a)
    (h'' : ∀ a, (![o, 0] : Fin 2 → ℕ) a + S256x128.size a ≤ S1024x128.size a) (x : S256x128.Idx) :
    k0_pay1 (F := Ideal) (k0_pay13 (F := Ideal) (k0_pay6 (F := Ideal) x1) (View.ld x2 (Rect.unit (s := S1024x256) ![o, 0] S256x256.size h))
        (View.ld x0 (Rect.unit (s := S1024x11008) ![o, 0] S256x11008.size h')))
        (View.ld (Val := Elt Ideal) (e' := .f32) p (Rect.unit (s := S1024x128) ![o, 0] S256x128.size h'')) x
      = qOut (yOut x0 x1 x2) p ((Rect.unit (s := S1024x128) ![o, 0] S256x128.size h'').emb x) := by
  have h0 : (x 0).val < 256 := (x 0).isLt
  have h1 : (x 1).val < 128 := (x 1).isLt
  have hx : x = ix2 (⟨(x 0).val, h0⟩ : Fin 256) (⟨(x 1).val, h1⟩ : Fin 128) := funext fun a => match a with | ⟨0, _⟩ => rfl | ⟨1, _⟩ => rfl
  refine (congrArg _ hx).trans ((payQ _ _ _ _).trans ?_)
  unfold qOut
  refine congrArg₂ (· + ·) (congrArg (fun z => p ((Rect.unit (s := S1024x128) ![o, 0] S256x128.size h'').emb z)) hx.symm) ?_
  have e1 := (pieceY x0 x1 x2 o h h' (ix2 (⟨(x 0).val, h0⟩ : Fin 256) (lo ⟨(x 1).val, h1⟩))).trans
    (congrArg (yOut x0 x1 x2) (show _ = ix2 ⟨(((Rect.unit (s := S1024x128) ![o, 0] S256x128.size h'').emb x) 0).val, (((Rect.unit (s := S1024x128) ![o, 0] S256x128.size h'').emb x) 0).isLt⟩
        (lo ⟨(((Rect.unit (s := S1024x128) ![o, 0] S256x128.size h'').emb x) 1).val, (((Rect.unit (s := S1024x128) ![o, 0] S256x128.size h'').emb x) 1).isLt⟩) from
      funext fun a => Fin.ext (match a with | ⟨0, _⟩ => rfl | ⟨1, _⟩ => rfl)))
  have e2 := (pieceY x0 x1 x2 o h h' (ix2 (⟨(x 0).val, h0⟩ : Fin 256) (hi ⟨(x 1).val, h1⟩))).trans
    (congrArg (yOut x0 x1 x2) (show _ = ix2 ⟨(((Rect.unit (s := S1024x128) ![o, 0] S256x128.size h'').emb x) 0).val, (((Rect.unit (s := S1024x128) ![o, 0] S256x128.size h'').emb x) 0).isLt⟩
        (hi ⟨(((Rect.unit (s := S1024x128) ![o, 0] S256x128.size h'').emb x) 1).val, (((Rect.unit (s := S1024x128) ![o, 0] S256x128.size h'').emb x) 1).isLt⟩) from
      funext fun a => Fin.ext (match a with | ⟨0, _⟩ => rfl | ⟨1, _⟩ => show 0 + 1 * (128 + (x 1).val) = 128 + (0 + 1 * (x 1).val) by omega)))
  exact congrArg₂ (· + ·) (congrArg₂ (· * ·) e1 e1) (congrArg₂ (· * ·) e2 e2)

variable (m : (ℓ : Loc nD τ sig) → Buf (Elt Ideal) ℓ)

/-- The point's sum block. -/
theorem y_out (c : Dev nD) (t : Fin cfg0.N) (y : S1024x256.Idx) : (outsAt0 m c t.val t.isLt).1 y = yOut (iblk m c 0 t) (iblk m c 1 t) (iblk m c 2 t) y := by
  by_cases h0 : t.val % 16 = 0
  · rw [outsAt0_A m c t h0]
    frame_out
    refine View.canon_apply_of_pieces (Val := Elt Ideal) (e := .f32) (yOut (iblk m c 0 t) (iblk m c 1 t) (iblk m c 2 t)) _ ?_ y ?_
    swap
    · exact View.cover_of_tiledL (s := S1024x256) _ S256x256.size (by rfl) y
    simp only [List.forall_mem_cons, List.not_mem_nil, false_implies, implies_true, and_true]
    exact ⟨pieceY _ _ _ 768 _ _, pieceY _ _ _ 512 _ _, pieceY _ _ _ 256 _ _, pieceY _ _ _ 0 _ _⟩
  · rw [outsAt0_B m c t h0]
    generalize (outsAt0 m c (t.val - 1) (Nat.lt_of_le_of_lt (Nat.sub_le _ _) t.isLt)) = p
    obtain ⟨p0, p1, p2⟩ := p
    frame_out
    refine View.canon_apply_of_pieces (Val := Elt Ideal) (e := .f32) (yOut (iblk m c 0 t) (iblk m c 1 t) (iblk m c 2 t)) _ ?_ y ?_
    swap
    · exact View.cover_of_tiledL (s := S1024x256) _ S256x256.size (by rfl) y
    simp only [List.forall_mem_cons, List.not_mem_nil, false_implies, implies_true, and_true]
    exact ⟨pieceY _ _ _ 768 _ _, pieceY _ _ _ 512 _ _, pieceY _ _ _ 256 _ _, pieceY _ _ _ 0 _ _⟩

/-- Its gained block. -/
theorem h_out (c : Dev nD) (t : Fin cfg0.N) (y : S1024x256.Idx) : (outsAt0 m c t.val t.isLt).2.1 y
    = hOut (yOut (iblk m c 0 t) (iblk m c 1 t) (iblk m c 2 t)) (iblk m c 3 t) y := by
  by_cases h0 : t.val % 16 = 0
  · rw [outsAt0_A m c t h0]
    frame_out
    refine View.canon_apply_of_pieces (Val := Elt Ideal) (e := .bf16) (hOut (yOut (iblk m c 0 t) (iblk m c 1 t) (iblk m c 2 t)) (iblk m c 3 t)) _ ?_ y ?_
    swap
    · exact View.cover_of_tiledL (s := S1024x256) _ S256x256.size (by rfl) y
    simp only [List.forall_mem_cons, List.not_mem_nil, false_implies, implies_true, and_true]
    exact ⟨pieceH _ _ _ _ 768 _ _, pieceH _ _ _ _ 512 _ _, pieceH _ _ _ _ 256 _ _, pieceH _ _ _ _ 0 _ _⟩
  · rw [outsAt0_B m c t h0]
    generalize (outsAt0 m c (t.val - 1) (Nat.lt_of_le_of_lt (Nat.sub_le _ _) t.isLt)) = p
    obtain ⟨p0, p1, p2⟩ := p
    frame_out
    refine View.canon_apply_of_pieces (Val := Elt Ideal) (e := .bf16) (hOut (yOut (iblk m c 0 t) (iblk m c 1 t) (iblk m c 2 t)) (iblk m c 3 t)) _ ?_ y ?_
    swap
    · exact View.cover_of_tiledL (s := S1024x256) _ S256x256.size (by rfl) y
    simp only [List.forall_mem_cons, List.not_mem_nil, false_implies, implies_true, and_true]
    exact ⟨pieceH _ _ _ _ 768 _ _, pieceH _ _ _ _ 512 _ _, pieceH _ _ _ _ 256 _ _, pieceH _ _ _ _ 0 _ _⟩

/-- Its lanes where they are started. -/
theorem q_out_A (c : Dev nD) (t : Fin cfg0.N) (h0 : t.val % 16 = 0) (y : S1024x128.Idx) : (outsAt0 m c t.val t.isLt).2.2 y
    = qOut (yOut (iblk m c 0 t) (iblk m c 1 t) (iblk m c 2 t)) (k0_pay5 (F := Ideal)) y := by
  rw [outsAt0_A m c t h0]
  frame_out
  have e (o : ℕ) (z : Fin 2 → ℕ) (hz) (h) : (ms0_6 t).view.readCov [⟨Rect.unit (s := S1024x128) ![0, 0] S1024x128.size hz, k0_pay5 (F := Ideal)⟩]
      (Rect.unit (s := S1024x128) ![o, 0] z h).toLoadRect = View.ld (Val := Elt Ideal) (e' := .f32) (k0_pay5 (F := Ideal)) (Rect.unit (s := S1024x128) ![o, 0] z h) :=
    View.readCov_fill _ _ _ _ _ (fun a => by fin_cases a <;> rfl)
  have s (a b : ℕ) (h) (h') (hd : LoadRect.disj (Rect.unit (s := S1024x128) ![a, 0] S256x128.size h) (Rect.unit (s := S1024x128) ![b, 0] S256x128.size h').toLoadRect = true)
      (w : S256x128.Idx → Elt Ideal .f32) (L : List (View.Piece (Elt Ideal) S1024x128 .f32)) :
      (ms0_6 t).view.readCov (⟨Rect.unit (s := S1024x128) ![a, 0] S256x128.size h, w⟩ :: L) (Rect.unit (s := S1024x128) ![b, 0] S256x128.size h').toLoadRect
        = (ms0_6 t).view.readCov L (Rect.unit (s := S1024x128) ![b, 0] S256x128.size h').toLoadRect :=
    View.readCov_skip _ _ _ _ _ hd
  simp only [↓s 512 768 inb_S1024x128_S256x128_512_0 inb_S1024x128_S256x128_768_0 (by decide),
    ↓s 256 768 inb_S1024x128_S256x128_256_0 inb_S1024x128_S256x128_768_0 (by decide),
    ↓s 0 768 inb_S1024x128_S256x128_0_0 inb_S1024x128_S256x128_768_0 (by decide),
    ↓s 256 512 inb_S1024x128_S256x128_256_0 inb_S1024x128_S256x128_512_0 (by decide),
    ↓s 0 512 inb_S1024x128_S256x128_0_0 inb_S1024x128_S256x128_512_0 (by decide),
    ↓s 0 256 inb_S1024x128_S256x128_0_0 inb_S1024x128_S256x128_256_0 (by decide), e]
  refine View.canon_append_of_pieces (Val := Elt Ideal) (e := .f32) (qOut (yOut (iblk m c 0 t) (iblk m c 1 t) (iblk m c 2 t)) (k0_pay5 (F := Ideal))) [_] [_, _, _, _] ?_ y ?_
  swap
  · exact View.cover_of_tiledL (s := S1024x128) _ S256x128.size (by rfl) y
  simp only [List.forall_mem_cons, List.not_mem_nil, false_implies, implies_true, and_true]
  exact ⟨pieceQ _ _ _ _ 768 _ _ _, pieceQ _ _ _ _ 512 _ _ _, pieceQ _ _ _ _ 256 _ _ _, pieceQ _ _ _ _ 0 _ _ _⟩

/-- Its lanes where they are carried on. -/
theorem q_out_B (c : Dev nD) (t : Fin cfg0.N) (h0 : ¬t.val % 16 = 0) (y : S1024x128.Idx) : (outsAt0 m c t.val t.isLt).2.2 y
    = qOut (yOut (iblk m c 0 t) (iblk m c 1 t) (iblk m c 2 t)) (outsAt0 m c (t.val - 1) (Nat.lt_of_le_of_lt (Nat.sub_le _ _) t.isLt)).2.2 y := by
  rw [outsAt0_B m c t h0]
  generalize (outsAt0 m c (t.val - 1) (Nat.lt_of_le_of_lt (Nat.sub_le _ _) t.isLt)) = p
  obtain ⟨p0, p1, p2⟩ := p
  frame_out
  refine View.canon_apply_of_pieces (Val := Elt Ideal) (e := .f32) (qOut (yOut (iblk m c 0 t) (iblk m c 1 t) (iblk m c 2 t)) p2) _ ?_ y ?_
  swap
  · exact View.cover_of_tiledL (s := S1024x128) _ S256x128.size (by rfl) y
  simp only [List.forall_mem_cons, List.not_mem_nil, false_implies, implies_true, and_true]
  exact ⟨pieceQ _ _ _ _ 768 _ _ _, pieceQ _ _ _ _ 512 _ _ _, pieceQ _ _ _ _ 256 _ _ _, pieceQ _ _ _ _ 0 _ _ _⟩

theorem idx : ∀ t : Fin cfg0.N, win0_0.index t = ![t.val / 16, 0] ∧ win0_1.index t = ![1, 0, t.val % 16] ∧ win0_2.index t = ![t.val / 16, t.val % 16]
    ∧ win0_3.index t = ![0, t.val % 16] ∧ win0_4.index t = ![t.val / 16, t.val % 16] ∧ win0_5.index t = ![t.val / 16, t.val % 16] ∧ win0_6.index t = ![t.val / 16, 0] :=
  (by decide +kernel : ∀ t : Fin grid0.N, _)

theorem last : ∀ t : Fin cfg0.N, (cfg0.win 6).flush t = true → t.val % 16 = 15 :=
  (by decide +kernel : ∀ t : Fin grid0.N, _)

theorem tlt (t : Fin cfg0.N) : t.val < 128 := (by decide : cfg0.N = 128) ▸ t.isLt

theorem rd0 (c : Dev nD) (t : Fin cfg0.N) (r : Fin 1024) (k : Fin 11008) : iblk m c 0 t (ix2 r k)
    = m ((c : Thread nD τ).loc main_arg0) (ix2 ⟨1024 * (t.val / 16) + r.val, by have := tlt t; omega⟩ k) := by
  rw [← V_main_arg0 m c]
  blk_ext [iblk, idx t]

theorem rd1 (c : Dev nD) (t : Fin cfg0.N) (k : Fin 11008) (n : Fin 256) : iblk m c 1 t (ix3 0 k n)
    = m ((c : Thread nD τ).loc main_arg1) (ix3 1 k ⟨256 * (t.val % 16) + n.val, by have := tlt t; omega⟩) := by
  rw [← V_main_arg1 m c]
  blk_ext [iblk, idx t]

theorem rd2 (c : Dev nD) (t : Fin cfg0.N) (r : Fin 1024) (n : Fin 256) : iblk m c 2 t (ix2 r n)
    = m ((c : Thread nD τ).loc main_arg2) (ix2 ⟨1024 * (t.val / 16) + r.val, by have := tlt t; omega⟩ ⟨256 * (t.val % 16) + n.val, by have := tlt t; omega⟩) := by
  rw [← V_main_arg2 m c]
  blk_ext [iblk, idx t]

abbrev A (c : Dev nD) : S8192x11008.Idx → EReal := m ((c : Thread nD τ).loc main_arg0)
abbrev W (c : Dev nD) : S2x11008x4096.Idx → EReal := m ((c : Thread nD τ).loc main_arg1)
abbrev X (c : Dev nD) : S8192x4096.Idx → EReal := m ((c : Thread nD τ).loc main_arg2)
abbrev GN (c : Dev nD) : S2x4096.Idx → EReal := m ((c : Thread nD τ).loc main_arg3)

/-- The gain row the kernel takes. -/
theorem v2 (c : Dev nD) (k : Fin 4096) : V m c main_v2 (ix2 0 k) = GN m c (ix2 1 k) := by
  simp only [V, List.flatten_cons, List.flatten_nil, List.append_nil, List.cons_append, List.nil_append, TRef.binary, TRef.ternary, TRef.unary, TRef.nullary, TRef.toBuf, TRef.ofBuf, cast_eq]
  after_reads_simp
  pointwise

theorem rd3 (c : Dev nD) (t : Fin cfg0.N) (n : Fin 256) : iblk m c 3 t (ix2 0 n)
    = V m c main_v2 (ix2 0 ⟨256 * (t.val % 16) + n.val, by have := tlt t; omega⟩) := by
  blk_ext [iblk, idx t]

/-- The formulas: `y = x + 0.5 * (act @ w_out[1])`, its rows times the gain, and its squares summed by lane. -/
def specY (a : S8192x11008.Idx → EReal) (w : S2x11008x4096.Idx → EReal) (x : S8192x4096.Idx → EReal) : S8192x4096.Idx → EReal :=
  fun i => x i + half * ∑ k : Fin 11008, a (ix2 ⟨(i 0).val, (i 0).isLt⟩ k) * w (ix3 1 k ⟨(i 1).val, (i 1).isLt⟩)

def specH (a : S8192x11008.Idx → EReal) (w : S2x11008x4096.Idx → EReal) (x : S8192x4096.Idx → EReal) (g : S2x4096.Idx → EReal) : S8192x4096.Idx → EReal :=
  fun i => specY a w x i * g (ix2 1 ⟨(i 1).val, (i 1).isLt⟩)

/-- The squares of a row. -/
def sq (y : S8192x4096.Idx → EReal) (r : Fin 8192) (k : Fin 4096) : EReal := y (ix2 r k) * y (ix2 r k)

def specQ (a : S8192x11008.Idx → EReal) (w : S2x11008x4096.Idx → EReal) (x : S8192x4096.Idx → EReal) : S8192x128.Idx → EReal :=
  fun i => lane (sq (specY a w x) ⟨(i 0).val, (i 0).isLt⟩) ⟨(i 1).val, (i 1).isLt⟩

/-- A point's sum block is the formula there. -/
theorem y_eq (c : Dev nD) (t : Fin cfg0.N) (r : Fin 1024) (n : Fin 256) : yOut (iblk m c 0 t) (iblk m c 1 t) (iblk m c 2 t) (ix2 r n)
    = specY (A m c) (W m c) (X m c) (ix2 ⟨1024 * (t.val / 16) + r.val, by have := tlt t; omega⟩ ⟨256 * (t.val % 16) + n.val, by have := tlt t; omega⟩) := by
  unfold yOut specY
  exact congrArg₂ (· + ·) (rd2 m c t r n) (congrArg (half * ·) (Finset.sum_congr rfl fun k _ => congrArg₂ (· * ·) (rd0 m c t r k) (rd1 m c t k n)))

theorem final4 (c : Dev nD) : (dats m 0 c).arrAt 4 cfg0.N = specY (A m c) (W m c) (X m c) := by
  refine (dats m 0 c).arrAt_eq_of_covers 4 (specY _ _ _) (by decide +kernel) fun t hf y => ?_
  blk_simp
  rw [after0_4, y_out]
  have ht := tlt t
  have h0 : (y 0).val < 1024 := (y 0).isLt
  have h1 : (y 1).val < 256 := (y 1).isLt
  have e0 : (((win0_4.blk t).view.emb y) 0).val = 1024 * (t.val / 16) + (y 0).val := by
    blk_simp [idx t]
    omega
  have e1 : (((win0_4.blk t).view.emb y) 1).val = 256 * (t.val % 16) + (y 1).val := by
    blk_simp [idx t]
    omega
  have hy : y = ix2 (⟨(y 0).val, h0⟩ : Fin 1024) (⟨(y 1).val, h1⟩ : Fin 256) := funext fun a => match a with | ⟨0, _⟩ => rfl | ⟨1, _⟩ => rfl
  refine (congrArg _ hy).trans ((y_eq m c t _ _).trans (congrArg (specY _ _ _) (funext fun a => Fin.ext ?_)))
  match a with
  | ⟨0, _⟩ => exact e0.symm
  | ⟨1, _⟩ => exact e1.symm

theorem final5 (c : Dev nD) : (dats m 0 c).arrAt 5 cfg0.N = specH (A m c) (W m c) (X m c) (GN m c) := by
  refine (dats m 0 c).arrAt_eq_of_covers 5 (specH _ _ _ _) (by decide +kernel) fun t hf y => ?_
  blk_simp
  rw [after0_5, h_out]
  have ht := tlt t
  have h0 : (y 0).val < 1024 := (y 0).isLt
  have h1 : (y 1).val < 256 := (y 1).isLt
  have e0 : (((win0_5.blk t).view.emb y) 0).val = 1024 * (t.val / 16) + (y 0).val := by
    blk_simp [idx t]
    omega
  have e1 : (((win0_5.blk t).view.emb y) 1).val = 256 * (t.val % 16) + (y 1).val := by
    blk_simp [idx t]
    omega
  have hy : y = ix2 (⟨(y 0).val, h0⟩ : Fin 1024) (⟨(y 1).val, h1⟩ : Fin 256) := funext fun a => match a with | ⟨0, _⟩ => rfl | ⟨1, _⟩ => rfl
  unfold hOut specH
  refine congrArg₂ (· * ·) ((congrArg _ hy).trans ((y_eq m c t _ _).trans (congrArg (specY _ _ _) (funext fun a => Fin.ext ?_))))
    ((rd3 m c t _).trans ((v2 m c _).trans (congrArg (GN m c) (funext fun a => Fin.ext ?_))))
  · match a with
    | ⟨0, _⟩ => exact e0.symm
    | ⟨1, _⟩ => exact e1.symm
  · match a with
    | ⟨0, _⟩ => rfl
    | ⟨1, _⟩ => exact e1.symm

/-- The squares a point adds to a lane. -/
theorem step_eq (c : Dev nD) (t : Fin cfg0.N) (p : S1024x128.Idx → EReal) (r : Fin 1024) (l : Fin 128) :
    qOut (yOut (iblk m c 0 t) (iblk m c 1 t) (iblk m c 2 t)) p (ix2 r l)
      = p (ix2 r l) + step (sq (specY (A m c) (W m c) (X m c)) ⟨1024 * (t.val / 16) + r.val, by have := tlt t; omega⟩) l (t.val % 16) := by
  unfold qOut step sq
  rw [dif_pos (Nat.mod_lt _ (by decide))]
  have e1 := y_eq m c t r (lo l)
  have e2 := y_eq m c t r (hi l)
  exact congrArg (p (ix2 r l) + ·) (congrArg₂ (· + ·) (congrArg₂ (· * ·) e1 e1) (congrArg₂ (· * ·) e2 e2))

/-- The lanes after a point: the column blocks up to its own. -/
theorem acc (c : Dev nD) (r : Fin 1024) (l : Fin 128) : ∀ n (hn : n < cfg0.N), (outsAt0 m c n hn).2.2 (ix2 r l)
    = upTo (sq (specY (A m c) (W m c) (X m c)) ⟨1024 * (n / 16) + r.val, by have := tlt ⟨n, hn⟩; have : n < 128 := this; omega⟩) l (n % 16 + 1) := by
  intro n
  induction n with
  | zero =>
    intro hn
    refine (q_out_A m c ⟨0, hn⟩ rfl _).trans ((step_eq m c ⟨0, hn⟩ _ r l).trans ?_)
    rw [pay0, zero_add]
    exact (upTo_one _ l).symm
  | succ n ih =>
    intro hn
    by_cases h0 : (n + 1) % 16 = 0
    · refine (q_out_A m c ⟨n + 1, hn⟩ h0 _).trans ((step_eq m c ⟨n + 1, hn⟩ _ r l).trans ?_)
      rw [pay0, zero_add]
      show step _ l ((n + 1) % 16) = upTo _ l ((n + 1) % 16 + 1)
      rw [h0]
      exact (upTo_one _ l).symm
    · refine (q_out_B m c ⟨n + 1, hn⟩ h0 _).trans ((step_eq m c ⟨n + 1, hn⟩ _ r l).trans ?_)
      have e : (n + 1) % 16 = n % 16 + 1 := by omega
      have e' : (n + 1) / 16 = n / 16 := by omega
      refine (congrArg (· + _) (ih (Nat.lt_of_succ_lt hn))).trans ?_
      show upTo _ l (n % 16 + 1) + step _ l ((n + 1) % 16) = upTo _ l ((n + 1) % 16 + 1)
      rw [upTo_succ _ _ ((n + 1) % 16)]
      refine congrArg (· + _) ?_
      rw [e]
      refine congrArg (fun z => upTo (sq _ z) l (n % 16 + 1)) (Fin.ext ?_)
      show 1024 * (n / 16) + r.val = 1024 * ((n + 1) / 16) + r.val
      rw [e']

theorem final6 (c : Dev nD) : (dats m 0 c).arrAt 6 cfg0.N = specQ (A m c) (W m c) (X m c) := by
  refine (dats m 0 c).arrAt_eq_of_covers 6 (specQ _ _ _) (by decide +kernel) fun t hf y => ?_
  have h15 := last t hf
  blk_simp
  rw [after0_6]
  have ht := tlt t
  have h0 : (y 0).val < 1024 := (y 0).isLt
  have h1 : (y 1).val < 128 := (y 1).isLt
  have e0 : (((win0_6.blk t).view.emb y) 0).val = 1024 * (t.val / 16) + (y 0).val := by
    blk_simp [idx t]
    omega
  have e1 : (((win0_6.blk t).view.emb y) 1).val = (y 1).val := by
    blk_simp [idx t]
  have hy : y = ix2 (⟨(y 0).val, h0⟩ : Fin 1024) (⟨(y 1).val, h1⟩ : Fin 128) := funext fun a => match a with | ⟨0, _⟩ => rfl | ⟨1, _⟩ => rfl
  refine (congrArg _ hy).trans ((acc m c _ _ t.val t.isLt).trans ?_)
  rw [h15]
  refine (upTo_all _ _).trans ?_
  unfold specQ
  exact congrArg₂ (fun a b => lane (sq (specY (A m c) (W m c) (X m c)) a) b) (Fin.ext e0.symm) (Fin.ext e1.symm)

end Cert.Kernel4Ideal.Out
-- ==== Proof.Ref4.lean ====
/-
  The plain second product of the feed-forward with its residual sum, its gained rows and its sums of squares are the
  formulas of the kernel.
-/
module

public import proofs.«01_k».proof.Proof.Mm4
public import proofs.«01_k».proof.Proof.Gen.Reference4Ideal.Read

@[expose] public section

set_option maxRecDepth 16384
set_option maxHeartbeats 1000000

noncomputable section

namespace Cert.Reference4Ideal.Out

open Cert.Rms Cert.Reference4Ideal Cert.Reference4Ideal.Gen Cert.Reference4Ideal.Read Idealize.ShloMosaic Idealize.ShloMosaic.TcCoe Idealize.SL.Sem

theorem ref_y (a : S8192x11008.Idx → EReal) (w : S2x11008x4096.Idx → EReal) (x : S8192x4096.Idx → EReal) :
    val_main_v6 (F := Ideal) a w x = Cert.Kernel4Ideal.Out.specY a w x := by
  funext i
  have h0 : (i 0).val < 8192 := (i 0).isLt
  have h1 : (i 1).val < 4096 := (i 1).isLt
  rw [val_main_v6_apply, val_main_v5_apply, val_main_v4_apply, val_main_v3_apply]
  unfold Cert.Kernel4Ideal.Out.specY
  refine congrArg₂ (· + ·) rfl (congrArg₂ (· * ·) rfl (Finset.sum_congr rfl fun k _ => congrArg₂ (· * ·) ?_ ?_))
  · rw [val_main_v0_apply]
    exact congrArg a (funext fun b => match b with | ⟨0, _⟩ => rfl | ⟨1, _⟩ => rfl)
  · rw [val_main_v2_apply, val_main_v1_apply]
    have hk := k.isLt
    refine congrArg w (funext fun b => Fin.ext ?_)
    match b with
    | ⟨0, _⟩ => rfl
    | ⟨1, _⟩ => show (k.val * 4096 + (i 1).val) / 4096 % 11008 = k.val; omega
    | ⟨2, _⟩ => show (k.val * 4096 + (i 1).val) % 4096 = (i 1).val; omega

theorem ref_h (a : S8192x11008.Idx → EReal) (w : S2x11008x4096.Idx → EReal) (x : S8192x4096.Idx → EReal) (g : S2x4096.Idx → EReal) :
    val_main_v12 (F := Ideal) a w x g = Cert.Kernel4Ideal.Out.specH a w x g := by
  funext i
  have h1 : (i 1).val < 4096 := (i 1).isLt
  rw [val_main_v12_apply, val_main_v11_apply, ref_y, val_main_v10_apply, val_main_v9_apply, val_main_v8_apply, val_main_v7_apply]
  unfold Cert.Kernel4Ideal.Out.specH
  refine congrArg (Cert.Kernel4Ideal.Out.specY a w x i * ·) (congrArg g (funext fun b => Fin.ext ?_))
  match b with
  | ⟨0, _⟩ => rfl
  | ⟨1, _⟩ => show (i 1).val % 4096 = (i 1).val; omega

theorem ref_q (a : S8192x11008.Idx → EReal) (w : S2x11008x4096.Idx → EReal) (x : S8192x4096.Idx → EReal) :
    val_main_v15 (F := Ideal) a w x = Cert.Kernel4Ideal.Out.specQ a w x := by
  funext i
  have h0 : (i 0).val < 8192 := (i 0).isLt
  have h1 : (i 1).val < 128 := (i 1).isLt
  rw [val_main_v15_apply]
  unfold Cert.Kernel4Ideal.Out.specQ lane
  refine (congrArg (· + _) (show val_main_cst_0 (F := Ideal) (Shape.Idx.first h_S_) = (0 : EReal) from zero_bits)).trans ((zero_add _).trans ?_)
  refine Finset.sum_congr rfl fun k _ => ?_
  have hk := k.isLt
  rw [val_main_v14_apply, val_main_v13_apply, ref_y]
  unfold Cert.Kernel4Ideal.Out.sq
  have e : idx_main_v14 (idx_main_v15 i k) = ix2 (⟨(i 0).val, h0⟩ : Fin 8192) (⟨128 * k.val + (i 1).val, by omega⟩ : Fin 4096) := funext fun b => Fin.ext (match b with
    | ⟨0, _⟩ => show (((i 0).val * 32 + k.val) * 128 + (i 1).val) / 4096 = (i 0).val by omega
    | ⟨1, _⟩ => show (((i 0).val * 32 + k.val) * 128 + (i 1).val) % 4096 = 128 * k.val + (i 1).val by omega)
  rw [e]
  rfl

end Cert.Reference4Ideal.Out
-- ==== Proof.Wi5.lean ====
/-
  The input projection, `rms_norm(x, g[1]) @ w[1]`, as one formula of the result's entry; the kernel's result array is
  it. The kernel multiplies the gained row by the weights first and by the row's reciprocal root mean square, which it
  keeps for a block of rows, afterwards.
-/
module

public import proofs.«01_k».proof.Proof.Rms
public import proofs.«01_k».proof.Proof.Gen.Kernel5Ideal.Value
public import Idealize.ShloMosaic.Lib.Pipeline.ReadBack
public import Idealize.ShloMosaic.Lib.Claim
public import Idealize.ShloMosaic.Lib.StableHlo.RunRead

@[expose] public section

set_option maxRecDepth 16384
set_option maxHeartbeats 1000000

noncomputable section

namespace Cert.Kernel5Ideal.Out

open Cert.Rms Cert.Kernel5Ideal Cert.Kernel5Ideal.Gen Idealize.ShloMosaic Idealize.ShloMosaic.TcCoe Idealize.SL.Sem Idealize.ShloMosaic.StableHlo

/-- The scale of a row from its lanes' sums of squares. -/
def scale (s : Fin 128 → EReal) : EReal :=
  Ideal.rsqrt ((∑ l, s l) * Ideal.ofBits FTy.f32 964689920#32 + Ideal.ofBits FTy.f32 897988541#32)

/-- The scales of a block of rows. -/
theorem payR (s : S2048x128.Idx → EReal) (r : Fin 2048) : k0_pay2 (F := Ideal) s (ix2 r 0) = scale (fun l => s (ix2 r l)) := by
  unfold scale
  pointwise [k0_pay2]

/-- One sub-block of rows, entry by entry. -/
theorem pay (w : S1x4096x512.Idx → EReal) (r : S256x1.Idx → EReal) (h : S256x4096.Idx → EReal) (i : Fin 256) (n : Fin 512) :
    k0_pay1 (F := Ideal) (k0_pay3 (F := Ideal) w) r h (ix2 i n) = r (ix2 i 0) * ∑ k : Fin 4096, h (ix2 i k) * w (ix3 0 k n) := by
  pointwise [k0_pay1, k0_pay3]

/-- What a grid point leaves, as a function of its blocks and the scales kept. -/
def blockOut (w : S1x4096x512.Idx → EReal) (x : S2048x4096.Idx → EReal) (q : S2048x1.Idx → EReal) : S2048x512.Idx → EReal :=
  fun i => q (ix2 ⟨(i 0).val, (i 0).isLt⟩ 0) * ∑ k : Fin 4096, x (ix2 ⟨(i 0).val, (i 0).isLt⟩ k) * w (ix3 0 k ⟨(i 1).val, (i 1).isLt⟩)

/-- A sub-block of rows starting at row `o` agrees with it. -/
theorem piece (w : S1x4096x512.Idx → EReal) (x : S2048x4096.Idx → EReal) (q : S2048x1.Idx → EReal) (o : ℕ)
    (h : ∀ a, (![o, 0] : Fin 2 → ℕ) a + S256x512.size a ≤ S2048x512.size a)
    (h' : ∀ a, (![o, 0] : Fin 2 → ℕ) a + S256x1.size a ≤ S2048x1.size a)
    (h'' : ∀ a, (![o, 0] : Fin 2 → ℕ) a + S256x4096.size a ≤ S2048x4096.size a) (y : S256x512.Idx) :
    k0_pay1 (F := Ideal) (k0_pay3 (F := Ideal) w) (View.ld q (Rect.unit (s := S2048x1) ![o, 0] S256x1.size h'))
        (View.ld x (Rect.unit (s := S2048x4096) ![o, 0] S256x4096.size h'')) y
      = blockOut w x q ((Rect.unit (s := S2048x512) ![o, 0] S256x512.size h).emb y) := by
  have h0 : (y 0).val < 256 := (y 0).isLt
  have h1 : (y 1).val < 512 := (y 1).isLt
  have hy : y = ix2 (⟨(y 0).val, h0⟩ : Fin 256) (⟨(y 1).val, h1⟩ : Fin 512) := funext fun a => match a with | ⟨0, _⟩ => rfl | ⟨1, _⟩ => rfl
  refine (congrArg _ hy).trans ((pay _ _ _ _ _).trans ?_)
  unfold blockOut
  refine congrArg₂ (· * ·) (congrArg q (funext fun a => Fin.ext ?_)) (Finset.sum_congr rfl fun k _ => congrArg₂ (· * ·) (congrArg x (funext fun a => Fin.ext ?_)) (congrArg w (funext fun a => Fin.ext ?_)))
  · match a with
    | ⟨0, _⟩ => rfl
    | ⟨1, _⟩ => rfl
  · match a with
    | ⟨0, _⟩ => rfl
    | ⟨1, _⟩ => show 0 + 1 * k.val = k.val; omega
  · match a with
    | ⟨0, _⟩ => rfl
    | ⟨1, _⟩ => rfl
    | ⟨2, _⟩ => show (y 1).val = 0 + 1 * (y 1).val; omega

variable (m : (ℓ : Loc nD τ sig) → Buf (Elt Ideal) ℓ)

/-- The point's result where the scales are written first. -/
theorem out_A (c : Dev nD) (t : Fin cfg0.N) (h0 : t.val % 36 = 0) (y : S2048x512.Idx) : (outsAt0 m c t.val t.isLt).1 y
    = blockOut (iblk m c 0 t) (iblk m c 1 t) (k0_pay2 (F := Ideal) (iblk m c 2 t)) y := by
  rw [outsAt0_A m c t h0]
  frame_out
  have e (o : ℕ) (z : Fin 2 → ℕ) (hz) (h) : (View.whole cc0_scratch0).readCov [⟨Rect.unit (s := S2048x1) ![0, 0] S2048x1.size hz, k0_pay2 (F := Ideal) (iblk m c 2 t)⟩]
      (Rect.unit (s := S2048x1) ![o, 0] z h).toLoadRect = View.ld (Val := Elt Ideal) (e' := .f32) (k0_pay2 (F := Ideal) (iblk m c 2 t)) (Rect.unit (s := S2048x1) ![o, 0] z h) :=
    View.readCov_fill _ _ _ _ _ (fun a => by fin_cases a <;> rfl)
  simp only [e]
  refine View.canon_apply_of_pieces (Val := Elt Ideal) (e := .f32) (blockOut (iblk m c 0 t) (iblk m c 1 t) (k0_pay2 (F := Ideal) (iblk m c 2 t))) _ ?_ y ?_
  swap
  · exact View.cover_of_tiledL (s := S2048x512) _ S256x512.size (by rfl) y
  simp only [List.forall_mem_cons, List.not_mem_nil, false_implies, implies_true, and_true]
  exact ⟨piece _ _ _ 1792 _ _ _, piece _ _ _ 1536 _ _ _, piece _ _ _ 1280 _ _ _, piece _ _ _ 1024 _ _ _,
    piece _ _ _ 768 _ _ _, piece _ _ _ 512 _ _ _, piece _ _ _ 256 _ _ _, piece _ _ _ 0 _ _ _⟩

/-- The point's result where they are kept from the point before. -/
theorem out_B (c : Dev nD) (t : Fin cfg0.N) (h0 : ¬t.val % 36 = 0) (y : S2048x512.Idx) : (outsAt0 m c t.val t.isLt).1 y
    = blockOut (iblk m c 0 t) (iblk m c 1 t) (outsAt0 m c (t.val - 1) (Nat.lt_of_le_of_lt (Nat.sub_le _ _) t.isLt)).2 y := by
  rw [outsAt0_B m c t h0]
  generalize (outsAt0 m c (t.val - 1) (Nat.lt_of_le_of_lt (Nat.sub_le _ _) t.isLt)) = p
  obtain ⟨p0, p1⟩ := p
  frame_out
  simp only [(Memref.isWhole_whole _).read_unread]
  refine View.canon_apply_of_pieces (Val := Elt Ideal) (e := .f32) (blockOut (iblk m c 0 t) (iblk m c 1 t) p1) _ ?_ y ?_
  swap
  · exact View.cover_of_tiledL (s := S2048x512) _ S256x512.size (by rfl) y
  simp only [List.forall_mem_cons, List.not_mem_nil, false_implies, implies_true, and_true]
  exact ⟨piece _ _ _ 1792 _ _ _, piece _ _ _ 1536 _ _ _, piece _ _ _ 1280 _ _ _, piece _ _ _ 1024 _ _ _,
    piece _ _ _ 768 _ _ _, piece _ _ _ 512 _ _ _, piece _ _ _ 256 _ _ _, piece _ _ _ 0 _ _ _⟩

theorem kept_A (c : Dev nD) (t : Fin cfg0.N) (h0 : t.val % 36 = 0) : (outsAt0 m c t.val t.isLt).2 = k0_pay2 (F := Ideal) (iblk m c 2 t) := by
  rw [outsAt0_A m c t h0]
  frame_out

theorem kept_B (c : Dev nD) (t : Fin cfg0.N) (h0 : ¬t.val % 36 = 0) : (outsAt0 m c t.val t.isLt).2
    = (outsAt0 m c (t.val - 1) (Nat.lt_of_le_of_lt (Nat.sub_le _ _) t.isLt)).2 := by
  rw [outsAt0_B m c t h0]
  rfl

theorem idx : ∀ t : Fin cfg0.N, win0_0.index t = ![1, 0, t.val % 36] ∧ win0_1.index t = ![t.val / 36, 0] ∧ win0_2.index t = ![t.val / 36, 0]
    ∧ win0_3.index t = ![t.val / 36, t.val % 36] :=
  (by decide +kernel : ∀ t : Fin grid0.N, _)

theorem tlt (t : Fin cfg0.N) : t.val < 144 := (by decide : cfg0.N = 144) ▸ t.isLt

theorem rd0 (c : Dev nD) (t : Fin cfg0.N) (k : Fin 4096) (n : Fin 512) : iblk m c 0 t (ix3 0 k n)
    = m ((c : Thread nD τ).loc main_arg2) (ix3 1 k ⟨512 * (t.val % 36) + n.val, by have := tlt t; omega⟩) := by
  rw [← V_main_arg2 m c]
  blk_ext [iblk, idx t]

theorem rd1 (c : Dev nD) (t : Fin cfg0.N) (r : Fin 2048) (k : Fin 4096) : iblk m c 1 t (ix2 r k)
    = V m c main_v5 (ix2 ⟨2048 * (t.val / 36) + r.val, by have := tlt t; omega⟩ k) := by
  blk_ext [iblk, idx t]

theorem rd2 (c : Dev nD) (t : Fin cfg0.N) (r : Fin 2048) (l : Fin 128) : iblk m c 2 t (ix2 r l)
    = V m c main_v69 (ix2 ⟨2048 * (t.val / 36) + r.val, by have := tlt t; omega⟩ l) := by
  blk_ext [iblk, idx t]

abbrev X (c : Dev nD) : S8192x4096.Idx → EReal := m ((c : Thread nD τ).loc main_arg0)
abbrev GN (c : Dev nD) : S2x4096.Idx → EReal := m ((c : Thread nD τ).loc main_arg1)
abbrev W (c : Dev nD) : S2x4096x18432.Idx → EReal := m ((c : Thread nD τ).loc main_arg2)

theorem v5 (c : Dev nD) (i : Fin 8192) (k : Fin 4096) : V m c main_v5 (ix2 i k) = X m c (ix2 i k) * GN m c (ix2 1 k) := by
  simp only [V, List.flatten_cons, List.flatten_nil, List.append_nil, List.cons_append, List.nil_append, TRef.binary, TRef.ternary, TRef.unary, TRef.nullary, TRef.toBuf, TRef.ofBuf, cast_eq]
  after_reads_simp
  pointwise

theorem v69 (c : Dev nD) (i : Fin 8192) (l : Fin 128) : V m c main_v69 (ix2 i l)
    = lane (fun k => X m c (ix2 i k) * X m c (ix2 i k)) l := by
  simp only [V, List.flatten_cons, List.flatten_nil, List.append_nil, List.cons_append, List.nil_append, TRef.binary, TRef.ternary, TRef.unary, TRef.nullary, TRef.toBuf, TRef.ofBuf, cast_eq]
  after_reads_simp
  pointwise
  exact lane_terms (fun k => X m c (ix2 i k) * X m c (ix2 i k)) l

/-- The scales of a row block, kept through its column blocks. -/
theorem kept (c : Dev nD) : ∀ n (hn : n < cfg0.N), (outsAt0 m c n hn).2 = k0_pay2 (F := Ideal) (iblk m c 2 ⟨36 * (n / 36), by omega⟩) := by
  intro n
  induction n with
  | zero => exact fun hn => kept_A m c ⟨0, hn⟩ rfl
  | succ n ih =>
    intro hn
    by_cases h0 : (n + 1) % 36 = 0
    · have e : (⟨36 * ((n + 1) / 36), by omega⟩ : Fin cfg0.N) = ⟨n + 1, hn⟩ := Fin.ext (by show 36 * ((n + 1) / 36) = n + 1; omega)
      rw [e]
      exact kept_A m c ⟨n + 1, hn⟩ h0
    · have e : (⟨36 * ((n + 1) / 36), by omega⟩ : Fin cfg0.N) = ⟨36 * (n / 36), by omega⟩ := Fin.ext (by show 36 * ((n + 1) / 36) = 36 * (n / 36); omega)
      rw [e]
      exact (kept_B m c ⟨n + 1, hn⟩ h0).trans (ih _)

theorem out_eq (c : Dev nD) (t : Fin cfg0.N) (y : S2048x512.Idx) : (outsAt0 m c t.val t.isLt).1 y
    = blockOut (iblk m c 0 t) (iblk m c 1 t) (k0_pay2 (F := Ideal) (iblk m c 2 ⟨36 * (t.val / 36), by omega⟩)) y := by
  by_cases h0 : t.val % 36 = 0
  · rw [out_A m c t h0]
    have e : (⟨36 * (t.val / 36), by omega⟩ : Fin cfg0.N) = t := Fin.ext (by show 36 * (t.val / 36) = t.val; omega)
    rw [e]
  · rw [out_B m c t h0, kept m c]
    have e : (⟨36 * ((t.val - 1) / 36), by omega⟩ : Fin cfg0.N) = ⟨36 * (t.val / 36), by omega⟩ := Fin.ext (by show 36 * ((t.val - 1) / 36) = 36 * (t.val / 36); omega)
    rw [e]

/-- The formula: the normalised row's product with a weight column. -/
def spec (x : S8192x4096.Idx → EReal) (g : S2x4096.Idx → EReal) (w : S2x4096x18432.Idx → EReal) : S8192x18432.Idx → EReal :=
  fun i => ∑ k : Fin 4096, x (ix2 ⟨(i 0).val, (i 0).isLt⟩ k) * rrow (fun k => x (ix2 ⟨(i 0).val, (i 0).isLt⟩ k)) * g (ix2 1 k) * w (ix3 1 k ⟨(i 1).val, (i 1).isLt⟩)

/-- A block's entry, its scale outside the sum. -/
theorem dot_eq (x : S8192x4096.Idx → EReal) (g : S2x4096.Idx → EReal) (w : S2x4096x18432.Idx → EReal) (i : Fin 8192) (n : Fin 18432)
    (s : Fin 128 → EReal) (a b : Fin 4096 → EReal) (hs : ∀ l, s l = lane (fun k => x (ix2 i k) * x (ix2 i k)) l)
    (ha : ∀ k, a k = x (ix2 i k) * g (ix2 1 k)) (hb : ∀ k, b k = w (ix3 1 k n)) :
    scale s * ∑ k : Fin 4096, a k * b k = spec x g w (ix2 i n) := by
  refine Eq.trans ?_ (rrow_dot (fun k => x (ix2 i k)) (fun k => g (ix2 1 k)) (fun k => w (ix3 1 k n)))
  exact congrArg₂ (· * ·) (rrow_lanes _ _ hs) (Finset.sum_congr rfl fun k _ => congrArg₂ (· * ·) (ha k) (hb k))

theorem final_eq (c : Dev nD) : (dats m 0 c).arrAt 3 cfg0.N = spec (X m c) (GN m c) (W m c) := by
  refine (dats m 0 c).arrAt_eq_of_covers 3 (spec _ _ _) (by decide +kernel) fun t hf y => ?_
  blk_simp
  rw [after0_3, out_eq]
  have ht := tlt t
  have h0 : (y 0).val < 2048 := (y 0).isLt
  have h1 : (y 1).val < 512 := (y 1).isLt
  have e0 : (((win0_3.blk t).view.emb y) 0).val = 2048 * (t.val / 36) + (y 0).val := by
    blk_simp [idx t]
    omega
  have e1 : (((win0_3.blk t).view.emb y) 1).val = 512 * (t.val % 36) + (y 1).val := by
    blk_simp [idx t]
    omega
  have e4 : 36 * (t.val / 36) / 36 = t.val / 36 := by omega
  have hr : 2048 * (t.val / 36) + (y 0).val < 8192 := by omega
  have hn : 512 * (t.val % 36) + (y 1).val < 18432 := by omega
  have hb : ∀ k : Fin 4096, iblk m c 0 t (ix3 0 k (⟨(y 1).val, h1⟩ : Fin 512)) = W m c (ix3 1 k ⟨512 * (t.val % 36) + (y 1).val, hn⟩) := fun k => rd0 m c t k _
  have hs : ∀ l : Fin 128, iblk m c 2 ⟨36 * (t.val / 36), by omega⟩ (ix2 (⟨(y 0).val, h0⟩ : Fin 2048) l) = lane (fun k => X m c (ix2 ⟨2048 * (t.val / 36) + (y 0).val, hr⟩ k) * X m c (ix2 ⟨2048 * (t.val / 36) + (y 0).val, hr⟩ k)) l := fun l =>
    (rd2 m c _ _ l).trans ((congrArg (V m c main_v69) (congrArg (fun z => ix2 z l) (Fin.ext (by show 2048 * (36 * (t.val / 36) / 36) + (y 0).val = _; rw [e4])))).trans (v69 m c _ l))
  have ha : ∀ k : Fin 4096, iblk m c 1 t (ix2 (⟨(y 0).val, h0⟩ : Fin 2048) k) = X m c (ix2 ⟨2048 * (t.val / 36) + (y 0).val, hr⟩ k) * GN m c (ix2 1 k) := fun k =>
    (rd1 m c t _ k).trans (v5 m c _ k)
  refine (congrArg (· * _) (payR _ (⟨(y 0).val, h0⟩ : Fin 2048))).trans ((dot_eq (X m c) (GN m c) (W m c) _ _ _ _ _ hs ha hb).trans (congrArg (spec _ _ _) (funext fun a => Fin.ext ?_)))
  match a with
  | ⟨0, _⟩ => exact e0.symm
  | ⟨1, _⟩ => exact e1.symm

end Cert.Kernel5Ideal.Out
-- ==== Proof.Ref5.lean ====
/-
  The plain input projection of the normalised rows is the formula of its kernel.
-/
module

public import proofs.«01_k».proof.Proof.Wi5
public import proofs.«01_k».proof.Proof.Gen.Reference5Ideal.Read

@[expose] public section

set_option maxRecDepth 16384
set_option maxHeartbeats 1000000

noncomputable section

namespace Cert.Reference5Ideal.Out

open Cert.Rms Cert.Reference5Ideal Cert.Reference5Ideal.Gen Cert.Reference5Ideal.Read Idealize.ShloMosaic Idealize.ShloMosaic.TcCoe Idealize.SL.Sem

/-- The row's scale. -/
theorem scale_eq (x : S8192x4096.Idx → EReal) (i : Fin 8192) : val_main_v9 (F := Ideal) x (ix2 i 0) = rrow (fun k => x (ix2 i k)) := by
  rw [val_main_v9_apply, val_main_v8_apply, val_main_v7_apply, val_main_cst_1_apply, val_main_v6_apply, val_main_v5_apply, val_main_cst_0_apply,
    val_main_v4_apply, val_main_v3_apply, val_main_cst_apply]
  have hz : (∑ k : Fin 4096, val_main_v2 (F := Ideal) x (idx_main_v3 (idx_main_v4 (ix2 i 0)) k)) = ∑ k : Fin 4096, x (ix2 i k) * x (ix2 i k) :=
    Finset.sum_congr rfl fun k _ => by
      have e : idx_main_v3 (idx_main_v4 (ix2 i 0)) k = ix2 i k := funext fun a => match a with | ⟨0, _⟩ => rfl | ⟨1, _⟩ => rfl
      rw [e, val_main_v2_apply]
      rfl
  rw [hz]
  unfold rrow
  refine congrArg Ideal.rsqrt (congrArg (· + _) (congrArg (fun z => Ideal.div z _) ?_))
  show Ideal.ofBits FTy.f32 0#32 + _ = _
  rw [zero_bits, zero_add]

/-- The normalised, gained entry. -/
theorem normed_eq (x : S8192x4096.Idx → EReal) (g : S2x4096.Idx → EReal) (i : Fin 8192) (k : Fin 4096) :
    val_main_v14 (F := Ideal) x g (ix2 i k) = x (ix2 i k) * rrow (fun k => x (ix2 i k)) * g (ix2 1 k) := by
  rw [val_main_v14_apply, val_main_v11_apply, val_main_v10_apply, val_main_v13_apply, val_main_v12_apply, val_main_v1_apply, val_main_v0_apply]
  have e : idx_main_v10 (ix2 i k) = ix2 i 0 := funext fun a => match a with | ⟨0, _⟩ => rfl | ⟨1, _⟩ => rfl
  rw [e, scale_eq]
  refine congrArg₂ (· * ·) rfl (congrArg g (funext fun a => Fin.ext ?_))
  have hk := k.isLt
  match a with
  | ⟨0, _⟩ => rfl
  | ⟨1, _⟩ => show k.val % 4096 = k.val; omega

theorem ref_eq (x : S8192x4096.Idx → EReal) (g : S2x4096.Idx → EReal) (w : S2x4096x18432.Idx → EReal) :
    val_main_v17 (F := Ideal) x g w = Cert.Kernel5Ideal.Out.spec x g w := by
  funext i
  have h0 : (i 0).val < 8192 := (i 0).isLt
  have h1 : (i 1).val < 18432 := (i 1).isLt
  rw [val_main_v17_apply]
  unfold Cert.Kernel5Ideal.Out.spec
  refine Finset.sum_congr rfl fun k _ => ?_
  have e : lidx_main_v17 i k = ix2 (⟨(i 0).val, h0⟩ : Fin 8192) k := funext fun a => match a with | ⟨0, _⟩ => rfl | ⟨1, _⟩ => rfl
  rw [e, normed_eq, val_main_v16_apply, val_main_v15_apply]
  refine congrArg (_ * ·) (congrArg w (funext fun a => Fin.ext ?_))
  have hk := k.isLt
  match a with
  | ⟨0, _⟩ => rfl
  | ⟨1, _⟩ => show (k.val * 18432 + (i 1).val) / 18432 % 4096 = k.val; omega
  | ⟨2, _⟩ => show (k.val * 18432 + (i 1).val) % 18432 = (i 1).val; omega

end Cert.Reference5Ideal.Out
-- ==== Proof.Merge6.lean ====
/-
  The branch merge, the gated sum of the three branches' products with their rows of `w_branch[1]`, as one formula of the
  result's entry; the kernel's result array is it.
-/
module

public import proofs.«01_k».proof.Proof.Gen.Kernel6Ideal.Value
public import Idealize.ShloMosaic.Lib.Pipeline.ValueKit
public import Idealize.ShloMosaic.Lib.Pointwise

@[expose] public section

set_option maxRecDepth 16384
set_option maxHeartbeats 1000000

noncomputable section

namespace Cert.Kernel6Ideal.Out

open Cert.Kernel6Ideal Cert.Kernel6Ideal.Gen Idealize.ShloMosaic Idealize.ShloMosaic.TcCoe Idealize.SL.Sem

/-- The gated sum of the three branches. -/
def gated (p q r u v w : EReal) : EReal := Ideal.logistic p * u + Ideal.logistic q * v + Ideal.logistic r * w

/-- One sub-block of rows, entry by entry. -/
theorem pay (v0 : S1x2048x256.Idx → EReal) (v3 v6 : S1x1024x256.Idx → EReal) (a : S256x2048.Idx → EReal) (b c : S256x1024.Idx → EReal)
    (p q s : S256x256.Idx → EReal) (r n : Fin 256) :
    k0_pay6 (F := Ideal) (k0_pay2 (F := Ideal) v0) (k0_pay3 (F := Ideal) v3) (k0_pay4 (F := Ideal) v6) a b c p q s (ix2 r n)
      = gated (p (ix2 r n)) (q (ix2 r n)) (s (ix2 r n)) (∑ k : Fin 2048, a (ix2 r k) * v0 (ix3 0 k n)) (∑ k : Fin 1024, b (ix2 r k) * v3 (ix3 0 k n))
          (∑ k : Fin 1024, c (ix2 r k) * v6 (ix3 0 k n)) := by
  unfold gated
  pointwise [k0_pay6, k0_pay2, k0_pay3, k0_pay4]

/-- What a grid point leaves, as a function of its blocks. -/
def blockOut (x0 : S2048x2048.Idx → EReal) (x1 x2 : S2048x1024.Idx → EReal) (x3 x4 x5 : S2048x256.Idx → EReal) (x6 : S1x4096x256.Idx → EReal) : S2048x256.Idx → EReal :=
  fun i => gated (x3 i) (x4 i) (x5 i)
    (∑ k : Fin 2048, x0 (ix2 ⟨(i 0).val, (i 0).isLt⟩ k) * x6 (ix3 0 ⟨k.val, by omega⟩ ⟨(i 1).val, (i 1).isLt⟩))
    (∑ k : Fin 1024, x1 (ix2 ⟨(i 0).val, (i 0).isLt⟩ k) * x6 (ix3 0 ⟨2048 + k.val, by omega⟩ ⟨(i 1).val, (i 1).isLt⟩))
    (∑ k : Fin 1024, x2 (ix2 ⟨(i 0).val, (i 0).isLt⟩ k) * x6 (ix3 0 ⟨3072 + k.val, by omega⟩ ⟨(i 1).val, (i 1).isLt⟩))

/-- A sub-block of rows starting at row `o` agrees with it. -/
theorem piece (x0 : S2048x2048.Idx → EReal) (x1 x2 : S2048x1024.Idx → EReal) (x3 x4 x5 : S2048x256.Idx → EReal) (x6 : S1x4096x256.Idx → EReal) (o : ℕ)
    (h : ∀ a, (![o, 0] : Fin 2 → ℕ) a + S256x256.size a ≤ S2048x256.size a)
    (h' : ∀ a, (![o, 0] : Fin 2 → ℕ) a + S256x2048.size a ≤ S2048x2048.size a)
    (h'' : ∀ a, (![o, 0] : Fin 2 → ℕ) a + S256x1024.size a ≤ S2048x1024.size a) (x : S256x256.Idx) :
    k0_pay6 (F := Ideal) (k0_pay2 (F := Ideal) (View.ld x6 r0_0)) (k0_pay3 (F := Ideal) (View.ld x6 r0_1)) (k0_pay4 (F := Ideal) (View.ld x6 r0_2))
        (View.ld x0 (Rect.unit (s := S2048x2048) ![o, 0] S256x2048.size h')) (View.ld x1 (Rect.unit (s := S2048x1024) ![o, 0] S256x1024.size h''))
        (View.ld x2 (Rect.unit (s := S2048x1024) ![o, 0] S256x1024.size h'')) (View.ld x3 (Rect.unit (s := S2048x256) ![o, 0] S256x256.size h))
        (View.ld x4 (Rect.unit (s := S2048x256) ![o, 0] S256x256.size h)) (View.ld x5 (Rect.unit (s := S2048x256) ![o, 0] S256x256.size h)) x
      = blockOut x0 x1 x2 x3 x4 x5 x6 ((Rect.unit (s := S2048x256) ![o, 0] S256x256.size h).emb x) := by
  have h0 : (x 0).val < 256 := (x 0).isLt
  have h1 : (x 1).val < 256 := (x 1).isLt
  have hx : x = ix2 (⟨(x 0).val, h0⟩ : Fin 256) (⟨(x 1).val, h1⟩ : Fin 256) := funext fun a => match a with | ⟨0, _⟩ => rfl | ⟨1, _⟩ => rfl
  refine (congrArg _ hx).trans ((pay _ _ _ _ _ _ _ _ _ _ _).trans ?_)
  have hg : ∀ z : S2048x256.Idx → EReal, View.ld (Val := Elt Ideal) (e' := .f32) z (Rect.unit (s := S2048x256) ![o, 0] S256x256.size h) (ix2 (⟨(x 0).val, h0⟩ : Fin 256) (⟨(x 1).val, h1⟩ : Fin 256))
      = z ((Rect.unit (s := S2048x256) ![o, 0] S256x256.size h).emb x) := fun z =>
    congrArg (fun y => z ((Rect.unit (s := S2048x256) ![o, 0] S256x256.size h).emb y)) hx.symm
  unfold blockOut
  rw [hg x3, hg x4, hg x5]
  congr 1
  · refine Finset.sum_congr rfl fun k _ => congrArg₂ (· * ·) (congrArg x0 (funext fun a => Fin.ext ?_)) (congrArg x6 (funext fun a => Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
      | ⟨2, _⟩ => rfl
  · refine Finset.sum_congr rfl fun k _ => congrArg₂ (· * ·) (congrArg x1 (funext fun a => Fin.ext ?_)) (congrArg x6 (funext fun a => Fin.ext ?_))
    · match a with
      | ⟨0, _⟩ => rfl
      | ⟨1, _⟩ => show 0 + 1 * k.val = k.val; omega
    · match a with
      | ⟨0, _⟩ => rfl
      | ⟨1, _⟩ => show 2048 + 1 * k.val = 2048 + k.val; omega
      | ⟨2, _⟩ => rfl
  · refine Finset.sum_congr rfl fun k _ => congrArg₂ (· * ·) (congrArg x2 (funext fun a => Fin.ext ?_)) (congrArg x6 (funext fun a => Fin.ext ?_))
    · match a with
      | ⟨0, _⟩ => rfl
      | ⟨1, _⟩ => show 0 + 1 * k.val = k.val; omega
    · match a with
      | ⟨0, _⟩ => rfl
      | ⟨1, _⟩ => show 3072 + 1 * k.val = 3072 + k.val; omega
      | ⟨2, _⟩ => rfl

theorem out_eq (x0 : S2048x2048.Idx → EReal) (x1 x2 : S2048x1024.Idx → EReal) (x3 x4 x5 : S2048x256.Idx → EReal) (x6 : S1x4096x256.Idx → EReal) (y : S2048x256.Idx) :
    out0_7 (F := Ideal) x0 x1 x2 x3 x4 x5 x6 y = blockOut x0 x1 x2 x3 x4 x5 x6 y := by
  unfold out0_7
  refine View.canon_apply_of_pieces (Val := Elt Ideal) (e := .bf16) (blockOut x0 x1 x2 x3 x4 x5 x6) _ ?_ y (cover0_7 _ _ _ _ _ _ _ _ y)
  simp only [List.forall_mem_cons, List.not_mem_nil, false_implies, implies_true, and_true]
  exact ⟨piece x0 x1 x2 x3 x4 x5 x6 1792 _ _ _, piece x0 x1 x2 x3 x4 x5 x6 1536 _ _ _, piece x0 x1 x2 x3 x4 x5 x6 1280 _ _ _, piece x0 x1 x2 x3 x4 x5 x6 1024 _ _ _,
    piece x0 x1 x2 x3 x4 x5 x6 768 _ _ _, piece x0 x1 x2 x3 x4 x5 x6 512 _ _ _, piece x0 x1 x2 x3 x4 x5 x6 256 _ _ _, piece x0 x1 x2 x3 x4 x5 x6 0 _ _ _⟩

variable (m : (ℓ : Loc nD τ sig) → Buf (Elt Ideal) ℓ)

theorem idx : ∀ t : Fin cfg0.N, win0_0.index t = ![t.val / 16, 0] ∧ win0_1.index t = ![t.val / 16, 0] ∧ win0_2.index t = ![t.val / 16, 0]
    ∧ win0_3.index t = ![t.val / 16, 24 + t.val % 16] ∧ win0_4.index t = ![t.val / 16, 40 + t.val % 16] ∧ win0_5.index t = ![t.val / 16, 56 + t.val % 16]
    ∧ win0_6.index t = ![1, 0, t.val % 16] ∧ win0_7.index t = ![t.val / 16, t.val % 16] :=
  (by decide +kernel : ∀ t : Fin grid0.N, _)

theorem tlt (t : Fin cfg0.N) : t.val < 64 := (by decide : cfg0.N = 64) ▸ t.isLt

abbrev A (c : Dev nD) : S8192x2048.Idx → EReal := m ((c : Thread nD τ).loc main_arg0)
abbrev B (c : Dev nD) : S8192x1024.Idx → EReal := m ((c : Thread nD τ).loc main_arg1)
abbrev S (c : Dev nD) : S8192x1024.Idx → EReal := m ((c : Thread nD τ).loc main_arg2)
abbrev P (c : Dev nD) : S8192x18432.Idx → EReal := m ((c : Thread nD τ).loc main_arg3)
abbrev W (c : Dev nD) : S2x4096x4096.Idx → EReal := m ((c : Thread nD τ).loc main_arg4)

theorem rd0 (c : Dev nD) (t : Fin cfg0.N) (r k : Fin 2048) : iblk m c 0 t (ix2 r k) = A m c (ix2 ⟨2048 * (t.val / 16) + r.val, by have := tlt t; omega⟩ k) := by
  unfold A
  rw [← V_main_arg0 m c]
  blk_ext [iblk, idx t]

theorem rd1 (c : Dev nD) (t : Fin cfg0.N) (r : Fin 2048) (k : Fin 1024) : iblk m c 1 t (ix2 r k) = B m c (ix2 ⟨2048 * (t.val / 16) + r.val, by have := tlt t; omega⟩ k) := by
  unfold B
  rw [← V_main_arg1 m c]
  blk_ext [iblk, idx t]

theorem rd2 (c : Dev nD) (t : Fin cfg0.N) (r : Fin 2048) (k : Fin 1024) : iblk m c 2 t (ix2 r k) = S m c (ix2 ⟨2048 * (t.val / 16) + r.val, by have := tlt t; omega⟩ k) := by
  unfold S
  rw [← V_main_arg2 m c]
  blk_ext [iblk, idx t]

theorem rd3 (c : Dev nD) (t : Fin cfg0.N) (r : Fin 2048) (n : Fin 256) : iblk m c 3 t (ix2 r n)
    = P m c (ix2 ⟨2048 * (t.val / 16) + r.val, by have := tlt t; omega⟩ ⟨6144 + (256 * (t.val % 16) + n.val), by have := tlt t; omega⟩) := by
  unfold P
  rw [← V_main_arg3 m c]
  blk_ext [iblk, idx t]

theorem rd4 (c : Dev nD) (t : Fin cfg0.N) (r : Fin 2048) (n : Fin 256) : iblk m c 4 t (ix2 r n)
    = P m c (ix2 ⟨2048 * (t.val / 16) + r.val, by have := tlt t; omega⟩ ⟨10240 + (256 * (t.val % 16) + n.val), by have := tlt t; omega⟩) := by
  unfold P
  rw [← V_main_arg3 m c]
  blk_ext [iblk, idx t]

theorem rd5 (c : Dev nD) (t : Fin cfg0.N) (r : Fin 2048) (n : Fin 256) : iblk m c 5 t (ix2 r n)
    = P m c (ix2 ⟨2048 * (t.val / 16) + r.val, by have := tlt t; omega⟩ ⟨14336 + (256 * (t.val % 16) + n.val), by have := tlt t; omega⟩) := by
  unfold P
  rw [← V_main_arg3 m c]
  blk_ext [iblk, idx t]

theorem rd6 (c : Dev nD) (t : Fin cfg0.N) (k : Fin 4096) (n : Fin 256) : iblk m c 6 t (ix3 0 k n)
    = W m c (ix3 1 k ⟨256 * (t.val % 16) + n.val, by have := tlt t; omega⟩) := by
  unfold W
  rw [← V_main_arg4 m c]
  blk_ext [iblk, idx t]

/-- One entry of the merge. -/
def entry (a : S8192x2048.Idx → EReal) (b s : S8192x1024.Idx → EReal) (p : S8192x18432.Idx → EReal) (w : S2x4096x4096.Idx → EReal) (i : Fin 8192) (n : Fin 4096) : EReal :=
  gated (p (ix2 i ⟨6144 + n.val, by omega⟩)) (p (ix2 i ⟨10240 + n.val, by omega⟩)) (p (ix2 i ⟨14336 + n.val, by omega⟩))
    (∑ k : Fin 2048, a (ix2 i k) * w (ix3 1 ⟨k.val, by omega⟩ n)) (∑ k : Fin 1024, b (ix2 i k) * w (ix3 1 ⟨2048 + k.val, by omega⟩ n))
    (∑ k : Fin 1024, s (ix2 i k) * w (ix3 1 ⟨3072 + k.val, by omega⟩ n))

/-- The formula. -/
def spec (a : S8192x2048.Idx → EReal) (b s : S8192x1024.Idx → EReal) (p : S8192x18432.Idx → EReal) (w : S2x4096x4096.Idx → EReal) : S8192x4096.Idx → EReal :=
  fun i => entry a b s p w ⟨(i 0).val, (i 0).isLt⟩ ⟨(i 1).val, (i 1).isLt⟩

theorem block_eq (c : Dev nD) (t : Fin cfg0.N) (r : Fin 2048) (n : Fin 256) (hr : 2048 * (t.val / 16) + r.val < 8192) (hn : 256 * (t.val % 16) + n.val < 4096) :
    blockOut (iblk m c 0 t) (iblk m c 1 t) (iblk m c 2 t) (iblk m c 3 t) (iblk m c 4 t) (iblk m c 5 t) (iblk m c 6 t) (ix2 r n)
      = entry (A m c) (B m c) (S m c) (P m c) (W m c) ⟨2048 * (t.val / 16) + r.val, hr⟩ ⟨256 * (t.val % 16) + n.val, hn⟩ := by
  unfold blockOut entry
  congr 1
  · exact rd3 m c t r n
  · exact rd4 m c t r n
  · exact rd5 m c t r n
  · exact Finset.sum_congr rfl fun k _ => congrArg₂ (· * ·) (rd0 m c t r k) (rd6 m c t _ n)
  · exact Finset.sum_congr rfl fun k _ => congrArg₂ (· * ·) (rd1 m c t r k) (rd6 m c t _ n)
  · exact Finset.sum_congr rfl fun k _ => congrArg₂ (· * ·) (rd2 m c t r k) (rd6 m c t _ n)

theorem final_eq (c : Dev nD) : (dats m 0 c).arrAt 7 cfg0.N = spec (A m c) (B m c) (S m c) (P m c) (W m c) := by
  refine (dats m 0 c).arrAt_eq_of_covers 7 (spec _ _ _ _ _) (by decide +kernel) fun t hf y => ?_
  blk_simp
  rw [after0_7, out_eq]
  have ht := tlt t
  have h0 : (y 0).val < 2048 := (y 0).isLt
  have h1 : (y 1).val < 256 := (y 1).isLt
  have e0 : (((win0_7.blk t).view.emb y) 0).val = 2048 * (t.val / 16) + (y 0).val := by
    blk_simp [idx t]
    omega
  have e1 : (((win0_7.blk t).view.emb y) 1).val = 256 * (t.val % 16) + (y 1).val := by
    blk_simp [idx t]
    omega
  have hy : y = ix2 (⟨(y 0).val, h0⟩ : Fin 2048) (⟨(y 1).val, h1⟩ : Fin 256) := funext fun a => match a with | ⟨0, _⟩ => rfl | ⟨1, _⟩ => rfl
  refine (congrArg _ hy).trans ((block_eq m c t _ _ (by show 2048 * (t.val / 16) + (y 0).val < 8192; omega) (by show 256 * (t.val % 16) + (y 1).val < 4096; omega)).trans ?_)
  unfold spec
  exact congrArg₂ (entry _ _ _ _ _) (Fin.ext e0.symm) (Fin.ext e1.symm)

end Cert.Kernel6Ideal.Out
-- ==== Proof.Ref6.lean ====
/-
  The plain branch merge is the formula of its kernel.
-/
module

public import proofs.«01_k».proof.Proof.Rms
public import proofs.«01_k».proof.Proof.Merge6
public import proofs.«01_k».proof.Proof.Gen.Reference6Ideal.Read

@[expose] public section

set_option maxRecDepth 16384
set_option maxHeartbeats 1000000

noncomputable section

namespace Cert.Reference6Ideal.Out

open Cert.Rms Cert.Reference6Ideal Cert.Reference6Ideal.Gen Cert.Reference6Ideal.Read Idealize.ShloMosaic Idealize.ShloMosaic.TcCoe Idealize.SL.Sem

/-- The sliced weights. -/
theorem w_eq (w : S2x4096x4096.Idx → EReal) (k n : Fin 4096) : val_main_v1 (F := Ideal) w (ix2 k n) = w (ix3 1 k n) := by
  rw [val_main_v1_apply, val_main_v0_apply]
  refine congrArg w (funext fun a => Fin.ext ?_)
  have hk := k.isLt
  have hn := n.isLt
  match a with
  | ⟨0, _⟩ => rfl
  | ⟨1, _⟩ => show (k.val * 4096 + n.val) / 4096 % 4096 = k.val; omega
  | ⟨2, _⟩ => show (k.val * 4096 + n.val) % 4096 = n.val; omega

/-- A gate. -/
theorem gate_eq (p : S8192x18432.Idx → EReal) (j : S8192x12288.Idx) (i : Fin 8192) (n : Fin 18432) (h0 : (j 0).val = i.val) (h1 : 6144 + (j 1).val = n.val) :
    val_main_v17 (F := Ideal) p j = Ideal.logistic (p (ix2 i n)) := by
  rw [val_main_v17_apply, val_main_v16_apply, val_main_cst_0_apply, val_main_v15_apply, val_main_v14_apply, val_main_cst_apply, val_main_v13_apply,
    val_main_v12_apply, val_main_v11_apply]
  have e : idx_main_v11 j = ix2 i n := funext fun a => Fin.ext (match a with | ⟨0, _⟩ => h0 | ⟨1, _⟩ => h1)
  rw [e]
  show Ideal.div (Ideal.ofBits FTy.f32 0x3F800000#32) (Ideal.ofBits FTy.f32 0x3F800000#32 + _) = _
  rw [one_bits]
  rfl

theorem ref_eq (a : S8192x2048.Idx → EReal) (b s : S8192x1024.Idx → EReal) (p : S8192x18432.Idx → EReal) (w : S2x4096x4096.Idx → EReal) :
    val_main_v30 (F := Ideal) a b s p w = Cert.Kernel6Ideal.Out.spec a b s p w := by
  funext i
  have h0 : (i 0).val < 8192 := (i 0).isLt
  have h1 : (i 1).val < 4096 := (i 1).isLt
  rw [val_main_v30_apply, val_main_v29_apply, val_main_v25_apply, val_main_v21_apply, val_main_v24_apply, val_main_v28_apply,
    val_main_v20_apply, val_main_v19_apply, val_main_v18_apply, val_main_v23_apply, val_main_v22_apply, val_main_v18_apply,
    val_main_v27_apply, val_main_v26_apply, val_main_v18_apply, val_main_v4_apply, val_main_v7_apply, val_main_v10_apply,
    gate_eq p _ ⟨(i 0).val, h0⟩ ⟨6144 + (i 1).val, by omega⟩
      (by show ((((i 0).val * 4096 + (i 1).val) / 4096 * 3 + 0) * 4096 + ((i 0).val * 4096 + (i 1).val) % 4096) / 12288 = (i 0).val; omega)
      (by show 6144 + ((((i 0).val * 4096 + (i 1).val) / 4096 * 3 + 0) * 4096 + ((i 0).val * 4096 + (i 1).val) % 4096) % 12288 = 6144 + (i 1).val; omega),
    gate_eq p _ ⟨(i 0).val, h0⟩ ⟨10240 + (i 1).val, by omega⟩
      (by show ((((i 0).val * 4096 + (i 1).val) / 4096 * 3 + (1 + 0)) * 4096 + ((i 0).val * 4096 + (i 1).val) % 4096) / 12288 = (i 0).val; omega)
      (by show 6144 + ((((i 0).val * 4096 + (i 1).val) / 4096 * 3 + (1 + 0)) * 4096 + ((i 0).val * 4096 + (i 1).val) % 4096) % 12288 = 10240 + (i 1).val; omega),
    gate_eq p _ ⟨(i 0).val, h0⟩ ⟨14336 + (i 1).val, by omega⟩
      (by show ((((i 0).val * 4096 + (i 1).val) / 4096 * 3 + (2 + 0)) * 4096 + ((i 0).val * 4096 + (i 1).val) % 4096) / 12288 = (i 0).val; omega)
      (by show 6144 + ((((i 0).val * 4096 + (i 1).val) / 4096 * 3 + (2 + 0)) * 4096 + ((i 0).val * 4096 + (i 1).val) % 4096) % 12288 = 14336 + (i 1).val; omega)]
  unfold Cert.Kernel6Ideal.Out.spec Cert.Kernel6Ideal.Out.entry Cert.Kernel6Ideal.Out.gated
  refine congrArg₂ (· + ·) (congrArg₂ (· + ·) (congrArg₂ (· * ·) rfl ?_) (congrArg₂ (· * ·) rfl ?_)) (congrArg₂ (· * ·) rfl ?_)
  · refine Finset.sum_congr rfl fun k _ => congrArg₂ (· * ·) ?_ ?_
    · rw [val_main_v2_apply]
      exact congrArg a (funext fun b => match b with | ⟨0, _⟩ => rfl | ⟨1, _⟩ => rfl)
    · refine (val_main_v3_apply (F := Ideal) w _).trans ((congrArg (val_main_v1 (F := Ideal) w) ?_).trans (w_eq w ⟨k.val, by omega⟩ ⟨(i 1).val, h1⟩))
      exact funext fun b => match b with | ⟨0, _⟩ => rfl | ⟨1, _⟩ => rfl
  · refine Finset.sum_congr rfl fun k _ => congrArg₂ (· * ·) ?_ ?_
    · rw [val_main_v5_apply]
      exact congrArg b (funext fun b => match b with | ⟨0, _⟩ => rfl | ⟨1, _⟩ => rfl)
    · refine (val_main_v6_apply (F := Ideal) w _).trans ((congrArg (val_main_v1 (F := Ideal) w) ?_).trans (w_eq w ⟨2048 + k.val, by omega⟩ ⟨(i 1).val, h1⟩))
      exact funext fun b => match b with | ⟨0, _⟩ => rfl | ⟨1, _⟩ => rfl
  · refine Finset.sum_congr rfl fun k _ => congrArg₂ (· * ·) ?_ ?_
    · rw [val_main_v8_apply]
      exact congrArg s (funext fun b => match b with | ⟨0, _⟩ => rfl | ⟨1, _⟩ => rfl)
    · refine (val_main_v9_apply (F := Ideal) w _).trans ((congrArg (val_main_v1 (F := Ideal) w) ?_).trans (w_eq w ⟨3072 + k.val, by omega⟩ ⟨(i 1).val, h1⟩))
      exact funext fun b => match b with | ⟨0, _⟩ => rfl | ⟨1, _⟩ => rfl

end Cert.Reference6Ideal.Out
-- ==== Proof.Mm7.lean ====
/-
  The mixer's output projection with the residual sum, and the two arrays it prepares for the next norm: the rows
  times the gain, and the rows' sums of squares by 128 lanes. Each as one formula of its entry; the kernel's result
  arrays are these.
-/
module

public import proofs.«01_k».proof.Proof.Lanes
public import proofs.«01_k».proof.Proof.Gen.Kernel7Ideal.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384
set_option maxHeartbeats 1000000

noncomputable section

namespace Cert.Kernel7Ideal.Out

open Cert.Rms Cert.Kernel7Ideal Cert.Kernel7Ideal.Gen Idealize.ShloMosaic Idealize.ShloMosaic.TcCoe Idealize.SL.Sem Idealize.ShloMosaic.StableHlo

/-- The float one, the factor the kernel puts on the product. -/
abbrev one : EReal := (FloatOps.ofBits .f32 0x3F800000#32 : Ideal .f32)

/-- The two columns of a block of 256 that a lane takes. -/
abbrev lo (l : Fin 128) : Fin 256 := ⟨l.val, by omega⟩
abbrev hi (l : Fin 128) : Fin 256 := ⟨128 + l.val, by omega⟩

/-- One sub-block of rows, entry by entry: the sum, the gained rows, the lanes. -/
theorem payY (v0 : S1x4096x256.Idx → EReal) (a : S256x256.Idx → EReal) (b : S256x4096.Idx → EReal) (r n : Fin 256) :
    k0_pay1 (F := Ideal) (k0_pay5 (F := Ideal) v0) a b (ix2 r n) = a (ix2 r n) + one * ∑ k : Fin 4096, b (ix2 r k) * v0 (ix3 0 k n) := by
  pointwise [k0_pay1, k0_pay5]

theorem payH (v : S4096x256.Idx → EReal) (a : S256x256.Idx → EReal) (b : S256x4096.Idx → EReal) (g : S1x256.Idx → EReal) (r n : Fin 256) :
    k0_pay2 (F := Ideal) v a b g (ix2 r n) = k0_pay1 (F := Ideal) v a b (ix2 r n) * g (ix2 0 n) := by
  pointwise [k0_pay2]

theorem payQ (y : S256x256.Idx → EReal) (p : S256x128.Idx → EReal) (r : Fin 256) (l : Fin 128) :
    k0_pay14 (F := Ideal) y p (ix2 r l) = p (ix2 r l) + (y (ix2 r (lo l)) * y (ix2 r (lo l)) + y (ix2 r (hi l)) * y (ix2 r (hi l))) := by
  pointwise [k0_pay14]

theorem pay0 (i : S2048x128.Idx) : k0_pay4 (F := Ideal) i = 0 := by
  exact zero_bits

/-- What a grid point leaves, as functions of its blocks. -/
def yOut (x0 : S2048x4096.Idx → EReal) (x1 : S1x4096x256.Idx → EReal) (x2 : S2048x256.Idx → EReal) : S2048x256.Idx → EReal :=
  fun i => x2 i + one * ∑ k : Fin 4096, x0 (ix2 ⟨(i 0).val, (i 0).isLt⟩ k) * x1 (ix3 0 k ⟨(i 1).val, (i 1).isLt⟩)

def hOut (y : S2048x256.Idx → EReal) (g : S1x256.Idx → EReal) : S2048x256.Idx → EReal :=
  fun i => y i * g (ix2 0 ⟨(i 1).val, (i 1).isLt⟩)

def qOut (y : S2048x256.Idx → EReal) (p : S2048x128.Idx → EReal) : S2048x128.Idx → EReal :=
  fun i => p i + (y (ix2 ⟨(i 0).val, (i 0).isLt⟩ (lo ⟨(i 1).val, (i 1).isLt⟩)) * y (ix2 ⟨(i 0).val, (i 0).isLt⟩ (lo ⟨(i 1).val, (i 1).isLt⟩))
    + y (ix2 ⟨(i 0).val, (i 0).isLt⟩ (hi ⟨(i 1).val, (i 1).isLt⟩)) * y (ix2 ⟨(i 0).val, (i 0).isLt⟩ (hi ⟨(i 1).val, (i 1).isLt⟩)))

/-- A sub-block of rows starting at row `o` agrees with them. -/
theorem pieceY (x0 : S2048x4096.Idx → EReal) (x1 : S1x4096x256.Idx → EReal) (x2 : S2048x256.Idx → EReal) (o : ℕ)
    (h : ∀ a, (![o, 0] : Fin 2 → ℕ) a + S256x256.size a ≤ S2048x256.size a) (h' : ∀ a, (![o, 0] : Fin 2 → ℕ) a + S256x4096.size a ≤ S2048x4096.size a)
    (x : S256x256.Idx) :
    k0_pay1 (F := Ideal) (k0_pay5 (F := Ideal) x1) (View.ld x2 (Rect.unit (s := S2048x256) ![o, 0] S256x256.size h))
        (View.ld x0 (Rect.unit (s := S2048x4096) ![o, 0] S256x4096.size h')) x
      = yOut x0 x1 x2 ((Rect.unit (s := S2048x256) ![o, 0] S256x256.size h).emb x) := by
  have h0 : (x 0).val < 256 := (x 0).isLt
  have h1 : (x 1).val < 256 := (x 1).isLt
  have hx : x = ix2 (⟨(x 0).val, h0⟩ : Fin 256) (⟨(x 1).val, h1⟩ : Fin 256) := funext fun a => match a with | ⟨0, _⟩ => rfl | ⟨1, _⟩ => rfl
  refine (congrArg _ hx).trans ((payY _ _ _ _ _).trans ?_)
  unfold yOut
  refine congrArg₂ (· + ·) (congrArg (fun z => x2 ((Rect.unit (s := S2048x256) ![o, 0] S256x256.size h).emb z)) hx.symm) (congrArg (one * ·) (Finset.sum_congr rfl fun k _ => congrArg₂ (· * ·) ?_ ?_))
  · refine congrArg x0 (funext fun a => Fin.ext ?_)
    match a with
    | ⟨0, _⟩ => rfl
    | ⟨1, _⟩ => show 0 + 1 * k.val = k.val; omega
  · refine congrArg x1 (funext fun a => Fin.ext ?_)
    match a with
    | ⟨0, _⟩ => rfl
    | ⟨1, _⟩ => rfl
    | ⟨2, _⟩ => show (x 1).val = 0 + 1 * (x 1).val; omega

theorem pieceH (x0 : S2048x4096.Idx → EReal) (x1 : S1x4096x256.Idx → EReal) (x2 : S2048x256.Idx → EReal) (g : S1x256.Idx → EReal) (o : ℕ)
    (h : ∀ a, (![o, 0] : Fin 2 → ℕ) a + S256x256.size a ≤ S2048x256.size a) (h' : ∀ a, (![o, 0] : Fin 2 → ℕ) a + S256x4096.size a ≤ S2048x4096.size a)
    (x : S256x256.Idx) :
    k0_pay2 (F := Ideal) (k0_pay5 (F := Ideal) x1) (View.ld x2 (Rect.unit (s := S2048x256) ![o, 0] S256x256.size h))
        (View.ld x0 (Rect.unit (s := S2048x4096) ![o, 0] S256x4096.size h')) g x
      = hOut (yOut x0 x1 x2) g ((Rect.unit (s := S2048x256) ![o, 0] S256x256.size h).emb x) := by
  have h0 : (x 0).val < 256 := (x 0).isLt
  have h1 : (x 1).val < 256 := (x 1).isLt
  have hx : x = ix2 (⟨(x 0).val, h0⟩ : Fin 256) (⟨(x 1).val, h1⟩ : Fin 256) := funext fun a => match a with | ⟨0, _⟩ => rfl | ⟨1, _⟩ => rfl
  refine (congrArg _ hx).trans ((payH _ _ _ _ _ _).trans ?_)
  unfold hOut
  refine congrArg₂ (· * ·) ((congrArg _ hx.symm).trans (pieceY x0 x1 x2 o h h' x)) (congrArg g (funext fun a => Fin.ext ?_))
  match a with
  | ⟨0, _⟩ => rfl
  | ⟨1, _⟩ => show (x 1).val = 0 + 1 * (x 1).val; omega

theorem pieceQ (x0 : S2048x4096.Idx → EReal) (x1 : S1x4096x256.Idx → EReal) (x2 : S2048x256.Idx → EReal) (p : S2048x128.Idx → EReal) (o : ℕ)
    (h : ∀ a, (![o, 0] : Fin 2 → ℕ) a + S256x256.size a ≤ S2048x256.size a) (h' : ∀ a, (![o, 0] : Fin 2 → ℕ) a + S256x4096.size a ≤ S2048x4096.size a)
    (h'' : ∀ a, (![o, 0] : Fin 2 → ℕ) a + S256x128.size a ≤ S2048x128.size a) (x : S256x128.Idx) :
    k0_pay14 (F := Ideal) (k0_pay1 (F := Ideal) (k0_pay5 (F := Ideal) x1) (View.ld x2 (Rect.unit (s := S2048x256) ![o, 0] S256x256.size h))
        (View.ld x0 (Rect.unit (s := S2048x4096) ![o, 0] S256x4096.size h')))
        (View.ld (Val := Elt Ideal) (e' := .f32) p (Rect.unit (s := S2048x128) ![o, 0] S256x128.size h'')) x
      = qOut (yOut x0 x1 x2) p ((Rect.unit (s := S2048x128) ![o, 0] S256x128.size h'').emb x) := by
  have h0 : (x 0).val < 256 := (x 0).isLt
  have h1 : (x 1).val < 128 := (x 1).isLt
  have hx : x = ix2 (⟨(x 0).val, h0⟩ : Fin 256) (⟨(x 1).val, h1⟩ : Fin 128) := funext fun a => match a with | ⟨0, _⟩ => rfl | ⟨1, _⟩ => rfl
  refine (congrArg _ hx).trans ((payQ _ _ _ _).trans ?_)
  unfold qOut
  refine congrArg₂ (· + ·) (congrArg (fun z => p ((Rect.unit (s := S2048x128) ![o, 0] S256x128.size h'').emb z)) hx.symm) ?_
  have e1 := (pieceY x0 x1 x2 o h h' (ix2 (⟨(x 0).val, h0⟩ : Fin 256) (lo ⟨(x 1).val, h1⟩))).trans
    (congrArg (yOut x0 x1 x2) (show _ = ix2 ⟨(((Rect.unit (s := S2048x128) ![o, 0] S256x128.size h'').emb x) 0).val, (((Rect.unit (s := S2048x128) ![o, 0] S256x128.size h'').emb x) 0).isLt⟩
        (lo ⟨(((Rect.unit (s := S2048x128) ![o, 0] S256x128.size h'').emb x) 1).val, (((Rect.unit (s := S2048x128) ![o, 0] S256x128.size h'').emb x) 1).isLt⟩) from
      funext fun a => Fin.ext (match a with | ⟨0, _⟩ => rfl | ⟨1, _⟩ => rfl)))
  have e2 := (pieceY x0 x1 x2 o h h' (ix2 (⟨(x 0).val, h0⟩ : Fin 256) (hi ⟨(x 1).val, h1⟩))).trans
    (congrArg (yOut x0 x1 x2) (show _ = ix2 ⟨(((Rect.unit (s := S2048x128) ![o, 0] S256x128.size h'').emb x) 0).val, (((Rect.unit (s := S2048x128) ![o, 0] S256x128.size h'').emb x) 0).isLt⟩
        (hi ⟨(((Rect.unit (s := S2048x128) ![o, 0] S256x128.size h'').emb x) 1).val, (((Rect.unit (s := S2048x128) ![o, 0] S256x128.size h'').emb x) 1).isLt⟩) from
      funext fun a => Fin.ext (match a with | ⟨0, _⟩ => rfl | ⟨1, _⟩ => show 0 + 1 * (128 + (x 1).val) = 128 + (0 + 1 * (x 1).val) by omega)))
  exact congrArg₂ (· + ·) (congrArg₂ (· * ·) e1 e1) (congrArg₂ (· * ·) e2 e2)

variable (m : (ℓ : Loc nD τ sig) → Buf (Elt Ideal) ℓ)

/-- The point's sum block. -/
theorem y_out (c : Dev nD) (t : Fin cfg0.N) (y : S2048x256.Idx) : (outsAt0 m c t.val t.isLt).1 y = yOut (iblk m c 0 t) (iblk m c 1 t) (iblk m c 2 t) y := by
  by_cases h0 : t.val % 16 = 0
  · rw [outsAt0_A m c t h0]
    frame_out
    refine View.canon_apply_of_pieces (Val := Elt Ideal) (e := .f32) (yOut (iblk m c 0 t) (iblk m c 1 t) (iblk m c 2 t)) _ ?_ y ?_
    swap
    · exact View.cover_of_tiledL (s := S2048x256) _ S256x256.size (by rfl) y
    simp only [List.forall_mem_cons, List.not_mem_nil, false_implies, implies_true, and_true]
    exact ⟨pieceY _ _ _ 1792 _ _, pieceY _ _ _ 1536 _ _, pieceY _ _ _ 1280 _ _, pieceY _ _ _ 1024 _ _, pieceY _ _ _ 768 _ _, pieceY _ _ _ 512 _ _, pieceY _ _ _ 256 _ _, pieceY _ _ _ 0 _ _⟩
  · rw [outsAt0_B m c t h0]
    generalize (outsAt0 m c (t.val - 1) (Nat.lt_of_le_of_lt (Nat.sub_le _ _) t.isLt)) = p
    obtain ⟨p0, p1, p2⟩ := p
    frame_out
    refine View.canon_apply_of_pieces (Val := Elt Ideal) (e := .f32) (yOut (iblk m c 0 t) (iblk m c 1 t) (iblk m c 2 t)) _ ?_ y ?_
    swap
    · exact View.cover_of_tiledL (s := S2048x256) _ S256x256.size (by rfl) y
    simp only [List.forall_mem_cons, List.not_mem_nil, false_implies, implies_true, and_true]
    exact ⟨pieceY _ _ _ 1792 _ _, pieceY _ _ _ 1536 _ _, pieceY _ _ _ 1280 _ _, pieceY _ _ _ 1024 _ _, pieceY _ _ _ 768 _ _, pieceY _ _ _ 512 _ _, pieceY _ _ _ 256 _ _, pieceY _ _ _ 0 _ _⟩

/-- Its gained block. -/
theorem h_out (c : Dev nD) (t : Fin cfg0.N) (y : S2048x256.Idx) : (outsAt0 m c t.val t.isLt).2.1 y
    = hOut (yOut (iblk m c 0 t) (iblk m c 1 t) (iblk m c 2 t)) (iblk m c 3 t) y := by
  by_cases h0 : t.val % 16 = 0
  · rw [outsAt0_A m c t h0]
    frame_out
    refine View.canon_apply_of_pieces (Val := Elt Ideal) (e := .bf16) (hOut (yOut (iblk m c 0 t) (iblk m c 1 t) (iblk m c 2 t)) (iblk m c 3 t)) _ ?_ y ?_
    swap
    · exact View.cover_of_tiledL (s := S2048x256) _ S256x256.size (by rfl) y
    simp only [List.forall_mem_cons, List.not_mem_nil, false_implies, implies_true, and_true]
    exact ⟨pieceH _ _ _ _ 1792 _ _, pieceH _ _ _ _ 1536 _ _, pieceH _ _ _ _ 1280 _ _, pieceH _ _ _ _ 1024 _ _, pieceH _ _ _ _ 768 _ _, pieceH _ _ _ _ 512 _ _, pieceH _ _ _ _ 256 _ _, pieceH _ _ _ _ 0 _ _⟩
  · rw [outsAt0_B m c t h0]
    generalize (outsAt0 m c (t.val - 1) (Nat.lt_of_le_of_lt (Nat.sub_le _ _) t.isLt)) = p
    obtain ⟨p0, p1, p2⟩ := p
    frame_out
    refine View.canon_apply_of_pieces (Val := Elt Ideal) (e := .bf16) (hOut (yOut (iblk m c 0 t) (iblk m c 1 t) (iblk m c 2 t)) (iblk m c 3 t)) _ ?_ y ?_
    swap
    · exact View.cover_of_tiledL (s := S2048x256) _ S256x256.size (by rfl) y
    simp only [List.forall_mem_cons, List.not_mem_nil, false_implies, implies_true, and_true]
    exact ⟨pieceH _ _ _ _ 1792 _ _, pieceH _ _ _ _ 1536 _ _, pieceH _ _ _ _ 1280 _ _, pieceH _ _ _ _ 1024 _ _, pieceH _ _ _ _ 768 _ _, pieceH _ _ _ _ 512 _ _, pieceH _ _ _ _ 256 _ _, pieceH _ _ _ _ 0 _ _⟩

/-- Its lanes where they are started. -/
theorem q_out_A (c : Dev nD) (t : Fin cfg0.N) (h0 : t.val % 16 = 0) (y : S2048x128.Idx) : (outsAt0 m c t.val t.isLt).2.2 y
    = qOut (yOut (iblk m c 0 t) (iblk m c 1 t) (iblk m c 2 t)) (k0_pay4 (F := Ideal)) y := by
  rw [outsAt0_A m c t h0]
  frame_out
  have e (o : ℕ) (z : Fin 2 → ℕ) (hz) (h) : (ms0_6 t).view.readCov [⟨Rect.unit (s := S2048x128) ![0, 0] S2048x128.size hz, k0_pay4 (F := Ideal)⟩]
      (Rect.unit (s := S2048x128) ![o, 0] z h).toLoadRect = View.ld (Val := Elt Ideal) (e' := .f32) (k0_pay4 (F := Ideal)) (Rect.unit (s := S2048x128) ![o, 0] z h) :=
    View.readCov_fill _ _ _ _ _ (fun a => by fin_cases a <;> rfl)
  have s (a b : ℕ) (h) (h') (hd : LoadRect.disj (Rect.unit (s := S2048x128) ![a, 0] S256x128.size h) (Rect.unit (s := S2048x128) ![b, 0] S256x128.size h').toLoadRect = true)
      (w : S256x128.Idx → Elt Ideal .f32) (L : List (View.Piece (Elt Ideal) S2048x128 .f32)) :
      (ms0_6 t).view.readCov (⟨Rect.unit (s := S2048x128) ![a, 0] S256x128.size h, w⟩ :: L) (Rect.unit (s := S2048x128) ![b, 0] S256x128.size h').toLoadRect
        = (ms0_6 t).view.readCov L (Rect.unit (s := S2048x128) ![b, 0] S256x128.size h').toLoadRect :=
    View.readCov_skip _ _ _ _ _ hd
  simp only [↓s 1536 1792 inb_S2048x128_S256x128_1536_0 inb_S2048x128_S256x128_1792_0 (by decide),
    ↓s 1280 1792 inb_S2048x128_S256x128_1280_0 inb_S2048x128_S256x128_1792_0 (by decide),
    ↓s 1024 1792 inb_S2048x128_S256x128_1024_0 inb_S2048x128_S256x128_1792_0 (by decide),
    ↓s 768 1792 inb_S2048x128_S256x128_768_0 inb_S2048x128_S256x128_1792_0 (by decide),
    ↓s 512 1792 inb_S2048x128_S256x128_512_0 inb_S2048x128_S256x128_1792_0 (by decide),
    ↓s 256 1792 inb_S2048x128_S256x128_256_0 inb_S2048x128_S256x128_1792_0 (by decide),
    ↓s 0 1792 inb_S2048x128_S256x128_0_0 inb_S2048x128_S256x128_1792_0 (by decide),
    ↓s 1280 1536 inb_S2048x128_S256x128_1280_0 inb_S2048x128_S256x128_1536_0 (by decide),
    ↓s 1024 1536 inb_S2048x128_S256x128_1024_0 inb_S2048x128_S256x128_1536_0 (by decide),
    ↓s 768 1536 inb_S2048x128_S256x128_768_0 inb_S2048x128_S256x128_1536_0 (by decide),
    ↓s 512 1536 inb_S2048x128_S256x128_512_0 inb_S2048x128_S256x128_1536_0 (by decide),
    ↓s 256 1536 inb_S2048x128_S256x128_256_0 inb_S2048x128_S256x128_1536_0 (by decide),
    ↓s 0 1536 inb_S2048x128_S256x128_0_0 inb_S2048x128_S256x128_1536_0 (by decide),
    ↓s 1024 1280 inb_S2048x128_S256x128_1024_0 inb_S2048x128_S256x128_1280_0 (by decide),
    ↓s 768 1280 inb_S2048x128_S256x128_768_0 inb_S2048x128_S256x128_1280_0 (by decide),
    ↓s 512 1280 inb_S2048x128_S256x128_512_0 inb_S2048x128_S256x128_1280_0 (by decide),
    ↓s 256 1280 inb_S2048x128_S256x128_256_0 inb_S2048x128_S256x128_1280_0 (by decide),
    ↓s 0 1280 inb_S2048x128_S256x128_0_0 inb_S2048x128_S256x128_1280_0 (by decide),
    ↓s 768 1024 inb_S2048x128_S256x128_768_0 inb_S2048x128_S256x128_1024_0 (by decide),
    ↓s 512 1024 inb_S2048x128_S256x128_512_0 inb_S2048x128_S256x128_1024_0 (by decide),
    ↓s 256 1024 inb_S2048x128_S256x128_256_0 inb_S2048x128_S256x128_1024_0 (by decide),
    ↓s 0 1024 inb_S2048x128_S256x128_0_0 inb_S2048x128_S256x128_1024_0 (by decide),
    ↓s 512 768 inb_S2048x128_S256x128_512_0 inb_S2048x128_S256x128_768_0 (by decide),
    ↓s 256 768 inb_S2048x128_S256x128_256_0 inb_S2048x128_S256x128_768_0 (by decide),
    ↓s 0 768 inb_S2048x128_S256x128_0_0 inb_S2048x128_S256x128_768_0 (by decide),
    ↓s 256 512 inb_S2048x128_S256x128_256_0 inb_S2048x128_S256x128_512_0 (by decide),
    ↓s 0 512 inb_S2048x128_S256x128_0_0 inb_S2048x128_S256x128_512_0 (by decide),
    ↓s 0 256 inb_S2048x128_S256x128_0_0 inb_S2048x128_S256x128_256_0 (by decide), e]
  refine View.canon_append_of_pieces (Val := Elt Ideal) (e := .f32) (qOut (yOut (iblk m c 0 t) (iblk m c 1 t) (iblk m c 2 t)) (k0_pay4 (F := Ideal))) [_] [_, _, _, _, _, _, _, _] ?_ y ?_
  swap
  · exact View.cover_of_tiledL (s := S2048x128) _ S256x128.size (by rfl) y
  simp only [List.forall_mem_cons, List.not_mem_nil, false_implies, implies_true, and_true]
  exact ⟨pieceQ _ _ _ _ 1792 _ _ _, pieceQ _ _ _ _ 1536 _ _ _, pieceQ _ _ _ _ 1280 _ _ _, pieceQ _ _ _ _ 1024 _ _ _, pieceQ _ _ _ _ 768 _ _ _, pieceQ _ _ _ _ 512 _ _ _, pieceQ _ _ _ _ 256 _ _ _, pieceQ _ _ _ _ 0 _ _ _⟩

/-- Its lanes where they are carried on. -/
theorem q_out_B (c : Dev nD) (t : Fin cfg0.N) (h0 : ¬t.val % 16 = 0) (y : S2048x128.Idx) : (outsAt0 m c t.val t.isLt).2.2 y
    = qOut (yOut (iblk m c 0 t) (iblk m c 1 t) (iblk m c 2 t)) (outsAt0 m c (t.val - 1) (Nat.lt_of_le_of_lt (Nat.sub_le _ _) t.isLt)).2.2 y := by
  rw [outsAt0_B m c t h0]
  generalize (outsAt0 m c (t.val - 1) (Nat.lt_of_le_of_lt (Nat.sub_le _ _) t.isLt)) = p
  obtain ⟨p0, p1, p2⟩ := p
  frame_out
  refine View.canon_apply_of_pieces (Val := Elt Ideal) (e := .f32) (qOut (yOut (iblk m c 0 t) (iblk m c 1 t) (iblk m c 2 t)) p2) _ ?_ y ?_
  swap
  · exact View.cover_of_tiledL (s := S2048x128) _ S256x128.size (by rfl) y
  simp only [List.forall_mem_cons, List.not_mem_nil, false_implies, implies_true, and_true]
  exact ⟨pieceQ _ _ _ _ 1792 _ _ _, pieceQ _ _ _ _ 1536 _ _ _, pieceQ _ _ _ _ 1280 _ _ _, pieceQ _ _ _ _ 1024 _ _ _, pieceQ _ _ _ _ 768 _ _ _, pieceQ _ _ _ _ 512 _ _ _, pieceQ _ _ _ _ 256 _ _ _, pieceQ _ _ _ _ 0 _ _ _⟩

theorem idx : ∀ t : Fin cfg0.N, win0_0.index t = ![t.val / 16, 0] ∧ win0_1.index t = ![1, 0, t.val % 16] ∧ win0_2.index t = ![t.val / 16, t.val % 16]
    ∧ win0_3.index t = ![0, t.val % 16] ∧ win0_4.index t = ![t.val / 16, t.val % 16] ∧ win0_5.index t = ![t.val / 16, t.val % 16] ∧ win0_6.index t = ![t.val / 16, 0] :=
  (by decide +kernel : ∀ t : Fin grid0.N, _)

theorem last : ∀ t : Fin cfg0.N, (cfg0.win 6).flush t = true → t.val % 16 = 15 :=
  (by decide +kernel : ∀ t : Fin grid0.N, _)

theorem tlt (t : Fin cfg0.N) : t.val < 64 := (by decide : cfg0.N = 64) ▸ t.isLt

theorem rd0 (c : Dev nD) (t : Fin cfg0.N) (r : Fin 2048) (k : Fin 4096) : iblk m c 0 t (ix2 r k)
    = m ((c : Thread nD τ).loc main_arg0) (ix2 ⟨2048 * (t.val / 16) + r.val, by have := tlt t; omega⟩ k) := by
  rw [← V_main_arg0 m c]
  blk_ext [iblk, idx t]

theorem rd1 (c : Dev nD) (t : Fin cfg0.N) (k : Fin 4096) (n : Fin 256) : iblk m c 1 t (ix3 0 k n)
    = m ((c : Thread nD τ).loc main_arg1) (ix3 1 k ⟨256 * (t.val % 16) + n.val, by have := tlt t; omega⟩) := by
  rw [← V_main_arg1 m c]
  blk_ext [iblk, idx t]

theorem rd2 (c : Dev nD) (t : Fin cfg0.N) (r : Fin 2048) (n : Fin 256) : iblk m c 2 t (ix2 r n)
    = m ((c : Thread nD τ).loc main_arg2) (ix2 ⟨2048 * (t.val / 16) + r.val, by have := tlt t; omega⟩ ⟨256 * (t.val % 16) + n.val, by have := tlt t; omega⟩) := by
  rw [← V_main_arg2 m c]
  blk_ext [iblk, idx t]

abbrev A (c : Dev nD) : S8192x4096.Idx → EReal := m ((c : Thread nD τ).loc main_arg0)
abbrev W (c : Dev nD) : S2x4096x4096.Idx → EReal := m ((c : Thread nD τ).loc main_arg1)
abbrev X (c : Dev nD) : S8192x4096.Idx → EReal := m ((c : Thread nD τ).loc main_arg2)
abbrev GN (c : Dev nD) : S2x4096.Idx → EReal := m ((c : Thread nD τ).loc main_arg3)

/-- The gain row the kernel takes. -/
theorem v2 (c : Dev nD) (k : Fin 4096) : V m c main_v2 (ix2 0 k) = GN m c (ix2 1 k) := by
  simp only [V, List.flatten_cons, List.flatten_nil, List.append_nil, List.cons_append, List.nil_append, TRef.binary, TRef.ternary, TRef.unary, TRef.nullary, TRef.toBuf, TRef.ofBuf, cast_eq]
  after_reads_simp
  pointwise

theorem rd3 (c : Dev nD) (t : Fin cfg0.N) (n : Fin 256) : iblk m c 3 t (ix2 0 n)
    = V m c main_v2 (ix2 0 ⟨256 * (t.val % 16) + n.val, by have := tlt t; omega⟩) := by
  blk_ext [iblk, idx t]

/-- The formulas: `y = x + merged @ w_out[1]`, its rows times the gain, and its squares summed by lane. -/
def specY (a : S8192x4096.Idx → EReal) (w : S2x4096x4096.Idx → EReal) (x : S8192x4096.Idx → EReal) : S8192x4096.Idx → EReal :=
  fun i => x i + one * ∑ k : Fin 4096, a (ix2 ⟨(i 0).val, (i 0).isLt⟩ k) * w (ix3 1 k ⟨(i 1).val, (i 1).isLt⟩)

def specH (a : S8192x4096.Idx → EReal) (w : S2x4096x4096.Idx → EReal) (x : S8192x4096.Idx → EReal) (g : S2x4096.Idx → EReal) : S8192x4096.Idx → EReal :=
  fun i => specY a w x i * g (ix2 1 ⟨(i 1).val, (i 1).isLt⟩)

/-- The squares of a row. -/
def sq (y : S8192x4096.Idx → EReal) (r : Fin 8192) (k : Fin 4096) : EReal := y (ix2 r k) * y (ix2 r k)

def specQ (a : S8192x4096.Idx → EReal) (w : S2x4096x4096.Idx → EReal) (x : S8192x4096.Idx → EReal) : S8192x128.Idx → EReal :=
  fun i => lane (sq (specY a w x) ⟨(i 0).val, (i 0).isLt⟩) ⟨(i 1).val, (i 1).isLt⟩

/-- A point's sum block is the formula there. -/
theorem y_eq (c : Dev nD) (t : Fin cfg0.N) (r : Fin 2048) (n : Fin 256) : yOut (iblk m c 0 t) (iblk m c 1 t) (iblk m c 2 t) (ix2 r n)
    = specY (A m c) (W m c) (X m c) (ix2 ⟨2048 * (t.val / 16) + r.val, by have := tlt t; omega⟩ ⟨256 * (t.val % 16) + n.val, by have := tlt t; omega⟩) := by
  unfold yOut specY
  exact congrArg₂ (· + ·) (rd2 m c t r n) (congrArg (one * ·) (Finset.sum_congr rfl fun k _ => congrArg₂ (· * ·) (rd0 m c t r k) (rd1 m c t k n)))

theorem final4 (c : Dev nD) : (dats m 0 c).arrAt 4 cfg0.N = specY (A m c) (W m c) (X m c) := by
  refine (dats m 0 c).arrAt_eq_of_covers 4 (specY _ _ _) (by decide +kernel) fun t hf y => ?_
  blk_simp
  rw [after0_4, y_out]
  have ht := tlt t
  have h0 : (y 0).val < 2048 := (y 0).isLt
  have h1 : (y 1).val < 256 := (y 1).isLt
  have e0 : (((win0_4.blk t).view.emb y) 0).val = 2048 * (t.val / 16) + (y 0).val := by
    blk_simp [idx t]
    omega
  have e1 : (((win0_4.blk t).view.emb y) 1).val = 256 * (t.val % 16) + (y 1).val := by
    blk_simp [idx t]
    omega
  have hy : y = ix2 (⟨(y 0).val, h0⟩ : Fin 2048) (⟨(y 1).val, h1⟩ : Fin 256) := funext fun a => match a with | ⟨0, _⟩ => rfl | ⟨1, _⟩ => rfl
  refine (congrArg _ hy).trans ((y_eq m c t _ _).trans (congrArg (specY _ _ _) (funext fun a => Fin.ext ?_)))
  match a with
  | ⟨0, _⟩ => exact e0.symm
  | ⟨1, _⟩ => exact e1.symm

theorem final5 (c : Dev nD) : (dats m 0 c).arrAt 5 cfg0.N = specH (A m c) (W m c) (X m c) (GN m c) := by
  refine (dats m 0 c).arrAt_eq_of_covers 5 (specH _ _ _ _) (by decide +kernel) fun t hf y => ?_
  blk_simp
  rw [after0_5, h_out]
  have ht := tlt t
  have h0 : (y 0).val < 2048 := (y 0).isLt
  have h1 : (y 1).val < 256 := (y 1).isLt
  have e0 : (((win0_5.blk t).view.emb y) 0).val = 2048 * (t.val / 16) + (y 0).val := by
    blk_simp [idx t]
    omega
  have e1 : (((win0_5.blk t).view.emb y) 1).val = 256 * (t.val % 16) + (y 1).val := by
    blk_simp [idx t]
    omega
  have hy : y = ix2 (⟨(y 0).val, h0⟩ : Fin 2048) (⟨(y 1).val, h1⟩ : Fin 256) := funext fun a => match a with | ⟨0, _⟩ => rfl | ⟨1, _⟩ => rfl
  unfold hOut specH
  refine congrArg₂ (· * ·) ((congrArg _ hy).trans ((y_eq m c t _ _).trans (congrArg (specY _ _ _) (funext fun a => Fin.ext ?_))))
    ((rd3 m c t _).trans ((v2 m c _).trans (congrArg (GN m c) (funext fun a => Fin.ext ?_))))
  · match a with
    | ⟨0, _⟩ => exact e0.symm
    | ⟨1, _⟩ => exact e1.symm
  · match a with
    | ⟨0, _⟩ => rfl
    | ⟨1, _⟩ => exact e1.symm

/-- The squares a point adds to a lane. -/
theorem step_eq (c : Dev nD) (t : Fin cfg0.N) (p : S2048x128.Idx → EReal) (r : Fin 2048) (l : Fin 128) :
    qOut (yOut (iblk m c 0 t) (iblk m c 1 t) (iblk m c 2 t)) p (ix2 r l)
      = p (ix2 r l) + step (sq (specY (A m c) (W m c) (X m c)) ⟨2048 * (t.val / 16) + r.val, by have := tlt t; omega⟩) l (t.val % 16) := by
  unfold qOut step sq
  rw [dif_pos (Nat.mod_lt _ (by decide))]
  have e1 := y_eq m c t r (lo l)
  have e2 := y_eq m c t r (hi l)
  exact congrArg (p (ix2 r l) + ·) (congrArg₂ (· + ·) (congrArg₂ (· * ·) e1 e1) (congrArg₂ (· * ·) e2 e2))

/-- The lanes after a point: the column blocks up to its own. -/
theorem acc (c : Dev nD) (r : Fin 2048) (l : Fin 128) : ∀ n (hn : n < cfg0.N), (outsAt0 m c n hn).2.2 (ix2 r l)
    = upTo (sq (specY (A m c) (W m c) (X m c)) ⟨2048 * (n / 16) + r.val, by have := tlt ⟨n, hn⟩; have : n < 64 := this; omega⟩) l (n % 16 + 1) := by
  intro n
  induction n with
  | zero =>
    intro hn
    refine (q_out_A m c ⟨0, hn⟩ rfl _).trans ((step_eq m c ⟨0, hn⟩ _ r l).trans ?_)
    rw [pay0, zero_add]
    exact (upTo_one _ l).symm
  | succ n ih =>
    intro hn
    by_cases h0 : (n + 1) % 16 = 0
    · refine (q_out_A m c ⟨n + 1, hn⟩ h0 _).trans ((step_eq m c ⟨n + 1, hn⟩ _ r l).trans ?_)
      rw [pay0, zero_add]
      show step _ l ((n + 1) % 16) = upTo _ l ((n + 1) % 16 + 1)
      rw [h0]
      exact (upTo_one _ l).symm
    · refine (q_out_B m c ⟨n + 1, hn⟩ h0 _).trans ((step_eq m c ⟨n + 1, hn⟩ _ r l).trans ?_)
      have e : (n + 1) % 16 = n % 16 + 1 := by omega
      have e' : (n + 1) / 16 = n / 16 := by omega
      refine (congrArg (· + _) (ih (Nat.lt_of_succ_lt hn))).trans ?_
      show upTo _ l (n % 16 + 1) + step _ l ((n + 1) % 16) = upTo _ l ((n + 1) % 16 + 1)
      rw [upTo_succ _ _ ((n + 1) % 16)]
      refine congrArg (· + _) ?_
      rw [e]
      refine congrArg (fun z => upTo (sq _ z) l (n % 16 + 1)) (Fin.ext ?_)
      show 2048 * (n / 16) + r.val = 2048 * ((n + 1) / 16) + r.val
      rw [e']

theorem final6 (c : Dev nD) : (dats m 0 c).arrAt 6 cfg0.N = specQ (A m c) (W m c) (X m c) := by
  refine (dats m 0 c).arrAt_eq_of_covers 6 (specQ _ _ _) (by decide +kernel) fun t hf y => ?_
  have h15 := last t hf
  blk_simp
  rw [after0_6]
  have ht := tlt t
  have h0 : (y 0).val < 2048 := (y 0).isLt
  have h1 : (y 1).val < 128 := (y 1).isLt
  have e0 : (((win0_6.blk t).view.emb y) 0).val = 2048 * (t.val / 16) + (y 0).val := by
    blk_simp [idx t]
    omega
  have e1 : (((win0_6.blk t).view.emb y) 1).val = (y 1).val := by
    blk_simp [idx t]
  have hy : y = ix2 (⟨(y 0).val, h0⟩ : Fin 2048) (⟨(y 1).val, h1⟩ : Fin 128) := funext fun a => match a with | ⟨0, _⟩ => rfl | ⟨1, _⟩ => rfl
  refine (congrArg _ hy).trans ((acc m c _ _ t.val t.isLt).trans ?_)
  rw [h15]
  refine (upTo_all _ _).trans ?_
  unfold specQ
  exact congrArg₂ (fun a b => lane (sq (specY (A m c) (W m c) (X m c)) a) b) (Fin.ext e0.symm) (Fin.ext e1.symm)

end Cert.Kernel7Ideal.Out
-- ==== Proof.Ref7.lean ====
/-
  The plain output projection of the mixer with its residual sum, its gained rows and its sums of squares are the
  formulas of the kernel.
-/
module

public import proofs.«01_k».proof.Proof.Mm7
public import proofs.«01_k».proof.Proof.Gen.Reference7Ideal.Read

@[expose] public section

set_option maxRecDepth 16384
set_option maxHeartbeats 1000000

noncomputable section

namespace Cert.Reference7Ideal.Out

open Cert.Rms Cert.Reference7Ideal Cert.Reference7Ideal.Gen Cert.Reference7Ideal.Read Idealize.ShloMosaic Idealize.ShloMosaic.TcCoe Idealize.SL.Sem

theorem ref_y (a : S8192x4096.Idx → EReal) (w : S2x4096x4096.Idx → EReal) (x : S8192x4096.Idx → EReal) :
    val_main_v4 (F := Ideal) a w x = Cert.Kernel7Ideal.Out.specY a w x := by
  funext i
  have h0 : (i 0).val < 8192 := (i 0).isLt
  have h1 : (i 1).val < 4096 := (i 1).isLt
  rw [val_main_v4_apply, val_main_v3_apply]
  unfold Cert.Kernel7Ideal.Out.specY
  refine congrArg₂ (· + ·) rfl (Eq.trans (Finset.sum_congr rfl fun k _ => congrArg₂ (· * ·) ?_ ?_)
    ((congrArg (· * _) (show Cert.Kernel7Ideal.Out.one = (1 : EReal) from one_bits)).trans (one_mul _)).symm)
  · rw [val_main_v0_apply]
    exact congrArg a (funext fun b => match b with | ⟨0, _⟩ => rfl | ⟨1, _⟩ => rfl)
  · rw [val_main_v2_apply, val_main_v1_apply]
    have hk := k.isLt
    refine congrArg w (funext fun b => Fin.ext ?_)
    match b with
    | ⟨0, _⟩ => rfl
    | ⟨1, _⟩ => show (k.val * 4096 + (i 1).val) / 4096 % 4096 = k.val; omega
    | ⟨2, _⟩ => show (k.val * 4096 + (i 1).val) % 4096 = (i 1).val; omega

theorem ref_h (a : S8192x4096.Idx → EReal) (w : S2x4096x4096.Idx → EReal) (x : S8192x4096.Idx → EReal) (g : S2x4096.Idx → EReal) :
    val_main_v10 (F := Ideal) a w x g = Cert.Kernel7Ideal.Out.specH a w x g := by
  funext i
  have h1 : (i 1).val < 4096 := (i 1).isLt
  rw [val_main_v10_apply, val_main_v9_apply, ref_y, val_main_v8_apply, val_main_v7_apply, val_main_v6_apply, val_main_v5_apply]
  unfold Cert.Kernel7Ideal.Out.specH
  refine congrArg (Cert.Kernel7Ideal.Out.specY a w x i * ·) (congrArg g (funext fun b => Fin.ext ?_))
  match b with
  | ⟨0, _⟩ => rfl
  | ⟨1, _⟩ => show (i 1).val % 4096 = (i 1).val; omega

theorem ref_q (a : S8192x4096.Idx → EReal) (w : S2x4096x4096.Idx → EReal) (x : S8192x4096.Idx → EReal) :
    val_main_v13 (F := Ideal) a w x = Cert.Kernel7Ideal.Out.specQ a w x := by
  funext i
  have h0 : (i 0).val < 8192 := (i 0).isLt
  have h1 : (i 1).val < 128 := (i 1).isLt
  rw [val_main_v13_apply]
  unfold Cert.Kernel7Ideal.Out.specQ lane
  refine (congrArg (· + _) (show val_main_cst (F := Ideal) (Shape.Idx.first h_S_) = (0 : EReal) from zero_bits)).trans ((zero_add _).trans ?_)
  refine Finset.sum_congr rfl fun k _ => ?_
  have hk := k.isLt
  rw [val_main_v12_apply, val_main_v11_apply, ref_y]
  unfold Cert.Kernel7Ideal.Out.sq
  have e : idx_main_v12 (idx_main_v13 i k) = ix2 (⟨(i 0).val, h0⟩ : Fin 8192) (⟨128 * k.val + (i 1).val, by omega⟩ : Fin 4096) := funext fun b => Fin.ext (match b with
    | ⟨0, _⟩ => show (((i 0).val * 32 + k.val) * 128 + (i 1).val) / 4096 = (i 0).val by omega
    | ⟨1, _⟩ => show (((i 0).val * 32 + k.val) * 128 + (i 1).val) % 4096 = 128 * k.val + (i 1).val by omega)
  rw [e]
  rfl

end Cert.Reference7Ideal.Out
-- ==== Proof.Glu8.lean ====
/-
  The state-space branch's gated linear unit, `za * sigmoid(zb)` of the two halves of `y @ w_glu[1]`, as one formula of
  the result's entry; the kernel's result array is it.
-/
module

public import proofs.«01_k».proof.Proof.Gen.Kernel8Ideal.Value
public import Idealize.ShloMosaic.Lib.Pipeline.ValueKit
public import Idealize.ShloMosaic.Lib.Pointwise

@[expose] public section

set_option maxRecDepth 16384
set_option maxHeartbeats 1000000

noncomputable section

namespace Cert.Kernel8Ideal.Out

open Cert.Kernel8Ideal Cert.Kernel8Ideal.Gen Idealize.ShloMosaic Idealize.ShloMosaic.TcCoe Idealize.SL.Sem

/-- One half, gated by the other. -/
def gated (p q : EReal) : EReal := p * Ideal.logistic q

/-- One sub-block of rows, entry by entry. -/
theorem pay (v0 v3 : S1x1024x256.Idx → EReal) (a : S256x1024.Idx → EReal) (r n : Fin 256) :
    k0_pay1 (F := Ideal) (k0_pay2 (F := Ideal) v0) (k0_pay3 (F := Ideal) v3) a (ix2 r n)
      = gated (∑ k : Fin 1024, a (ix2 r k) * v0 (ix3 0 k n)) (∑ k : Fin 1024, a (ix2 r k) * v3 (ix3 0 k n)) := by
  unfold gated
  pointwise [k0_pay1, k0_pay2, k0_pay3]

/-- What a grid point leaves, as a function of its blocks. -/
def blockOut (x0 : S2048x1024.Idx → EReal) (x1 x2 : S1x1024x256.Idx → EReal) : S2048x256.Idx → EReal :=
  fun i => gated (∑ k : Fin 1024, x0 (ix2 ⟨(i 0).val, (i 0).isLt⟩ k) * x1 (ix3 0 k ⟨(i 1).val, (i 1).isLt⟩))
    (∑ k : Fin 1024, x0 (ix2 ⟨(i 0).val, (i 0).isLt⟩ k) * x2 (ix3 0 k ⟨(i 1).val, (i 1).isLt⟩))

/-- A sub-block of rows starting at row `o` agrees with it. -/
theorem piece (x0 : S2048x1024.Idx → EReal) (x1 x2 : S1x1024x256.Idx → EReal) (o : ℕ)
    (h : ∀ a, (![o, 0] : Fin 2 → ℕ) a + S256x256.size a ≤ S2048x256.size a)
    (h' : ∀ a, (![o, 0] : Fin 2 → ℕ) a + S256x1024.size a ≤ S2048x1024.size a) (x : S256x256.Idx) :
    k0_pay1 (F := Ideal) (k0_pay2 (F := Ideal) (View.ld x1 r0_0)) (k0_pay3 (F := Ideal) (View.ld x2 r0_0))
        (View.ld x0 (Rect.unit (s := S2048x1024) ![o, 0] S256x1024.size h')) x
      = blockOut x0 x1 x2 ((Rect.unit (s := S2048x256) ![o, 0] S256x256.size h).emb x) := by
  have h0 : (x 0).val < 256 := (x 0).isLt
  have h1 : (x 1).val < 256 := (x 1).isLt
  have hx : x = ix2 (⟨(x 0).val, h0⟩ : Fin 256) (⟨(x 1).val, h1⟩ : Fin 256) := funext fun a => match a with | ⟨0, _⟩ => rfl | ⟨1, _⟩ => rfl
  refine (congrArg _ hx).trans ((pay _ _ _ _ _).trans ?_)
  unfold blockOut
  refine congrArg₂ gated (Finset.sum_congr rfl fun k _ => congrArg₂ (· * ·) (congrArg x0 (funext fun a => Fin.ext ?_)) (congrArg x1 (funext fun a => Fin.ext ?_)))
    (Finset.sum_congr rfl fun k _ => congrArg₂ (· * ·) (congrArg x0 (funext fun a => Fin.ext ?_)) (congrArg x2 (funext fun a => Fin.ext ?_)))
  · match a with
    | ⟨0, _⟩ => rfl
    | ⟨1, _⟩ => show 0 + 1 * k.val = k.val; omega
  · match a with
    | ⟨0, _⟩ => rfl
    | ⟨1, _⟩ => show 0 + 1 * k.val = k.val; omega
    | ⟨2, _⟩ => rfl
  · match a with
    | ⟨0, _⟩ => rfl
    | ⟨1, _⟩ => show 0 + 1 * k.val = k.val; omega
  · match a with
    | ⟨0, _⟩ => rfl
    | ⟨1, _⟩ => show 0 + 1 * k.val = k.val; omega
    | ⟨2, _⟩ => rfl

theorem out_eq (x0 : S2048x1024.Idx → EReal) (x1 x2 : S1x1024x256.Idx → EReal) (y : S2048x256.Idx) :
    out0_3 (F := Ideal) x0 x1 x2 y = blockOut x0 x1 x2 y := by
  unfold out0_3
  refine View.canon_apply_of_pieces (Val := Elt Ideal) (e := .bf16) (blockOut x0 x1 x2) _ ?_ y (cover0_3 _ _ _ _ _ _ _ _ y)
  simp only [List.forall_mem_cons, List.not_mem_nil, false_implies, implies_true, and_true]
  exact ⟨piece x0 x1 x2 1792 _ _, piece x0 x1 x2 1536 _ _, piece x0 x1 x2 1280 _ _, piece x0 x1 x2 1024 _ _,
    piece x0 x1 x2 768 _ _, piece x0 x1 x2 512 _ _, piece x0 x1 x2 256 _ _, piece x0 x1 x2 0 _ _⟩

variable (m : (ℓ : Loc nD τ sig) → Buf (Elt Ideal) ℓ)

theorem idx : ∀ t : Fin cfg0.N, win0_0.index t = ![t.val / 4, 0] ∧ win0_1.index t = ![1, 0, t.val % 4] ∧ win0_2.index t = ![1, 0, 4 + t.val % 4]
    ∧ win0_3.index t = ![t.val / 4, t.val % 4] :=
  (by decide +kernel : ∀ t : Fin grid0.N, _)

theorem tlt (t : Fin cfg0.N) : t.val < 16 := (by decide : cfg0.N = 16) ▸ t.isLt

abbrev Y (c : Dev nD) : S8192x1024.Idx → EReal := m ((c : Thread nD τ).loc main_arg0)
abbrev W (c : Dev nD) : S2x1024x2048.Idx → EReal := m ((c : Thread nD τ).loc main_arg1)

theorem rd0 (c : Dev nD) (t : Fin cfg0.N) (r : Fin 2048) (k : Fin 1024) : iblk m c 0 t (ix2 r k) = Y m c (ix2 ⟨2048 * (t.val / 4) + r.val, by have := tlt t; omega⟩ k) := by
  unfold Y
  rw [← V_main_arg0 m c]
  blk_ext [iblk, idx t]

theorem rd1 (c : Dev nD) (t : Fin cfg0.N) (k : Fin 1024) (n : Fin 256) : iblk m c 1 t (ix3 0 k n)
    = W m c (ix3 1 k ⟨256 * (t.val % 4) + n.val, by have := tlt t; omega⟩) := by
  unfold W
  rw [← V_main_arg1 m c]
  blk_ext [iblk, idx t]

theorem rd2 (c : Dev nD) (t : Fin cfg0.N) (k : Fin 1024) (n : Fin 256) : iblk m c 2 t (ix3 0 k n)
    = W m c (ix3 1 k ⟨1024 + (256 * (t.val % 4) + n.val), by have := tlt t; omega⟩) := by
  unfold W
  rw [← V_main_arg1 m c]
  blk_ext [iblk, idx t]

/-- One entry of the unit. -/
def entry (y : S8192x1024.Idx → EReal) (w : S2x1024x2048.Idx → EReal) (i : Fin 8192) (n : Fin 1024) : EReal :=
  gated (∑ k : Fin 1024, y (ix2 i k) * w (ix3 1 k ⟨n.val, by omega⟩)) (∑ k : Fin 1024, y (ix2 i k) * w (ix3 1 k ⟨1024 + n.val, by omega⟩))

/-- The formula. -/
def spec (y : S8192x1024.Idx → EReal) (w : S2x1024x2048.Idx → EReal) : S8192x1024.Idx → EReal :=
  fun i => entry y w ⟨(i 0).val, (i 0).isLt⟩ ⟨(i 1).val, (i 1).isLt⟩

theorem block_eq (c : Dev nD) (t : Fin cfg0.N) (r : Fin 2048) (n : Fin 256) (hr : 2048 * (t.val / 4) + r.val < 8192) (hn : 256 * (t.val % 4) + n.val < 1024) :
    blockOut (iblk m c 0 t) (iblk m c 1 t) (iblk m c 2 t) (ix2 r n)
      = entry (Y m c) (W m c) ⟨2048 * (t.val / 4) + r.val, hr⟩ ⟨256 * (t.val % 4) + n.val, hn⟩ := by
  unfold blockOut entry
  exact congrArg₂ gated (Finset.sum_congr rfl fun k _ => congrArg₂ (· * ·) (rd0 m c t r k) (rd1 m c t k n))
    (Finset.sum_congr rfl fun k _ => congrArg₂ (· * ·) (rd0 m c t r k) (rd2 m c t k n))

theorem final_eq (c : Dev nD) : (dats m 0 c).arrAt 3 cfg0.N = spec (Y m c) (W m c) := by
  refine (dats m 0 c).arrAt_eq_of_covers 3 (spec _ _) (by decide +kernel) fun t hf y => ?_
  blk_simp
  rw [after0_3, out_eq]
  have ht := tlt t
  have h0 : (y 0).val < 2048 := (y 0).isLt
  have h1 : (y 1).val < 256 := (y 1).isLt
  have e0 : (((win0_3.blk t).view.emb y) 0).val = 2048 * (t.val / 4) + (y 0).val := by
    blk_simp [idx t]
    omega
  have e1 : (((win0_3.blk t).view.emb y) 1).val = 256 * (t.val % 4) + (y 1).val := by
    blk_simp [idx t]
    omega
  have hy : y = ix2 (⟨(y 0).val, h0⟩ : Fin 2048) (⟨(y 1).val, h1⟩ : Fin 256) := funext fun a => match a with | ⟨0, _⟩ => rfl | ⟨1, _⟩ => rfl
  refine (congrArg _ hy).trans ((block_eq m c t _ _ (by show 2048 * (t.val / 4) + (y 0).val < 8192; omega) (by show 256 * (t.val % 4) + (y 1).val < 1024; omega)).trans ?_)
  unfold spec
  exact congrArg₂ (entry _ _) (Fin.ext e0.symm) (Fin.ext e1.symm)

end Cert.Kernel8Ideal.Out
-- ==== Proof.Ref8.lean ====
/-
  The plain gated linear unit is the formula of its kernel.
-/
module

public import proofs.«01_k».proof.Proof.Rms
public import proofs.«01_k».proof.Proof.Glu8
public import proofs.«01_k».proof.Proof.Gen.Reference8Ideal.Read

@[expose] public section

set_option maxRecDepth 16384
set_option maxHeartbeats 1000000

noncomputable section

namespace Cert.Reference8Ideal.Out

open Cert.Rms Cert.Reference8Ideal Cert.Reference8Ideal.Gen Cert.Reference8Ideal.Read Idealize.ShloMosaic Idealize.ShloMosaic.TcCoe Idealize.SL.Sem

/-- The product, entry by entry. -/
theorem dot_eq (y : S8192x1024.Idx → EReal) (w : S2x1024x2048.Idx → EReal) (j : S8192x2048.Idx) (i : Fin 8192) (n : Fin 2048) (h0 : (j 0).val = i.val) (h1 : (j 1).val = n.val) :
    val_main_v2 (F := Ideal) y w j = ∑ k : Fin 1024, y (ix2 i k) * w (ix3 1 k n) := by
  have hn := n.isLt
  rw [val_main_v2_apply]
  refine Finset.sum_congr rfl fun k _ => congrArg₂ (· * ·) (congrArg y (funext fun b => Fin.ext ?_)) ?_
  · match b with
    | ⟨0, _⟩ => exact h0
    | ⟨1, _⟩ => rfl
  · rw [val_main_v1_apply, val_main_v0_apply]
    have hk := k.isLt
    refine congrArg w (funext fun b => Fin.ext ?_)
    match b with
    | ⟨0, _⟩ => rfl
    | ⟨1, _⟩ => show (k.val * 2048 + (j 1).val) / 2048 % 1024 = k.val; omega
    | ⟨2, _⟩ => show (k.val * 2048 + (j 1).val) % 2048 = n.val; omega

theorem ref_eq (y : S8192x1024.Idx → EReal) (w : S2x1024x2048.Idx → EReal) : val_main_v12 (F := Ideal) y w = Cert.Kernel8Ideal.Out.spec y w := by
  funext i
  have h0 : (i 0).val < 8192 := (i 0).isLt
  have h1 : (i 1).val < 1024 := (i 1).isLt
  rw [val_main_v12_apply, val_main_v11_apply, val_main_v10_apply, val_main_v9_apply, val_main_cst_0_apply, val_main_v8_apply, val_main_v7_apply, val_main_cst_apply,
    val_main_v6_apply, val_main_v5_apply, val_main_v4_apply, val_main_v3_apply,
    dot_eq y w (idx_main_v3 i) ⟨(i 0).val, h0⟩ ⟨(i 1).val, by omega⟩ rfl rfl, dot_eq y w (idx_main_v4 i) ⟨(i 0).val, h0⟩ ⟨1024 + (i 1).val, by omega⟩ rfl rfl]
  unfold Cert.Kernel8Ideal.Out.spec Cert.Kernel8Ideal.Out.entry Cert.Kernel8Ideal.Out.gated
  refine congrArg (_ * ·) ?_
  show Ideal.div (Ideal.ofBits FTy.f32 0x3F800000#32) (Ideal.ofBits FTy.f32 0x3F800000#32 + _) = _
  rw [one_bits]
  rfl

end Cert.Reference8Ideal.Out
-- ==== Proof.lean ====
/-
  The claims, each from the run of its program.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.RefB
public import proofs.«01_k».proof.Proof.Finite
public import proofs.«01_k».proof.Proof.Glu2
public import proofs.«01_k».proof.Proof.Ref2
public import proofs.«01_k».proof.Proof.Mm3
public import proofs.«01_k».proof.Proof.Ref3
public import proofs.«01_k».proof.Proof.Mm4
public import proofs.«01_k».proof.Proof.Ref4
public import proofs.«01_k».proof.Proof.Wi5
public import proofs.«01_k».proof.Proof.Ref5
public import proofs.«01_k».proof.Proof.Merge6
public import proofs.«01_k».proof.Proof.Ref6
public import proofs.«01_k».proof.Proof.Mm7
public import proofs.«01_k».proof.Proof.Ref7
public import proofs.«01_k».proof.Proof.Glu8
public import proofs.«01_k».proof.Proof.Ref8
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Claim
public import Idealize.ShloMosaic.Adequacy
public import Idealize.ShloMosaic.Init

@[expose] public section

noncomputable section

namespace Cert.Proof

open Idealize.ShloMosaic Idealize.SL.Sem

theorem ref_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The attention kernel and the plain attention end with equal results. -/
theorem attention : Cert.algebraic_KernelIdeal_ReferenceIdeal_pre_finite := by
  intro m g m' g' hpre hm
  refine ⟨fun c => Spec.att (Cert.KernelIdeal.Att.X m c) (Cert.KernelIdeal.Att.REL m c) (Cert.KernelIdeal.Att.QG m c) (Cert.KernelIdeal.Att.KG m c) (Cert.KernelIdeal.Att.SK m c), ?_, ?_⟩
  · refine (θ_run Cert.KernelIdeal.defs _ _).mono (fun r h c => ⟨?_, (h c).2⟩) (Cert.KernelIdeal.Value.run_blocks (F := Ideal) m g)
    obtain ⟨hx, hr, hq, hk, hs⟩ := Cert.Pre_finite.Read.read _ _ _ _ _ (hpre c)
    exact (h c).1.trans (Cert.KernelIdeal.Att.final_eq m c hx hq hk hr hs)
  · refine (θ_run Cert.ReferenceIdeal.defs _ _).mono (fun r h c => ⟨?_, (h c).2⟩) (Cert.ReferenceIdeal.Value.run (F := Ideal) m' g')
    obtain ⟨h0, h1, h2, h3, h4⟩ := hm c
    rw [(h c).1, Cert.ReferenceIdeal.Read.val_main_v135_eq, h0, h1, h2, h3, h4]
    exact Cert.ReferenceIdeal.Att.ref_eq _ _ _ _ _

theorem ref_frame2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The feed-forward activation and the plain gated product of the normalised rows end with equal results. -/
theorem algebraic2 : Cert.algebraic_Kernel2Ideal_Reference2Ideal := by
  intro m g m' g' _ hm
  refine ⟨fun c => Cert.Kernel2Ideal.Out.spec (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · exact (θ_run Cert.Kernel2Ideal.defs _ _).mono (fun r h c => ⟨(h c).1.trans (Cert.Kernel2Ideal.Out.final_eq m c), (h c).2⟩)
      (Cert.Kernel2Ideal.Value.run_blocks (F := Ideal) m g)
  · refine (θ_run Cert.Reference2Ideal.defs _ _).mono (fun r h c => ⟨?_, (h c).2⟩) (Cert.Reference2Ideal.Value.run (F := Ideal) m' g')
    obtain ⟨h0, h1, h2⟩ := hm c
    rw [(h c).1, Cert.Reference2Ideal.Read.val_main_v22_eq, h0, h1, h2]
    exact Cert.Reference2Ideal.Out.ref_eq _ _ _

theorem ref_frame3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The feed-forward output call and the plain residual sum end with equal results. -/
theorem algebraic3 : Cert.algebraic_Kernel3Ideal_Reference3Ideal := by
  intro m g m' g' _ hm
  refine ⟨fun c => Cert.Kernel3Ideal.Out.spec (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · exact (θ_run Cert.Kernel3Ideal.defs _ _).mono (fun r h c => ⟨(h c).1.trans (Cert.Kernel3Ideal.Out.final_eq m c), (h c).2⟩)
      (Cert.Kernel3Ideal.Value.run_blocks (F := Ideal) m g)
  · refine (θ_run Cert.Reference3Ideal.defs _ _).mono (fun r h c => ⟨?_, (h c).2⟩) (Cert.Reference3Ideal.Value.run (F := Ideal) m' g')
    obtain ⟨h0, h1, h2⟩ := hm c
    rw [(h c).1, Cert.Reference3Ideal.Read.val_main_v6_eq, h0, h1, h2]
    exact Cert.Reference3Ideal.Out.ref_eq _ _ _

theorem ref_frame4 : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- The feed-forward output call with the next norm's arrays, and the plain ones, end with equal results. -/
theorem algebraic4 : Cert.algebraic_Kernel4Ideal_Reference4Ideal := by
  intro m g m' g' _ hm
  refine ⟨fun c => Cert.Kernel4Ideal.Out.specY (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Kernel4Ideal.Out.specH (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Kernel4Ideal.Out.specQ (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  · exact (θ_run Cert.Kernel4Ideal.defs _ _).mono (fun r h c => ⟨(h c).1.trans (Cert.Kernel4Ideal.Out.final4 m c), (h c).2.1.trans (Cert.Kernel4Ideal.Out.final5 m c),
      (h c).2.2.1.trans (Cert.Kernel4Ideal.Out.final6 m c), (h c).2.2.2⟩)
      (Cert.Kernel4Ideal.Value.run_blocks (F := Ideal) m g)
  · refine (θ_run Cert.Reference4Ideal.defs _ _).mono (fun r h c => ⟨?_, ?_, ?_, (h c).2.2.2⟩) (Cert.Reference4Ideal.Value.run (F := Ideal) m' g')
    · obtain ⟨h0, h1, h2, h3⟩ := hm c
      rw [(h c).1, Cert.Reference4Ideal.Read.val_main_v6_eq, h0, h1, h2]
      exact Cert.Reference4Ideal.Out.ref_y _ _ _
    · obtain ⟨h0, h1, h2, h3⟩ := hm c
      rw [(h c).2.1, Cert.Reference4Ideal.Read.val_main_v12_eq, h0, h1, h2, h3]
      exact Cert.Reference4Ideal.Out.ref_h _ _ _ _
    · obtain ⟨h0, h1, h2, h3⟩ := hm c
      rw [(h c).2.2.1, Cert.Reference4Ideal.Read.val_main_v15_eq, h0, h1, h2]
      exact Cert.Reference4Ideal.Out.ref_q _ _ _

theorem ref_frame5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The input projection and the plain product of the normalised rows end with equal results. -/
theorem algebraic5 : Cert.algebraic_Kernel5Ideal_Reference5Ideal := by
  intro m g m' g' _ hm
  refine ⟨fun c => Cert.Kernel5Ideal.Out.spec (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · exact (θ_run Cert.Kernel5Ideal.defs _ _).mono (fun r h c => ⟨(h c).1.trans (Cert.Kernel5Ideal.Out.final_eq m c), (h c).2⟩)
      (Cert.Kernel5Ideal.Value.run_blocks (F := Ideal) m g)
  · refine (θ_run Cert.Reference5Ideal.defs _ _).mono (fun r h c => ⟨?_, (h c).2⟩) (Cert.Reference5Ideal.Value.run (F := Ideal) m' g')
    obtain ⟨h0, h1, h2⟩ := hm c
    rw [(h c).1, Cert.Reference5Ideal.Read.val_main_v17_eq, h0, h1, h2]
    exact Cert.Reference5Ideal.Out.ref_eq _ _ _

theorem ref_frame6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The merge of the branches and the plain gated sum of the three products end with equal results. -/
theorem algebraic6 : Cert.algebraic_Kernel6Ideal_Reference6Ideal := by
  intro m g m' g' _ hm
  refine ⟨fun c => Cert.Kernel6Ideal.Out.spec (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)), ?_, ?_⟩
  · exact (θ_run Cert.Kernel6Ideal.defs _ _).mono (fun r h c => ⟨(h c).1.trans (Cert.Kernel6Ideal.Out.final_eq m c), (h c).2⟩)
      (Cert.Kernel6Ideal.Value.run_blocks (F := Ideal) m g)
  · refine (θ_run Cert.Reference6Ideal.defs _ _).mono (fun r h c => ⟨?_, (h c).2⟩) (Cert.Reference6Ideal.Value.run (F := Ideal) m' g')
    obtain ⟨h0, h1, h2, h3, h4⟩ := hm c
    rw [(h c).1, Cert.Reference6Ideal.Read.val_main_v30_eq, h0, h1, h2, h3, h4]
    exact Cert.Reference6Ideal.Out.ref_eq _ _ _ _ _

theorem ref_frame7 : Cert.quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)

/-- The mixer's output call with the next norm's arrays, and the plain ones, end with equal results. -/
theorem algebraic7 : Cert.algebraic_Kernel7Ideal_Reference7Ideal := by
  intro m g m' g' _ hm
  refine ⟨fun c => Cert.Kernel7Ideal.Out.specY (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    fun c => Cert.Kernel7Ideal.Out.specH (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    fun c => Cert.Kernel7Ideal.Out.specQ (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · exact (θ_run Cert.Kernel7Ideal.defs _ _).mono (fun r h c => ⟨(h c).1.trans (Cert.Kernel7Ideal.Out.final4 m c), (h c).2.1.trans (Cert.Kernel7Ideal.Out.final5 m c),
      (h c).2.2.1.trans (Cert.Kernel7Ideal.Out.final6 m c), (h c).2.2.2⟩)
      (Cert.Kernel7Ideal.Value.run_blocks (F := Ideal) m g)
  · refine (θ_run Cert.Reference7Ideal.defs _ _).mono (fun r h c => ⟨?_, ?_, ?_, (h c).2.2.2⟩) (Cert.Reference7Ideal.Value.run (F := Ideal) m' g')
    · obtain ⟨h0, h1, h2, h3⟩ := hm c
      rw [(h c).1, Cert.Reference7Ideal.Read.val_main_v4_eq, h0, h1, h2]
      exact Cert.Reference7Ideal.Out.ref_y _ _ _
    · obtain ⟨h0, h1, h2, h3⟩ := hm c
      rw [(h c).2.1, Cert.Reference7Ideal.Read.val_main_v10_eq, h0, h1, h2, h3]
      exact Cert.Reference7Ideal.Out.ref_h _ _ _ _
    · obtain ⟨h0, h1, h2, h3⟩ := hm c
      rw [(h c).2.2.1, Cert.Reference7Ideal.Read.val_main_v13_eq, h0, h1, h2]
      exact Cert.Reference7Ideal.Out.ref_q _ _ _

theorem ref_frame8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The gated linear unit and the plain one end with equal results. -/
theorem algebraic8 : Cert.algebraic_Kernel8Ideal_Reference8Ideal := by
  intro m g m' g' _ hm
  refine ⟨fun c => Cert.Kernel8Ideal.Out.spec (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run Cert.Kernel8Ideal.defs _ _).mono (fun r h c => ⟨(h c).1.trans (Cert.Kernel8Ideal.Out.final_eq m c), (h c).2⟩)
      (Cert.Kernel8Ideal.Value.run_blocks (F := Ideal) m g)
  · refine (θ_run Cert.Reference8Ideal.defs _ _).mono (fun r h c => ⟨?_, (h c).2⟩) (Cert.Reference8Ideal.Value.run (F := Ideal) m' g')
    obtain ⟨h0, h1⟩ := hm c
    rw [(h c).1, Cert.Reference8Ideal.Read.val_main_v12_eq, h0, h1]
    exact Cert.Reference8Ideal.Out.ref_eq _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Read.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial,
  fun m ρ _ => Cert.Kernel2.Gen.frame m ρ, fun m ρ _ => Cert.Kernel2Ideal.Gen.frame m ρ, ref_frame2,
  fun m ρ _ => Cert.Kernel3.Gen.frame m ρ, fun m ρ _ => Cert.Kernel3Ideal.Gen.frame m ρ, ref_frame3,
  fun m ρ _ => Cert.Kernel4.Gen.frame m ρ, fun m ρ _ => Cert.Kernel4Ideal.Gen.frame m ρ, ref_frame4,
  fun m ρ _ => Cert.Kernel5.Gen.frame m ρ, fun m ρ _ => Cert.Kernel5Ideal.Gen.frame m ρ, ref_frame5,
  fun m ρ _ => Cert.Kernel6.Gen.frame m ρ, fun m ρ _ => Cert.Kernel6Ideal.Gen.frame m ρ, ref_frame6,
  fun m ρ _ => Cert.Kernel7.Gen.frame m ρ, fun m ρ _ => Cert.Kernel7Ideal.Gen.frame m ρ, ref_frame7,
  fun m ρ _ => Cert.Kernel8.Gen.frame m ρ, fun m ρ _ => Cert.Kernel8Ideal.Gen.frame m ρ, ref_frame8,
  ⟨IdealRules.named_const.statement Cert.KernelIdeal.κ "qscale" .f32 0x3E38AA3B#32 _ rfl, IdealRules.named_const.statement Cert.KernelIdeal.κ "log2e" .f32 0x3FB8AA3B#32 _ rfl⟩,
  attention,
  trivial, algebraic2,
  trivial, algebraic3,
  trivial, algebraic4,
  trivial, algebraic5,
  trivial, algebraic6,
  trivial, algebraic7,
  trivial, algebraic8⟩

end Cert.Proof

end
